-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.shift_out.By16TwiceStatement Cert.KernelIdeal.S1x8x128

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.shift_out.By16TwiceStatement Cert.Kernel3Ideal.S8x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v207) = v0 c
          ∧ r.2.mem ((c.tc : Thread Cert.Reference3Ideal.nD Cert.Reference3Ideal.τ).loc Cert.Reference3Ideal.main_v210) = v1 c
          ∧ r.2.mem ((c.tc : Thread Cert.Reference3Ideal.nD Cert.Reference3Ideal.τ).loc Cert.Reference3Ideal.main_v213) = v2 c
          ∧ r.2.mem ((c.tc : Thread Cert.Reference3Ideal.nD Cert.Reference3Ideal.τ).loc Cert.Reference3Ideal.main_v216) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x1024 : Shape := ⟨3, ![8, 2048, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S1x3x512 : Shape := ⟨3, ![1, 3, 512]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S8x64x64 : Shape := ⟨3, ![8, 64, 64]⟩
abbrev S2x4x64x64 : Shape := ⟨4, ![2, 4, 64, 64]⟩
abbrev S4x4 : Shape := ⟨2, ![4, 4]⟩
abbrev S_ : Shape := ⟨0, ![]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x256x512 : Shape := ⟨3, ![2, 256, 512]⟩
abbrev S1x1024 : Shape := ⟨2, ![1, 1024]⟩
abbrev S1024 : Shape := ⟨1, ![1024]⟩
abbrev S4x512 : Shape := ⟨2, ![4, 512]⟩
abbrev S512 : Shape := ⟨1, ![512]⟩
abbrev S8x64 : Shape := ⟨2, ![8, 64]⟩
abbrev S3x512 : Shape := ⟨2, ![3, 512]⟩
abbrev S1024x2816 : Shape := ⟨2, ![1024, 2816]⟩
abbrev S2816x1024 : Shape := ⟨2, ![2816, 1024]⟩
abbrev S512x1024 : Shape := ⟨2, ![512, 1024]⟩
abbrev S1x32x2816 : Shape := ⟨3, ![1, 32, 2816]⟩
abbrev S1x128x1024 : Shape := ⟨3, ![1, 128, 1024]⟩
abbrev S32x2816 : Shape := ⟨2, ![32, 2816]⟩
abbrev S128x1024 : Shape := ⟨2, ![128, 1024]⟩
abbrev S1024x2560 : Shape := ⟨2, ![1024, 2560]⟩
abbrev S1024x1024 : Shape := ⟨2, ![1024, 1024]⟩
abbrev S256x1024 : Shape := ⟨2, ![256, 1024]⟩
abbrev S32x8x2560 : Shape := ⟨3, ![32, 8, 2560]⟩
abbrev S32x8x512 : Shape := ⟨3, ![32, 8, 512]⟩
abbrev S256x512 : Shape := ⟨2, ![256, 512]⟩
abbrev S1x8x512 : Shape := ⟨3, ![1, 8, 512]⟩
abbrev S2x512x2560 : Shape := ⟨3, ![2, 512, 2560]⟩
abbrev S2 : Shape := ⟨1, ![2]⟩
abbrev S1 : Shape := ⟨1, ![1]⟩
abbrev S1x512x2560 : Shape := ⟨3, ![1, 512, 2560]⟩
abbrev S512x2560 : Shape := ⟨2, ![512, 2560]⟩
abbrev S1x64x2560 : Shape := ⟨3, ![1, 64, 2560]⟩
abbrev S64x2560 : Shape := ⟨2, ![64, 2560]⟩
abbrev S2x512x1024 : Shape := ⟨3, ![2, 512, 1024]⟩
abbrev S1x512x1024 : Shape := ⟨3, ![1, 512, 1024]⟩
abbrev S1x64x1024 : Shape := ⟨3, ![1, 64, 1024]⟩
abbrev S64x1024 : Shape := ⟨2, ![64, 1024]⟩
abbrev S256 : Shape := ⟨1, ![256]⟩
abbrev S256x1 : Shape := ⟨2, ![256, 1]⟩
abbrev S256x2560 : Shape := ⟨2, ![256, 2560]⟩
abbrev S1x1x512 : Shape := ⟨3, ![1, 1, 512]⟩
abbrev S2x8x512 : Shape := ⟨3, ![2, 8, 512]⟩
abbrev S16x512 : Shape := ⟨2, ![16, 512]⟩
abbrev S256x256 : Shape := ⟨2, ![256, 256]⟩
abbrev S1x256x512 : Shape := ⟨3, ![1, 256, 512]⟩
abbrev S1x8x128 : Shape := ⟨3, ![1, 8, 128]⟩
abbrev S16x1024 : Shape := ⟨2, ![16, 1024]⟩
abbrev S16x256 : Shape := ⟨2, ![16, 256]⟩
abbrev S1x8x384 : Shape := ⟨3, ![1, 8, 384]⟩

abbrev nBuf : Space → Nat
  | .hbm => 69
  | .vmem => 43
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x8x64, .f32⟩
  | .hbm, ⟨6, _⟩ => ⟨S1x8x64x64, .f32⟩
  | .hbm, ⟨7, _⟩ => ⟨S1x8x64, .f32⟩
  | .hbm, ⟨8, _⟩ => ⟨S1x512, .f32⟩
  | .hbm, ⟨9, _⟩ => ⟨S1x3x512, .f32⟩
  | .hbm, ⟨10, _⟩ => ⟨S1x1024x1024, .f32⟩
  | .hbm, ⟨11, _⟩ => ⟨S2x1024, .f32⟩
  | .hbm, ⟨12, _⟩ => ⟨S2x1024, .f32⟩
  | .hbm, ⟨13, _⟩ => ⟨S2x1024x2816, .f32⟩
  | .hbm, ⟨14, _⟩ => ⟨S2x1024x2816, .f32⟩
  | .hbm, ⟨15, _⟩ => ⟨S2x2816x1024, .f32⟩
  | .hbm, ⟨16, _⟩ => ⟨S16384x1024, .f32⟩
  | .hbm, ⟨17, _⟩ => ⟨S8x64x64, .f32⟩
  | .hbm, ⟨18, _⟩ => ⟨S2x4x64x64, .f32⟩
  | .hbm, ⟨19, _⟩ => ⟨S4x4, .i32⟩
  | .hbm, ⟨20, _⟩ => ⟨S4x4, .i32⟩
  | .hbm, ⟨21, _⟩ => ⟨S_, .i32⟩
  | .hbm, ⟨22, _⟩ => ⟨S4x4, .i32⟩
  | .hbm, ⟨23, _⟩ => ⟨S4x4, .i32⟩
  | .hbm, ⟨24, _⟩ => ⟨S4x4, .i1⟩
  | .hbm, ⟨25, _⟩ => ⟨S4x4, .f32⟩
  | .hbm, ⟨26, _⟩ => ⟨S2x4x64x1x64, .f32⟩
  | .hbm, ⟨27, _⟩ => ⟨S1x4x1x4x1, .f32⟩
  | .hbm, ⟨28, _⟩ => ⟨S2x4x64x4x64, .f32⟩
  | .hbm, ⟨29, _⟩ => ⟨S2x4x64x4x64, .f32⟩
  | .hbm, ⟨30, _⟩ => ⟨S2x4x64x4x64, .f32⟩
  | .hbm, ⟨31, _⟩ => ⟨S2x256x256, .f32⟩
  | .hbm, ⟨32, _⟩ => ⟨S8x64x64, .f32⟩
  | .hbm, ⟨33, _⟩ => ⟨S2x4x64x64, .f32⟩
  | .hbm, ⟨34, _⟩ => ⟨S4x4, .i32⟩
  | .hbm, ⟨35, _⟩ => ⟨S4x4, .i32⟩
  | .hbm, ⟨36, _⟩ => ⟨S_, .i32⟩
  | .hbm, ⟨37, _⟩ => ⟨S4x4, .i32⟩
  | .hbm, ⟨38, _⟩ => ⟨S4x4, .i32⟩
  | .hbm, ⟨39, _⟩ => ⟨S4x4, .i1⟩
  | .hbm, ⟨40, _⟩ => ⟨S4x4, .f32⟩
  | .hbm, ⟨41, _⟩ => ⟨S2x4x64x1x64, .f32⟩
  | .hbm, ⟨42, _⟩ => ⟨S1x4x1x4x1, .f32⟩
  | .hbm, ⟨43, _⟩ => ⟨S2x4x64x4x64, .f32⟩
  | .hbm, ⟨44, _⟩ => ⟨S2x4x64x4x64, .f32⟩
  | .hbm, ⟨45, _⟩ => ⟨S2x4x64x4x64, .f32⟩
  | .hbm, ⟨46, _⟩ => ⟨S2x256x256, .f32⟩
  | .hbm, ⟨47, _⟩ => ⟨S2x256x512, .f32⟩
  | .hbm, ⟨48, _⟩ => ⟨S2x256x512, .bf16⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S4x512, .f32⟩
  | .hbm, ⟨53, _⟩ => ⟨S512, .f32⟩
  | .hbm, ⟨54, _⟩ => ⟨S1x512, .f32⟩
  | .hbm, ⟨55, _⟩ => ⟨S8x64, .f32⟩
  | .hbm, ⟨56, _⟩ => ⟨S1x512, .f32⟩
  | .hbm, ⟨57, _⟩ => ⟨S8x64, .f32⟩
  | .hbm, ⟨58, _⟩ => ⟨S1x512, .f32⟩
  | .hbm, ⟨59, _⟩ => ⟨S512, .f32⟩
  | .hbm, ⟨60, _⟩ => ⟨S1x512, .f32⟩
  | .hbm, ⟨61, _⟩ => ⟨S3x512, .f32⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S1024x2816, .bf16⟩
  | .hbm, ⟨67, _⟩ => ⟨S1024x2816, .bf16⟩
  | .hbm, ⟨68, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512, .f32⟩
  | .local _ .vmem, ⟨6, _⟩ => ⟨S1x512, .f32⟩
  | .local _ .vmem, ⟨7, _⟩ => ⟨S2x256x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S3x512, .f32⟩
  | .local _ .vmem, ⟨12, _⟩ => ⟨S1x1024, .f32⟩
  | .local _ .vmem, ⟨13, _⟩ => ⟨S1x32x2816, .f32⟩
  | .local _ .vmem, ⟨14, _⟩ => ⟨S1x32x2816, .f32⟩
  | .local _ .vmem, ⟨15, _⟩ => ⟨S1x32x2816, .f32⟩
  | .local _ .vmem, ⟨16, _⟩ => ⟨S1x32x2816, .f32⟩
  | .local _ .vmem, ⟨17, _⟩ => ⟨S1x128x1024, .f32⟩
  | .local _ .vmem, ⟨18, _⟩ => ⟨S1x128x1024, .f32⟩
  | .local _ .vmem, ⟨19, _⟩ => ⟨S512x1024, .f32⟩
  | .local _ .vmem, ⟨20, _⟩ => ⟨S512x1024, .f32⟩
  | .local _ .vmem, ⟨21, _⟩ => ⟨S32x2816, .bf16⟩
  | .local _ .vmem, ⟨22, _⟩ => ⟨S32x2816, .bf16⟩
  | .local _ .vmem, ⟨23, _⟩ => ⟨S32x2816, .bf16⟩
  | .local _ .vmem, ⟨24, _⟩ => ⟨S32x2816, .bf16⟩
  | .local _ .vmem, ⟨25, _⟩ => ⟨S128x1024, .bf16⟩
  | .local _ .vmem, ⟨26, _⟩ => ⟨S128x1024, .bf16⟩
  | .local _ .vmem, ⟨27, _⟩ => ⟨S1024x2560, .bf16⟩
  | .local _ .vmem, ⟨28, _⟩ => ⟨S1024x1024, .bf16⟩
  | .local _ .vmem, ⟨29, _⟩ => ⟨S256x1024, .bf16⟩
  | .local _ .vmem, ⟨30, _⟩ => ⟨S256x1024, .bf16⟩
  | .local _ .vmem, ⟨31, _⟩ => ⟨S32x8x2560, .f32⟩
  | .local _ .vmem, ⟨32, _⟩ => ⟨S32x8x2560, .f32⟩
  | .local _ .vmem, ⟨33, _⟩ => ⟨S256x1024, .bf16⟩
  | .local _ .vmem, ⟨34, _⟩ => ⟨S256x1024, .bf16⟩
  | .local _ .vmem, ⟨35, _⟩ => ⟨S32x8x512, .f32⟩
  | .local _ .vmem, ⟨36, _⟩ => ⟨S256x512, .bf16⟩
  | .local _ .vmem, ⟨37, _⟩ => ⟨S256x1024, .f32⟩
  | .local _ .vmem, ⟨38, _⟩ => ⟨S1x8x512, .f32⟩
  | .local _ .vmem, ⟨39, _⟩ => ⟨S1x8x512, .f32⟩
  | .local _ .vmem, ⟨40, _⟩ => ⟨S1x8x512, .f32⟩
  | .local _ .vmem, ⟨41, _⟩ => ⟨S2x512x2560, .f32⟩
  | .local _ .vmem, ⟨42, _⟩ => ⟨S2x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_v47_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_scratch10 : Ref sig .tc := ⟨.vmem, 37, rfl⟩
abbrev cc0_scratch11 : Ref sig .tc := ⟨.vmem, 38, rfl⟩
abbrev cc0_scratch12 : Ref sig .tc := ⟨.vmem, 39, rfl⟩
abbrev cc0_scratch13 : Ref sig .tc := ⟨.vmem, 40, rfl⟩
abbrev cc0_scoped0 : Ref sig .tc := ⟨.vmem, 41, rfl⟩
abbrev cc0_scoped2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [BitOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_75_r0 : BitVec 32 := 0#32
  let c8_i32_r0 : BitVec 32 := 8#32
  let v102_r0 : BitVec 32 := Scalar.addi c0_i32_75_r0 c8_i32_r0
  let c1_i32_76_r0 : BitVec 32 := 1#32
  ⟨c0_i32_75_r0, v102_r0, c1_i32_76_r0⟩
def k0_mult1 (k0_t1 : Fin k0_t1_loop.trips) : BitVec 32 :=
  let c0_i32_75_r0 : BitVec 32 := 0#32
  let c1_i32_76_r0 : BitVec 32 := 1#32
  let arg35_r0 : BitVec 32 := Scf.iv c0_i32_75_r0 c1_i32_76_r0 k0_t1
  let c64_i32_r0 : BitVec 32 := 64#32
  let v111_r0 : BitVec 32 := Scalar.muli arg35_r0 c64_i32_r0
  v111_r0
def k0_off1 (k0_t1 : Fin k0_t1_loop.trips) : Fin 3 → Nat :=
  let c0_91_r0 : Index := 0#32
  let c0_i32_75_r0 : BitVec 32 := 0#32
  let c1_i32_76_r0 : BitVec 32 := 1#32
  let arg35_r0 : BitVec 32 := Scf.iv c0_i32_75_r0 c1_i32_76_r0 k0_t1
  let c64_i32_r0 : BitVec 32 := 64#32
  let v111_r0 : BitVec 32 := Scalar.muli arg35_r0 c64_i32_r0
  let v112_r0 : BitVec 32 := v111_r0
  let v113_r0 : Index := Scalar.indexCast v112_r0
  let c0_92_r0 : Index := 0#32
  ![0, v113_r0.toNat, 0]
def k0_off2 (k0_t1 : Fin k0_t1_loop.trips) : Fin 2 → Nat :=
  let c0_i32_93_r0 : BitVec 32 := 0#32
  let c0_i32_75_r0 : BitVec 32 := 0#32
  let c1_i32_76_r0 : BitVec 32 := 1#32
  let arg35_r0 : BitVec 32 := Scf.iv c0_i32_75_r0 c1_i32_76_r0 k0_t1
  let c64_i32_r0 : BitVec 32 := 64#32
  let v111_r0 : BitVec 32 := Scalar.muli arg35_r0 c64_i32_r0
  let v112_r0 : BitVec 32 := v111_r0
  let v117_r0 : BitVec 32 := Scalar.addi c0_i32_93_r0 v112_r0
  let v118_r0 : Index := Scalar.indexCast v117_r0
  let c0_94_r0 : Index := 0#32
  ![v118_r0.toNat, 0]
@[reducible] def k0_t2_loop : Scf.Loop 32 :=
  let c0_i32_87_r0 : BitVec 32 := 0#32
  let c8_i32_88_r0 : BitVec 32 := 8#32
  let v110_r0 : BitVec 32 := Scalar.addi c0_i32_87_r0 c8_i32_88_r0
  let c1_i32_89_r0 : BitVec 32 := 1#32
  ⟨c0_i32_87_r0, v110_r0, c1_i32_89_r0⟩
def k0_mult2 (k0_t2 : Fin k0_t2_loop.trips) : BitVec 32 :=
  let c0_i32_87_r0 : BitVec 32 := 0#32
  let c1_i32_89_r0 : BitVec 32 := 1#32
  let arg35_r0 : BitVec 32 := Scf.iv c0_i32_87_r0 c1_i32_89_r0 k0_t2
  let c64_i32_r0 : BitVec 32 := 64#32
  let v111_r0 : BitVec 32 := Scalar.muli arg35_r0 c64_i32_r0
  v111_r0
def k0_off3 (k0_t2 : Fin k0_t2_loop.trips) : Fin 3 → Nat :=
  let c1_r0 : Index := 1#32
  let c0_i32_87_r0 : BitVec 32 := 0#32
  let c1_i32_89_r0 : BitVec 32 := 1#32
  let arg35_r0 : BitVec 32 := Scf.iv c0_i32_87_r0 c1_i32_89_r0 k0_t2
  let c64_i32_r0 : BitVec 32 := 64#32
  let v111_r0 : BitVec 32 := Scalar.muli arg35_r0 c64_i32_r0
  let v112_r0 : BitVec 32 := v111_r0
  let v113_r0 : Index := Scalar.indexCast v112_r0
  let c0_91_r0 : Index := 0#32
  ![1, v113_r0.toNat, 0]
def k0_off4 (k0_t2 : Fin k0_t2_loop.trips) : Fin 2 → Nat :=
  let c512_i32_92_r0 : BitVec 32 := 512#32
  let c0_i32_87_r0 : BitVec 32 := 0#32
  let c1_i32_89_r0 : BitVec 32 := 1#32
  let arg35_r0 : BitVec 32 := Scf.iv c0_i32_87_r0 c1_i32_89_r0 k0_t2
  let c64_i32_r0 : BitVec 32 := 64#32
  let v111_r0 : BitVec 32 := Scalar.muli arg35_r0 c64_i32_r0
  let v112_r0 : BitVec 32 := v111_r0
  let v117_r0 : BitVec 32 := Scalar.addi c512_i32_92_r0 v112_r0
  let v118_r0 : Index := Scalar.indexCast v117_r0
  let c0_93_r0 : Index := 0#32
  ![v118_r0.toNat, 0]
@[reducible] def k0_t3_loop : Scf.Loop 32 :=
  let c0_i32_75_r1 : BitVec 32 := 0#32
  let c8_i32_r1 : BitVec 32 := 8#32
  let v102_r1 : BitVec 32 := Scalar.addi c0_i32_75_r1 c8_i32_r1
  let c1_i32_76_r1 : BitVec 32 := 1#32
  ⟨c0_i32_75_r1, v102_r1, c1_i32_76_r1⟩
def k0_mult3 (k0_t3 : Fin k0_t3_loop.trips) : BitVec 32 :=
  let c0_i32_75_r1 : BitVec 32 := 0#32
  let c1_i32_76_r1 : BitVec 32 := 1#32
  let arg35_r1 : BitVec 32 := Scf.iv c0_i32_75_r1 c1_i32_76_r1 k0_t3
  let c64_i32_r1 : BitVec 32 := 64#32
  let v111_r1 : BitVec 32 := Scalar.muli arg35_r1 c64_i32_r1
  v111_r1
def k0_off5 (k0_t3 : Fin k0_t3_loop.trips) : Fin 3 → Nat :=
  let c0_91_r1 : Index := 0#32
  let c0_i32_75_r1 : BitVec 32 := 0#32
  let c1_i32_76_r1 : BitVec 32 := 1#32
  let arg35_r1 : BitVec 32 := Scf.iv c0_i32_75_r1 c1_i32_76_r1 k0_t3
  let c64_i32_r1 : BitVec 32 := 64#32
  let v111_r1 : BitVec 32 := Scalar.muli arg35_r1 c64_i32_r1
  let v112_r1 : BitVec 32 := v111_r1
  let v113_r1 : Index := Scalar.indexCast v112_r1
  let c0_92_r1 : Index := 0#32
  ![0, v113_r1.toNat, 0]
def k0_off6 (k0_t3 : Fin k0_t3_loop.trips) : Fin 2 → Nat :=
  let c0_i32_93_r1 : BitVec 32 := 0#32
  let c0_i32_75_r1 : BitVec 32 := 0#32
  let c1_i32_76_r1 : BitVec 32 := 1#32
  let arg35_r1 : BitVec 32 := Scf.iv c0_i32_75_r1 c1_i32_76_r1 k0_t3
  let c64_i32_r1 : BitVec 32 := 64#32
  let v111_r1 : BitVec 32 := Scalar.muli arg35_r1 c64_i32_r1
  let v112_r1 : BitVec 32 := v111_r1
  let v117_r1 : BitVec 32 := Scalar.addi c0_i32_93_r1 v112_r1
  let v118_r1 : Index := Scalar.indexCast v117_r1
  let c0_94_r1 : Index := 0#32
  ![v118_r1.toNat, 0]
@[reducible] def k0_t4_loop : Scf.Loop 32 :=
  let c0_i32_87_r1 : BitVec 32 := 0#32
  let c8_i32_88_r1 : BitVec 32 := 8#32
  let v110_r1 : BitVec 32 := Scalar.addi c0_i32_87_r1 c8_i32_88_r1
  let c1_i32_89_r1 : BitVec 32 := 1#32
  ⟨c0_i32_87_r1, v110_r1, c1_i32_89_r1⟩
def k0_mult4 (k0_t4 : Fin k0_t4_loop.trips) : BitVec 32 :=
  let c0_i32_87_r1 : BitVec 32 := 0#32
  let c1_i32_89_r1 : BitVec 32 := 1#32
  let arg35_r1 : BitVec 32 := Scf.iv c0_i32_87_r1 c1_i32_89_r1 k0_t4
  let c64_i32_r1 : BitVec 32 := 64#32
  let v111_r1 : BitVec 32 := Scalar.muli arg35_r1 c64_i32_r1
  v111_r1
def k0_off7 (k0_t4 : Fin k0_t4_loop.trips) : Fin 3 → Nat :=
  let c1_r1 : Index := 1#32
  let c0_i32_87_r1 : BitVec 32 := 0#32
  let c1_i32_89_r1 : BitVec 32 := 1#32
  let arg35_r1 : BitVec 32 := Scf.iv c0_i32_87_r1 c1_i32_89_r1 k0_t4
  let c64_i32_r1 : BitVec 32 := 64#32
  let v111_r1 : BitVec 32 := Scalar.muli arg35_r1 c64_i32_r1
  let v112_r1 : BitVec 32 := v111_r1
  let v113_r1 : Index := Scalar.indexCast v112_r1
  let c0_91_r1 : Index := 0#32
  ![1, v113_r1.toNat, 0]
def k0_off8 (k0_t4 : Fin k0_t4_loop.trips) : Fin 2 → Nat :=
  let c512_i32_92_r1 : BitVec 32 := 512#32
  let c0_i32_87_r1 : BitVec 32 := 0#32
  let c1_i32_89_r1 : BitVec 32 := 1#32
  let arg35_r1 : BitVec 32 := Scf.iv c0_i32_87_r1 c1_i32_89_r1 k0_t4
  let c64_i32_r1 : BitVec 32 := 64#32
  let v111_r1 : BitVec 32 := Scalar.muli arg35_r1 c64_i32_r1
  let v112_r1 : BitVec 32 := v111_r1
  let v117_r1 : BitVec 32 := Scalar.addi c512_i32_92_r1 v112_r1
  let v118_r1 : Index := Scalar.indexCast v117_r1
  let c0_93_r1 : Index := 0#32
  ![v118_r1.toNat, 0]
def k0_cond3 (i : grid0.Coords) : BitVec 1 :=
  let arg0 : BitVec 32 := BitVec.ofNat 32 (i 0).val
  let c0_i32_18 : BitVec 32 := 0#32
  let v20 : BitVec 1 := Scalar.cmpi .sgt arg0 c0_i32_18
  let c32_i32 : BitVec 32 := 32#32
  let v21 : BitVec 1 := Scalar.cmpi .slt arg0 c32_i32
  let v22 : BitVec 1 := Scalar.andi v20 v21
  let v23 : BitVec 32 := Scalar.extui v22
  let c0_i32_19 : BitVec 32 := 0#32
  let v24 : BitVec 1 := Scalar.cmpi .ne v23 c0_i32_19
  v24

def k0_cond4 (i : grid0.Coords) : BitVec 1 :=
  let arg0 : BitVec 32 := BitVec.ofNat 32 (i 0).val
  let c32_i32_20 : BitVec 32 := 32#32
  let v25 : BitVec 1 := Scalar.cmpi .eq arg0 c32_i32_20
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F]
-- ==== Kernel2.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S512x512 : Shape := ⟨2, ![512, 512]⟩
abbrev S512x2816 : Shape := ⟨2, ![512, 2816]⟩

abbrev nBuf : Space → Nat
  | .hbm => 23
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024x2816, .f32⟩
  | .hbm, ⟨7, _⟩ => ⟨S1024x2816, .f32⟩
  | .hbm, ⟨8, _⟩ => ⟨S1024x2816, .bf16⟩
  | .hbm, ⟨9, _⟩ => ⟨S1x1024x2816, .f32⟩
  | .hbm, ⟨10, _⟩ => ⟨S1024x2816, .f32⟩
  | .hbm, ⟨11, _⟩ => ⟨S1024x2816, .bf16⟩
  | .hbm, ⟨12, _⟩ => ⟨S1x2816x1024, .f32⟩
  | .hbm, ⟨13, _⟩ => ⟨S2816x1024, .f32⟩
  | .hbm, ⟨14, _⟩ => ⟨S2816x1024, .bf16⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S_, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1536 : Shape := ⟨2, ![1024, 1536]⟩
abbrev S1024x1024 : Shape := ⟨2, ![1024, 1024]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1024 : Shape := ⟨1, ![1024]⟩
abbrev S4x128x128 : Shape := ⟨3, ![4, 128, 128]⟩
abbrev S512 : Shape := ⟨1, ![512]⟩
abbrev S8x128x128 : Shape := ⟨3, ![8, 128, 128]⟩
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1x32x2816 : Shape := ⟨3, ![1, 32, 2816]⟩
abbrev S1x128x1024 : Shape := ⟨3, ![1, 128, 1024]⟩
abbrev S32x2816 : Shape := ⟨2, ![32, 2816]⟩
abbrev S128x1024 : Shape := ⟨2, ![128, 1024]⟩
abbrev S256x1024 : Shape := ⟨2, ![256, 1024]⟩
abbrev S32x8x1536 : Shape := ⟨3, ![32, 8, 1536]⟩
abbrev S4x8x512 : Shape := ⟨3, ![4, 8, 512]⟩
abbrev S256 : Shape := ⟨1, ![256]⟩
abbrev S256x1 : Shape := ⟨2, ![256, 1]⟩
abbrev S256x1536 : Shape := ⟨2, ![256, 1536]⟩
abbrev S32x8x128 : Shape := ⟨3, ![32, 8, 128]⟩
abbrev S31x8x128 : Shape := ⟨3, ![31, 8, 128]⟩
abbrev S256x128 : Shape := ⟨2, ![256, 128]⟩
abbrev S1x128x128 : Shape := ⟨3, ![1, 128, 128]⟩
abbrev S128x128 : Shape := ⟨2, ![128, 128]⟩
abbrev S256x512 : Shape := ⟨2, ![256, 512]⟩
abbrev S32x8x512 : Shape := ⟨3, ![32, 8, 512]⟩
abbrev S128x256 : Shape := ⟨2, ![128, 256]⟩
abbrev S256x256 : Shape := ⟨2, ![256, 256]⟩
abbrev S8x896 : Shape := ⟨2, ![8, 896]⟩
abbrev S8x1024 : Shape := ⟨2, ![8, 1024]⟩
abbrev S248x1024 : Shape := ⟨2, ![248, 1024]⟩

abbrev nBuf : Space → Nat
  | .hbm => 39
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1x1024x1536, .f32⟩
  | .hbm, ⟨2, _⟩ => ⟨S1x4x128x128, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S2x1024, .f32⟩
  | .hbm, ⟨9, _⟩ => ⟨S2x1024, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S1024x1536, .f32⟩
  | .hbm, ⟨14, _⟩ => ⟨S1024x1536, .bf16⟩
  | .hbm, ⟨15, _⟩ => ⟨S1024x1024, .f32⟩
  | .hbm, ⟨16, _⟩ => ⟨S1024x1024, .bf16⟩
  | .hbm, ⟨17, _⟩ => ⟨S8x128, .f32⟩
  | .hbm, ⟨18, _⟩ => ⟨S128x8, .f32⟩
  | .hbm, ⟨19, _⟩ => ⟨S128x8x64, .f32⟩
  | .hbm, ⟨20, _⟩ => ⟨S128x512, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4x128x128, .f32⟩
  | .hbm, ⟨25, _⟩ => ⟨S4x128x128, .bf16⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S8x128x128, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1024x2816, .bf16⟩
  | .hbm, ⟨37, _⟩ => ⟨S1024x2816, .bf16⟩
  | .hbm, ⟨38, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1536, .bf16⟩
  | .local _ .vmem, ⟨6, _⟩ => ⟨S4x128x128, .bf16⟩
  | .local _ .vmem, ⟨7, _⟩ => ⟨S1x512, .f32⟩
  | .local _ .vmem, ⟨8, _⟩ => ⟨S1x512, .f32⟩
  | .local _ .vmem, ⟨9, _⟩ => ⟨S8x128x128, .f32⟩
  | .local _ .vmem, ⟨10, _⟩ => ⟨S128x512, .f32⟩
  | .local _ .vmem, ⟨11, _⟩ => ⟨S1024x1024, .bf16⟩
  | .local _ .vmem, ⟨12, _⟩ => ⟨S1x1024, .f32⟩
  | .local _ .vmem, ⟨13, _⟩ => ⟨S1x32x2816, .f32⟩
  | .local _ .vmem, ⟨14, _⟩ => ⟨S1x32x2816, .f32⟩
  | .local _ .vmem, ⟨15, _⟩ => ⟨S1x32x2816, .f32⟩
  | .local _ .vmem, ⟨16, _⟩ => ⟨S1x32x2816, .f32⟩
  | .local _ .vmem, ⟨17, _⟩ => ⟨S1x128x1024, .f32⟩
  | .local _ .vmem, ⟨18, _⟩ => ⟨S1x128x1024, .f32⟩
  | .local _ .vmem, ⟨19, _⟩ => ⟨S512x1024, .f32⟩
  | .local _ .vmem, ⟨20, _⟩ => ⟨S512x1024, .f32⟩
  | .local _ .vmem, ⟨21, _⟩ => ⟨S32x2816, .bf16⟩
  | .local _ .vmem, ⟨22, _⟩ => ⟨S32x2816, .bf16⟩
  | .local _ .vmem, ⟨23, _⟩ => ⟨S32x2816, .bf16⟩
  | .local _ .vmem, ⟨24, _⟩ => ⟨S32x2816, .bf16⟩
  | .local _ .vmem, ⟨25, _⟩ => ⟨S128x1024, .bf16⟩
  | .local _ .vmem, ⟨26, _⟩ => ⟨S128x1024, .bf16⟩
  | .local _ .vmem, ⟨27, _⟩ => ⟨S256x1024, .bf16⟩
  | .local _ .vmem, ⟨28, _⟩ => ⟨S256x1024, .bf16⟩
  | .local _ .vmem, ⟨29, _⟩ => ⟨S32x8x1536, .f32⟩
  | .local _ .vmem, ⟨30, _⟩ => ⟨S32x8x1536, .f32⟩
  | .local _ .vmem, ⟨31, _⟩ => ⟨S256x1024, .bf16⟩
  | .local _ .vmem, ⟨32, _⟩ => ⟨S256x1024, .bf16⟩
  | .local _ .vmem, ⟨33, _⟩ => ⟨S4x8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [BitOps F]

abbrev grid0 : Pipeline.Grid := ⟨1, ![33], ![false]⟩

def k0_cond3 (i : grid0.Coords) : BitVec 1 :=
  let arg0 : BitVec 32 := BitVec.ofNat 32 (i 0).val
  let c0_i32_17 : BitVec 32 := 0#32
  let v18 : BitVec 1 := Scalar.cmpi .sgt arg0 c0_i32_17
  let c32_i32 : BitVec 32 := 32#32
  let v19 : BitVec 1 := Scalar.cmpi .slt arg0 c32_i32
  let v20 : BitVec 1 := Scalar.andi v18 v19
  let v21 : BitVec 32 := Scalar.extui v20
  let c0_i32_18 : BitVec 32 := 0#32
  let v22 : BitVec 1 := Scalar.cmpi .ne v21 c0_i32_18
  v22

def k0_cond4 (i : grid0.Coords) : BitVec 1 :=
  let arg0 : BitVec 32 := BitVec.ofNat 32 (i 0).val
  let c32_i32_19 : BitVec 32 := 32#32
  let v23 : BitVec 1 := Scalar.cmpi .eq arg0 c32_i32_19
  let v24 : BitVec 32 := Scalar.extui v23
  let c0_i32_20 : BitVec 32 := 0#32
  let v25 : BitVec 1 := Scalar.cmpi .ne v24 c0_i32_20
  v25

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_13 (i : grid0.Coords) : Fin 3 → Nat :=
  let arg0 : BitVec 32 := BitVec.ofNat 32 (i 0).val
  let c21_i32 : BitVec 32 := 21#32
  let v0 : BitVec 32 := Scalar.minsi arg0 c21_i32
  let c1_i32 : BitVec 32 := 1#32
  let c0_i32 : BitVec 32 := 0#32
  let c0_i32_0 : BitVec 32 := 0#32
  ![c1_i32.toNat, v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel3Ideal.lean ====
variable {F : FTy → Type} [FloatOps F]
-- ==== Reference3Ideal.lean ====
abbrev S8x2048x1024 : Shape := ⟨3, ![8, 2048, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1536 : Shape := ⟨2, ![1024, 1536]⟩
abbrev S4x128x128 : Shape := ⟨3, ![4, 128, 128]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S8x2048x1536 : Shape := ⟨3, ![8, 2048, 1536]⟩
abbrev S8x2048x512 : Shape := ⟨3, ![8, 2048, 512]⟩
abbrev S8x2048x4x128 : Shape := ⟨4, ![8, 2048, 4, 128]⟩
abbrev S2048 : Shape := ⟨1, ![2048]⟩
abbrev S8x2048x1x128 : Shape := ⟨4, ![8, 2048, 1, 128]⟩
abbrev S8x2048x128 : Shape := ⟨3, ![8, 2048, 128]⟩
abbrev S8x2049x128 : Shape := ⟨3, ![8, 2049, 128]⟩
abbrev S1x2048x1 : Shape := ⟨3, ![1, 2048, 1]⟩
abbrev S8x2050x128 : Shape := ⟨3, ![8, 2050, 128]⟩
abbrev S8x2051x128 : Shape := ⟨3, ![8, 2051, 128]⟩
abbrev S8x2052x128 : Shape := ⟨3, ![8, 2052, 128]⟩
abbrev S8x2053x128 : Shape := ⟨3, ![8, 2053, 128]⟩
abbrev S8x2054x128 : Shape := ⟨3, ![8, 2054, 128]⟩
abbrev S8x2055x128 : Shape := ⟨3, ![8, 2055, 128]⟩
abbrev S8x2056x128 : Shape := ⟨3, ![8, 2056, 128]⟩
abbrev S8x2057x128 : Shape := ⟨3, ![8, 2057, 128]⟩
abbrev S8x2058x128 : Shape := ⟨3, ![8, 2058, 128]⟩
abbrev S8x2059x128 : Shape := ⟨3, ![8, 2059, 128]⟩
abbrev S8x2060x128 : Shape := ⟨3, ![8, 2060, 128]⟩
abbrev S8x2061x128 : Shape := ⟨3, ![8, 2061, 128]⟩
abbrev S8x2062x128 : Shape := ⟨3, ![8, 2062, 128]⟩
abbrev S8x2063x128 : Shape := ⟨3, ![8, 2063, 128]⟩
abbrev S1x128x128 : Shape := ⟨3, ![1, 128, 128]⟩
abbrev S128x128 : Shape := ⟨2, ![128, 128]⟩
abbrev S1x1x512 : Shape := ⟨3, ![1, 1, 512]⟩
abbrev S8x16x128x8x64 : Shape := ⟨5, ![8, 16, 128, 8, 64]⟩
abbrev S128 : Shape := ⟨1, ![128]⟩
abbrev S1x128 : Shape := ⟨2, ![1, 128]⟩
abbrev S128x1 : Shape := ⟨2, ![128, 1]⟩
abbrev S8x8x16x64x128 : Shape := ⟨5, ![8, 8, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16384x1024 : Shape := ⟨2, ![16384, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 317
  | .vmem => 0
  | .smem => 0
  | _ => 0

abbrev hbmTy0_0 (i : Nat) : BufTy := match i % 128 with
  | 0 => ⟨S8x2048x1024, .f32⟩
  | 1 => ⟨S1x1024x1536, .f32⟩
  | 2 => ⟨S1x4x128x128, .f32⟩
  | 3 => ⟨S1x512, .f32⟩
  | 4 => ⟨S1x512, .f32⟩
  | 5 => ⟨S1x8x128x128, .f32⟩
  | 6 => ⟨S1x8x128, .f32⟩
  | 7 => ⟨S1x1024x1024, .f32⟩
  | 8 => ⟨S2x1024, .f32⟩
  | 9 => ⟨S2x1024, .f32⟩
  | 10 => ⟨S2x1024x2816, .f32⟩
  | 11 => ⟨S2x1024x2816, .f32⟩
  | 12 => ⟨S2x2816x1024, .f32⟩
  | 13 => ⟨S1x1024, .f32⟩
  | 14 => ⟨S1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S1024x1536, .f32⟩
  | 32 => ⟨S4x128x128, .f32⟩
  | 33 => ⟨S512, .f32⟩
  | 34 => ⟨S512, .f32⟩
  | 35 => ⟨S8x128x128, .f32⟩
  | 36 => ⟨S8x128, .f32⟩
  | 37 => ⟨S1024x1024, .f32⟩
  | 38 => ⟨S8x2048x1536, .f32⟩
  | 39 => ⟨S8x2048x512, .f32⟩
  | 40 => ⟨S8x2048x512, .f32⟩
  | 41 => ⟨S8x2048x512, .f32⟩
  | 42 => ⟨S8x2048x4x128, .f32⟩
  | 43 => ⟨S2048, .i32⟩
  | 44 => ⟨S_, .i32⟩
  | 45 => ⟨S2048, .i32⟩
  | 46 => ⟨S2048, .i32⟩
  | 47 => ⟨S2048, .f32⟩
  | 48 => ⟨S8x2048x1x128, .f32⟩
  | 49 => ⟨S8x2048x128, .f32⟩
  | 50 => ⟨S_, .i32⟩
  | 51 => ⟨S_, .f32⟩
  | 52 => ⟨S8x2049x128, .f32⟩
  | 53 => ⟨S8x2048x128, .f32⟩
  | 54 => ⟨S8x2048x128, .f32⟩
  | 55 => ⟨S_, .f32⟩
  | 56 => ⟨S2048, .f32⟩
  | 57 => ⟨S2048, .f32⟩
  | 58 => ⟨S1x2048x1, .f32⟩
  | 59 => ⟨S8x2048x128, .f32⟩
  | 60 => ⟨S8x2048x128, .f32⟩
  | 61 => ⟨S8x2048x128, .f32⟩
  | 62 => ⟨S8x2048x1x128, .f32⟩
  | 63 => ⟨S8x2048x128, .f32⟩
  | 64 => ⟨S_, .i32⟩
  | 65 => ⟨S_, .f32⟩
  | 66 => ⟨S8x2049x128, .f32⟩
  | 67 => ⟨S8x2048x128, .f32⟩
  | 68 => ⟨S8x2048x128, .f32⟩
  | 69 => ⟨S_, .i32⟩
  | 70 => ⟨S_, .f32⟩
  | 71 => ⟨S8x2050x128, .f32⟩
  | 72 => ⟨S8x2048x128, .f32⟩
  | 73 => ⟨S8x2048x128, .f32⟩
  | 74 => ⟨S_, .i32⟩
  | 75 => ⟨S_, .f32⟩
  | 76 => ⟨S8x2051x128, .f32⟩
  | 77 => ⟨S8x2048x128, .f32⟩
  | 78 => ⟨S8x2048x128, .f32⟩
  | 79 => ⟨S_, .f32⟩
  | 80 => ⟨S2048, .f32⟩
  | 81 => ⟨S2048, .f32⟩
  | 82 => ⟨S1x2048x1, .f32⟩
  | 83 => ⟨S8x2048x128, .f32⟩
  | 84 => ⟨S8x2048x128, .f32⟩
  | 85 => ⟨S8x2048x128, .f32⟩
  | 86 => ⟨S8x2048x1x128, .f32⟩
  | 87 => ⟨S8x2048x128, .f32⟩
  | 88 => ⟨S_, .i32⟩
  | 89 => ⟨S_, .f32⟩
  | 90 => ⟨S8x2049x128, .f32⟩
  | 91 => ⟨S8x2048x128, .f32⟩
  | 92 => ⟨S8x2048x128, .f32⟩
  | 93 => ⟨S_, .i32⟩
  | 94 => ⟨S_, .f32⟩
  | 95 => ⟨S8x2050x128, .f32⟩
  | 96 => ⟨S8x2048x128, .f32⟩
  | 97 => ⟨S8x2048x128, .f32⟩
  | 98 => ⟨S_, .i32⟩
  | 99 => ⟨S_, .f32⟩
  | 100 => ⟨S8x2051x128, .f32⟩
  | 101 => ⟨S8x2048x128, .f32⟩
  | 102 => ⟨S8x2048x128, .f32⟩
  | 103 => ⟨S_, .i32⟩
  | 104 => ⟨S_, .f32⟩
  | 105 => ⟨S8x2052x128, .f32⟩
  | 106 => ⟨S8x2048x128, .f32⟩
  | 107 => ⟨S8x2048x128, .f32⟩
  | 108 => ⟨S_, .i32⟩
  | 109 => ⟨S_, .f32⟩
  | 110 => ⟨S8x2053x128, .f32⟩
  | 111 => ⟨S8x2048x128, .f32⟩
  | 112 => ⟨S8x2048x128, .f32⟩
  | 113 => ⟨S_, .i32⟩
  | 114 => ⟨S_, .f32⟩
  | 115 => ⟨S8x2054x128, .f32⟩
  | 116 => ⟨S8x2048x128, .f32⟩
  | 117 => ⟨S8x2048x128, .f32⟩
  | 118 => ⟨S_, .i32⟩
  | 119 => ⟨S_, .f32⟩
  | 120 => ⟨S8x2055x128, .f32⟩
  | 121 => ⟨S8x2048x128, .f32⟩
  | 122 => ⟨S8x2048x128, .f32⟩
  | 123 => ⟨S_, .f32⟩
  | 124 => ⟨S2048, .f32⟩
  | 125 => ⟨S2048, .f32⟩
  | 126 => ⟨S1x2048x1, .f32⟩
  | 127 => ⟨S8x2048x128, .f32⟩
  | _ => ⟨S8x2048x1024, .f32⟩

abbrev hbmTy0_1 (i : Nat) : BufTy := match i % 128 with
  | 0 => ⟨S8x2048x128, .f32⟩
  | 1 => ⟨S8x2048x128, .f32⟩
  | 2 => ⟨S8x2048x1x128, .f32⟩
  | 3 => ⟨S8x2048x128, .f32⟩
  | 4 => ⟨S_, .i32⟩
  | 5 => ⟨S_, .f32⟩
  | 6 => ⟨S8x2049x128, .f32⟩
  | 7 => ⟨S8x2048x128, .f32⟩
  | 8 => ⟨S8x2048x128, .f32⟩
  | 9 => ⟨S_, .i32⟩
  | 10 => ⟨S_, .f32⟩
  | 11 => ⟨S8x2050x128, .f32⟩
  | 12 => ⟨S8x2048x128, .f32⟩
  | 13 => ⟨S8x2048x128, .f32⟩
  | 14 => ⟨S_, .i32⟩
  | 15 => ⟨S_, .f32⟩
  | 16 => ⟨S8x2051x128, .f32⟩
  | 17 => ⟨S8x2048x128, .f32⟩
  | 18 => ⟨S8x2048x128, .f32⟩
  | 19 => ⟨S_, .i32⟩
  | 20 => ⟨S_, .f32⟩
  | 21 => ⟨S8x2052x128, .f32⟩
  | 22 => ⟨S8x2048x128, .f32⟩
  | 23 => ⟨S8x2048x128, .f32⟩
  | 24 => ⟨S_, .i32⟩
  | 25 => ⟨S_, .f32⟩
  | 26 => ⟨S8x2053x128, .f32⟩
  | 27 => ⟨S8x2048x128, .f32⟩
  | 28 => ⟨S8x2048x128, .f32⟩
  | 29 => ⟨S_, .i32⟩
  | 30 => ⟨S_, .f32⟩
  | 31 => ⟨S8x2054x128, .f32⟩
  | 32 => ⟨S8x2048x128, .f32⟩
  | 33 => ⟨S8x2048x128, .f32⟩
  | 34 => ⟨S_, .i32⟩
  | 35 => ⟨S_, .f32⟩
  | 36 => ⟨S8x2055x128, .f32⟩
  | 37 => ⟨S8x2048x128, .f32⟩
  | 38 => ⟨S8x2048x128, .f32⟩
  | 39 => ⟨S_, .i32⟩
  | 40 => ⟨S_, .f32⟩
  | 41 => ⟨S8x2056x128, .f32⟩
  | 42 => ⟨S8x2048x128, .f32⟩
  | 43 => ⟨S8x2048x128, .f32⟩
  | 44 => ⟨S_, .i32⟩
  | 45 => ⟨S_, .f32⟩
  | 46 => ⟨S8x2057x128, .f32⟩
  | 47 => ⟨S8x2048x128, .f32⟩
  | 48 => ⟨S8x2048x128, .f32⟩
  | 49 => ⟨S_, .i32⟩
  | 50 => ⟨S_, .f32⟩
  | 51 => ⟨S8x2058x128, .f32⟩
  | 52 => ⟨S8x2048x128, .f32⟩
  | 53 => ⟨S8x2048x128, .f32⟩
  | 54 => ⟨S_, .i32⟩
  | 55 => ⟨S_, .f32⟩
  | 56 => ⟨S8x2059x128, .f32⟩
  | 57 => ⟨S8x2048x128, .f32⟩
  | 58 => ⟨S8x2048x128, .f32⟩
  | 59 => ⟨S_, .i32⟩
  | 60 => ⟨S_, .f32⟩
  | 61 => ⟨S8x2060x128, .f32⟩
  | 62 => ⟨S8x2048x128, .f32⟩
  | 63 => ⟨S8x2048x128, .f32⟩
  | 64 => ⟨S_, .i32⟩
  | 65 => ⟨S_, .f32⟩
  | 66 => ⟨S8x2061x128, .f32⟩
  | 67 => ⟨S8x2048x128, .f32⟩
  | 68 => ⟨S8x2048x128, .f32⟩
  | 69 => ⟨S_, .i32⟩
  | 70 => ⟨S_, .f32⟩
  | 71 => ⟨S8x2062x128, .f32⟩
  | 72 => ⟨S8x2048x128, .f32⟩
  | 73 => ⟨S8x2048x128, .f32⟩
  | 74 => ⟨S_, .i32⟩
  | 75 => ⟨S_, .f32⟩
  | 76 => ⟨S8x2063x128, .f32⟩
  | 77 => ⟨S8x2048x128, .f32⟩
  | 78 => ⟨S8x2048x128, .f32⟩
  | 79 => ⟨S_, .f32⟩
  | 80 => ⟨S2048, .f32⟩
  | 81 => ⟨S2048, .f32⟩
  | 82 => ⟨S1x2048x1, .f32⟩
  | 83 => ⟨S8x2048x128, .f32⟩
  | 84 => ⟨S8x2048x128, .f32⟩
  | 85 => ⟨S8x2048x128, .f32⟩
  | 86 => ⟨S1x128x128, .f32⟩
  | 87 => ⟨S128x128, .f32⟩
  | 88 => ⟨S8x2048x128, .f32⟩
  | 89 => ⟨S1x128x128, .f32⟩
  | 90 => ⟨S128x128, .f32⟩
  | 91 => ⟨S8x2048x128, .f32⟩
  | 92 => ⟨S1x128x128, .f32⟩
  | 93 => ⟨S128x128, .f32⟩
  | 94 => ⟨S8x2048x128, .f32⟩
  | 95 => ⟨S1x128x128, .f32⟩
  | 96 => ⟨S128x128, .f32⟩
  | 97 => ⟨S8x2048x128, .f32⟩
  | 98 => ⟨S8x2048x512, .f32⟩
  | 99 => ⟨S1x1x512, .f32⟩
  | 100 => ⟨S8x2048x512, .f32⟩
  | 101 => ⟨S8x2048x512, .f32⟩
  | 102 => ⟨S8x2048x512, .f32⟩
  | 103 => ⟨S_, .f32⟩
  | 104 => ⟨S8x2048, .f32⟩
  | 105 => ⟨S8x2048x1, .f32⟩
  | 106 => ⟨S_, .f32⟩
  | 107 => ⟨S8x2048x1, .f32⟩
  | 108 => ⟨S8x2048x1, .f32⟩
  | 109 => ⟨S_, .f32⟩
  | 110 => ⟨S8x2048x1, .f32⟩
  | 111 => ⟨S8x2048x1, .f32⟩
  | 112 => ⟨S8x2048x1, .f32⟩
  | 113 => ⟨S8x2048x512, .f32⟩
  | 114 => ⟨S8x2048x512, .f32⟩
  | 115 => ⟨S1x1x512, .f32⟩
  | 116 => ⟨S8x2048x512, .f32⟩
  | 117 => ⟨S8x2048x512, .f32⟩
  | 118 => ⟨S8x16x128x8x64, .f32⟩
  | 119 => ⟨S128, .i32⟩
  | 120 => ⟨S_, .i32⟩
  | 121 => ⟨S_, .i32⟩
  | 122 => ⟨S128, .i32⟩
  | 123 => ⟨S128, .i32⟩
  | 124 => ⟨S128, .i32⟩
  | 125 => ⟨S_, .i32⟩
  | 126 => ⟨S128, .i32⟩
  | 127 => ⟨S128, .i1⟩
  | _ => ⟨S8x2048x1024, .f32⟩

abbrev hbmTy0_2 (i : Nat) : BufTy := match i % 128 with
  | 0 => ⟨S128, .i32⟩
  | 1 => ⟨S128, .i32⟩
  | 2 => ⟨S_, .i32⟩
  | 3 => ⟨S128, .i32⟩
  | 4 => ⟨S128, .i1⟩
  | 5 => ⟨S128, .i1⟩
  | 6 => ⟨S_, .i32⟩
  | 7 => ⟨S128, .i32⟩
  | 8 => ⟨S128, .i32⟩
  | 9 => ⟨S128, .i32⟩
  | 10 => ⟨S1x128, .i32⟩
  | 11 => ⟨S128x1, .i32⟩
  | 12 => ⟨S128x128, .i32⟩
  | 13 => ⟨S128x128, .i32⟩
  | 14 => ⟨S128x128, .i1⟩
  | 15 => ⟨S1x128x128, .i1⟩
  | 16 => ⟨S_, .f32⟩
  | 17 => ⟨S_, .f32⟩
  | 18 => ⟨S8x128x128, .i1⟩
  | 19 => ⟨S8x128x128, .f32⟩
  | 20 => ⟨S8x128x128, .f32⟩
  | 21 => ⟨S8x8x16x64x128, .f32⟩
  | 22 => ⟨S8x16x128x8x64, .f32⟩
  | 23 => ⟨S128x8, .f32⟩
  | 24 => ⟨S128x8x1, .f32⟩
  | 25 => ⟨S1x1x128x8x1, .f32⟩
  | 26 => ⟨S8x16x128x8x64, .f32⟩
  | 27 => ⟨S8x16x128x8x64, .f32⟩
  | 28 => ⟨S8x2048x512, .f32⟩
  | 29 => ⟨S8x2048x512, .f32⟩
  | 30 => ⟨S8x2048x1024, .f32⟩
  | 31 => ⟨S8x2048x1024, .f32⟩
  | 32 => ⟨S1x1024, .f32⟩
  | 33 => ⟨S1024, .f32⟩
  | 34 => ⟨S8x2048x1024, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S_, .f32⟩
  | 42 => ⟨S8x2048x1, .f32⟩
  | 43 => ⟨S8x2048x1, .f32⟩
  | 44 => ⟨S8x2048x1, .f32⟩
  | 45 => ⟨S8x2048x1024, .f32⟩
  | 46 => ⟨S8x2048x1024, .f32⟩
  | 47 => ⟨S1x1x1024, .f32⟩
  | 48 => ⟨S8x2048x1024, .f32⟩
  | 49 => ⟨S8x2048x1024, .f32⟩
  | 50 => ⟨S8x2048x1024, .f32⟩
  | 51 => ⟨S16384x1024, .f32⟩
  | 52 => ⟨S1x1024x2816, .f32⟩
  | 53 => ⟨S1024x2816, .f32⟩
  | 54 => ⟨S1024x2816, .bf16⟩
  | 55 => ⟨S1x1024x2816, .f32⟩
  | 56 => ⟨S1024x2816, .f32⟩
  | 57 => ⟨S1024x2816, .bf16⟩
  | 58 => ⟨S1x2816x1024, .f32⟩
  | 59 => ⟨S2816x1024, .f32⟩
  | 60 => ⟨S2816x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_2 : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_4 : Ref sig .tc := ⟨.hbm, 64, rfl⟩
abbrev main_call1_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_call2_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_6 : Ref sig .tc := ⟨.hbm, 74, rfl⟩
abbrev main_call3_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_8 : Ref sig .tc := ⟨.hbm, 88, rfl⟩
abbrev main_call4_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_9 : Ref sig .tc := ⟨.hbm, 93, rfl⟩
abbrev main_call5_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_10 : Ref sig .tc := ⟨.hbm, 98, rfl⟩
abbrev main_call6_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_11 : Ref sig .tc := ⟨.hbm, 103, rfl⟩
abbrev main_call7_v0 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_12 : Ref sig .tc := ⟨.hbm, 108, rfl⟩
abbrev main_call8_v0 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_13 : Ref sig .tc := ⟨.hbm, 113, rfl⟩
abbrev main_call9_v0 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_14 : Ref sig .tc := ⟨.hbm, 118, rfl⟩
abbrev main_call10_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_15 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_16 : Ref sig .tc := ⟨.hbm, 132, rfl⟩
abbrev main_call11_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_17 : Ref sig .tc := ⟨.hbm, 137, rfl⟩
abbrev main_call12_v0 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_18 : Ref sig .tc := ⟨.hbm, 142, rfl⟩
abbrev main_call13_v0 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_19 : Ref sig .tc := ⟨.hbm, 147, rfl⟩
abbrev main_call14_v0 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_20 : Ref sig .tc := ⟨.hbm, 152, rfl⟩
abbrev main_call15_v0 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_21 : Ref sig .tc := ⟨.hbm, 157, rfl⟩
abbrev main_call16_v0 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_22 : Ref sig .tc := ⟨.hbm, 162, rfl⟩
abbrev main_call17_v0 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_23 : Ref sig .tc := ⟨.hbm, 167, rfl⟩
abbrev main_call18_v0 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_c_24 : Ref sig .tc := ⟨.hbm, 172, rfl⟩
abbrev main_call19_v0 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_25 : Ref sig .tc := ⟨.hbm, 177, rfl⟩
abbrev main_call20_v0 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_c_26 : Ref sig .tc := ⟨.hbm, 182, rfl⟩
abbrev main_call21_v0 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_27 : Ref sig .tc := ⟨.hbm, 187, rfl⟩
abbrev main_call22_v0 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_c_28 : Ref sig .tc := ⟨.hbm, 192, rfl⟩
abbrev main_call23_v0 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_c_29 : Ref sig .tc := ⟨.hbm, 197, rfl⟩
abbrev main_call24_v0 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_c_30 : Ref sig .tc := ⟨.hbm, 202, rfl⟩
abbrev main_call25_v0 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_31 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_32 : Ref sig .tc := ⟨.hbm, 231, rfl⟩
abbrev main_v158 : Ref sig .tc := ⟨.hbm, 232, rfl⟩
abbrev main_v159 : Ref sig .tc := ⟨.hbm, 233, rfl⟩
abbrev main_cst_33 : Ref sig .tc := ⟨.hbm, 234, rfl⟩
abbrev main_v160 : Ref sig .tc := ⟨.hbm, 235, rfl⟩
abbrev main_v161 : Ref sig .tc := ⟨.hbm, 236, rfl⟩
abbrev main_cst_34 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_c_35 : Ref sig .tc := ⟨.hbm, 248, rfl⟩
abbrev main_call26_v0 : Ref sig .tc := ⟨.hbm, 249, rfl⟩
abbrev main_call26_v1 : Ref sig .tc := ⟨.hbm, 250, rfl⟩
abbrev main_call26_v2 : Ref sig .tc := ⟨.hbm, 251, rfl⟩
abbrev main_call26_v3 : Ref sig .tc := ⟨.hbm, 252, rfl⟩
abbrev main_call26_v4 : Ref sig .tc := ⟨.hbm, 253, rfl⟩
abbrev main_call26_v5 : Ref sig .tc := ⟨.hbm, 254, rfl⟩
abbrev main_call26_v6 : Ref sig .tc := ⟨.hbm, 255, rfl⟩
abbrev main_call26_v7 : Ref sig .tc := ⟨.hbm, 256, rfl⟩
abbrev main_call26_v8 : Ref sig .tc := ⟨.hbm, 257, rfl⟩
abbrev main_call26_c : Ref sig .tc := ⟨.hbm, 258, rfl⟩
abbrev main_call26_v9 : Ref sig .tc := ⟨.hbm, 259, rfl⟩
abbrev main_call26_v10 : Ref sig .tc := ⟨.hbm, 260, rfl⟩
abbrev main_call26_v11 : Ref sig .tc := ⟨.hbm, 261, rfl⟩
abbrev main_call26_c_0 : Ref sig .tc := ⟨.hbm, 262, rfl⟩
abbrev main_call26_v12 : Ref sig .tc := ⟨.hbm, 263, rfl⟩
abbrev main_call26_v13 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_cst_36 : Ref sig .tc := ⟨.hbm, 272, rfl⟩
abbrev main_call27_v0 : Ref sig .tc := ⟨.hbm, 273, rfl⟩
abbrev main_call27_v1 : Ref sig .tc := ⟨.hbm, 274, rfl⟩
abbrev main_call27_v2 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_cst_37 : Ref sig .tc := ⟨.hbm, 291, rfl⟩
abbrev main_v194 : Ref sig .tc := ⟨.hbm, 292, rfl⟩
abbrev main_v195 : Ref sig .tc := ⟨.hbm, 293, rfl⟩
abbrev main_cst_38 : Ref sig .tc := ⟨.hbm, 294, rfl⟩
abbrev main_v196 : Ref sig .tc := ⟨.hbm, 295, rfl⟩
abbrev main_v197 : Ref sig .tc := ⟨.hbm, 296, rfl⟩
abbrev main_cst_39 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩

abbrev nD : Nat := 1
abbrev τ : Topo := Topo.v7x

variable {F : FTy → Type} [FloatOps F]
-- ==== Proof.Even.KernelIdeal.State.lean ====
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! What one grid point of the even mixer holds: every staging buffer and every scratch buffer, each whole at some contents. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The contents of the buffer that `M` names on core `c`. -/
abbrev Cts (c : Dev nD) {sp : Space} {S : Shape} {e : EltTy} (M : Memref sig .tc sp S e) : Type := Buf (Elt F) (M.view.loc (c : Thread nD τ))
/-- `M`'s elements on core `c`, owned in full, at the contents `f`. -/
abbrev at' (c : Dev nD) {sp : Space} {S : Shape} {e : EltTy} (M : Memref sig .tc sp S e) (f : Cts (F := F) c M) : sProp 𝕄 :=
  M.view.loc (c : Thread nD τ) ↦[M.view.set]{fullShare} f
/-- `M`'s elements on core `c`, owned in full, at some contents. -/
abbrev any (c : Dev nD) {sp : Space} {S : Shape} {e : EltTy} (M : Memref sig .tc sp S e) : sProp 𝕄 :=
  iprop(∃ d, owns (c : Thread nD τ) M fullShare d)

theorem any_intro (c : Dev nD) {sp : Space} {S : Shape} {e : EltTy} (M : Memref sig .tc sp S e) (f : Cts (F := F) c M) :
    at' c M f ⊢ any (F := F) c M := by
  unfold any owns
  iintro H
  iexists _, f
  isplitr; swap; · iexact H
  ipureintro; rfl

/-- The four counters of the weight transfers, at zero. -/
abbrev idle (c : Dev nD) : sProp 𝕄 :=
  iprop(semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0)

variable (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .hbm S1x1024x2560 .f32) (harg4 : arg4.IsWhole)
  (arg5 : Memref sig .tc .vmem S4x512 .f32) (harg5 : arg5.IsWhole)
  (arg6 : Memref sig .tc .vmem S1x512 .f32) (harg6 : arg6.IsWhole)
  (arg7 : Memref sig .tc .vmem S2x256x512 .bf16) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S3x512 .f32) (harg11 : arg11.IsWhole)
  (arg12 : Memref sig .tc .hbm S1x1024x1024 .f32) (harg12 : arg12.IsWhole)
  (arg13 : Memref sig .tc .vmem S1x1024 .f32) (harg13 : arg13.IsWhole)
  (arg14 : Memref sig .tc .vmem S1x32x2816 .f32) (harg14 : arg14.IsWhole)
  (arg15 : Memref sig .tc .vmem S1x32x2816 .f32) (harg15 : arg15.IsWhole)
  (arg16 : Memref sig .tc .vmem S1x128x1024 .f32) (harg16 : arg16.IsWhole)
  (arg17 : Memref sig .tc .vmem S512x1024 .f32) (harg17 : arg17.IsWhole)
  (arg18 : Memref sig .tc .vmem S32x2816 .bf16) (harg18 : arg18.IsWhole)
  (arg19 : Memref sig .tc .vmem S32x2816 .bf16) (harg19 : arg19.IsWhole)
  (arg20 : Memref sig .tc .vmem S128x1024 .bf16) (harg20 : arg20.IsWhole)
  (arg21 : Memref sig .tc .vmem S1024x2560 .bf16) (harg21 : arg21.IsWhole)
  (arg22 : Memref sig .tc .vmem S1024x1024 .bf16) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S32x8x2560 .f32) (harg25 : arg25.IsWhole)
  (arg26 : Memref sig .tc .vmem S32x8x2560 .f32) (harg26 : arg26.IsWhole)
  (arg27 : Memref sig .tc .vmem S256x1024 .bf16) (harg27 : arg27.IsWhole)
  (arg28 : Memref sig .tc .vmem S256x1024 .bf16) (harg28 : arg28.IsWhole)
  (arg29 : Memref sig .tc .vmem S32x8x512 .f32) (harg29 : arg29.IsWhole)
  (arg30 : Memref sig .tc .vmem S256x512 .bf16) (harg30 : arg30.IsWhole)
  (arg31 : Memref sig .tc .vmem S256x1024 .f32) (harg31 : arg31.IsWhole)
  (arg32 : Memref sig .tc .vmem S1x8x512 .f32) (harg32 : arg32.IsWhole)
  (arg33 : Memref sig .tc .vmem S1x8x512 .f32) (harg33 : arg33.IsWhole)
  (arg34 : Memref sig .tc .vmem S1x8x512 .f32) (harg34 : arg34.IsWhole)
  (alloca_r0 : Memref sig .tc .vmem S2x512x2560 .f32) (halloca_r0 : alloca_r0.IsWhole)
  (alloca_r1 : Memref sig .tc .vmem S2x512x1024 .f32) (halloca_r1 : alloca_r1.IsWhole)

/-- All staging and scratch buffers of one call of the body. -/
def held (c : Dev nD) : sProp 𝕄 :=
  iprop(any (F := F) c arg1 ∗ any (F := F) c arg2 ∗ any (F := F) c arg3 ∗ any (F := F) c arg5 ∗ any (F := F) c arg6 ∗ any (F := F) c arg7 ∗ any (F := F) c arg8 ∗ any (F := F) c arg9 ∗ any (F := F) c arg10 ∗ any (F := F) c arg11 ∗ any (F := F) c arg13 ∗ any (F := F) c arg14 ∗ any (F := F) c arg15 ∗ any (F := F) c arg16 ∗ any (F := F) c arg17 ∗ any (F := F) c arg18 ∗ any (F := F) c arg19 ∗ any (F := F) c arg20 ∗ any (F := F) c arg21 ∗ any (F := F) c arg22 ∗ any (F := F) c arg23 ∗ any (F := F) c arg24 ∗ any (F := F) c arg25 ∗ any (F := F) c arg26 ∗ any (F := F) c arg27 ∗ any (F := F) c arg28 ∗ any (F := F) c arg29 ∗ any (F := F) c arg30 ∗ any (F := F) c arg31 ∗ any (F := F) c arg32 ∗ any (F := F) c arg33 ∗ any (F := F) c arg34 ∗ any (F := F) c alloca_r0 ∗ any (F := F) c alloca_r1)

end Cert.KernelIdeal.Hand

end
-- ==== Proof.Even.KernelIdeal.Fetch.lean ====
module

public import proofs.«01_k».proof.Proof.Even.KernelIdeal.State
public import proofs.«01_k».proof.Proof.Gen.KernelIdeal.Skeleton
public import proofs.«01_k».proof.Proof.Gen.KernelIdeal.Loops

/-! The four loops that convert the fetched weights to bf16, each by its invariant: the staging buffer keeps its contents (less the half that a transfer still fills), the bf16 weight is written. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The second half of weight 0's staging buffer. -/
abbrev upper0 (M : Memref sig .tc .vmem S2x512x2560 .f32) : Memref sig .tc .vmem S512x2560 .f32 :=
  (M.slice (Rect.unit (s := S2x512x2560) ![1, 0, 0] S1x512x2560.size inb_S2x512x2560_S1x512x2560_1_0_0) (fun _ => rfl)).squeeze S512x2560 squeezes_S1x512x2560_S512x2560

/-- The second half of weight 1's staging buffer. -/
abbrev upper1 (M : Memref sig .tc .vmem S2x512x1024 .f32) : Memref sig .tc .vmem S512x1024 .f32 :=
  (M.slice (Rect.unit (s := S2x512x1024) ![1, 0, 0] S1x512x1024.size inb_S2x512x1024_S1x512x1024_1_0_0) (fun _ => rfl)).squeeze S512x1024 squeezes_S1x512x1024_S512x1024

variable (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .hbm S1x1024x2560 .f32) (harg4 : arg4.IsWhole)
  (arg5 : Memref sig .tc .vmem S4x512 .f32) (harg5 : arg5.IsWhole)
  (arg6 : Memref sig .tc .vmem S1x512 .f32) (harg6 : arg6.IsWhole)
  (arg7 : Memref sig .tc .vmem S2x256x512 .bf16) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S3x512 .f32) (harg11 : arg11.IsWhole)
  (arg12 : Memref sig .tc .hbm S1x1024x1024 .f32) (harg12 : arg12.IsWhole)
  (arg13 : Memref sig .tc .vmem S1x1024 .f32) (harg13 : arg13.IsWhole)
  (arg14 : Memref sig .tc .vmem S1x32x2816 .f32) (harg14 : arg14.IsWhole)
  (arg15 : Memref sig .tc .vmem S1x32x2816 .f32) (harg15 : arg15.IsWhole)
  (arg16 : Memref sig .tc .vmem S1x128x1024 .f32) (harg16 : arg16.IsWhole)
  (arg17 : Memref sig .tc .vmem S512x1024 .f32) (harg17 : arg17.IsWhole)
  (arg18 : Memref sig .tc .vmem S32x2816 .bf16) (harg18 : arg18.IsWhole)
  (arg19 : Memref sig .tc .vmem S32x2816 .bf16) (harg19 : arg19.IsWhole)
  (arg20 : Memref sig .tc .vmem S128x1024 .bf16) (harg20 : arg20.IsWhole)
  (arg21 : Memref sig .tc .vmem S1024x2560 .bf16) (harg21 : arg21.IsWhole)
  (arg22 : Memref sig .tc .vmem S1024x1024 .bf16) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S32x8x2560 .f32) (harg25 : arg25.IsWhole)
  (arg26 : Memref sig .tc .vmem S32x8x2560 .f32) (harg26 : arg26.IsWhole)
  (arg27 : Memref sig .tc .vmem S256x1024 .bf16) (harg27 : arg27.IsWhole)
  (arg28 : Memref sig .tc .vmem S256x1024 .bf16) (harg28 : arg28.IsWhole)
  (arg29 : Memref sig .tc .vmem S32x8x512 .f32) (harg29 : arg29.IsWhole)
  (arg30 : Memref sig .tc .vmem S256x512 .bf16) (harg30 : arg30.IsWhole)
  (arg31 : Memref sig .tc .vmem S256x1024 .f32) (harg31 : arg31.IsWhole)
  (arg32 : Memref sig .tc .vmem S1x8x512 .f32) (harg32 : arg32.IsWhole)
  (arg33 : Memref sig .tc .vmem S1x8x512 .f32) (harg33 : arg33.IsWhole)
  (arg34 : Memref sig .tc .vmem S1x8x512 .f32) (harg34 : arg34.IsWhole)
  (alloca_r0 : Memref sig .tc .vmem S2x512x2560 .f32) (halloca_r0 : alloca_r0.IsWhole)
  (alloca_r1 : Memref sig .tc .vmem S2x512x1024 .f32) (halloca_r1 : alloca_r1.IsWhole)

set_option warn.classDefReducibility false in
/-- Conversion loop 1. -/
@[sl_loop] def convert1 (𝒱 : Variants) (c : Dev nD) (bd : Option 𝒱.V) (E : Set ℕ) (i : grid0.Coords) (h1 : k0_cond1 i = 1#1)
    (X : Cts (F := F) c alloca_r0) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 h1 where
  inv _ _ := iprop((alloca_r0.view.loc (c : Thread nD τ) ↦[alloca_r0.view.set \ (upper0 alloca_r0).view.set]{fullShare} X) ∗ (∃ f, at' c arg21 f))
  step k acc := by
    have hk : k.val < 8 := Nat.lt_of_lt_of_le k.isLt k0_t1_abs.2.1
    iintro ⟨Ha, ⟨%f, H⟩⟩
    unfold k0_t1_body
    sl_exec
    sl_step
    isplitl [Ha]; · iexact Ha
    iexists _; iexact H

set_option warn.classDefReducibility false in
/-- Conversion loop 2. -/
@[sl_loop] def convert2 (𝒱 : Variants) (c : Dev nD) (bd : Option 𝒱.V) (E : Set ℕ) (i : grid0.Coords) (h1 : k0_cond1 i = 1#1)
    (X : Cts (F := F) c alloca_r0) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 h1 where
  inv _ _ := iprop((alloca_r0.view.loc (c : Thread nD τ) ↦[alloca_r0.view.set]{fullShare} X) ∗ (∃ f, at' c arg21 f))
  step k acc := by
    have hk : k.val < 8 := Nat.lt_of_lt_of_le k.isLt k0_t2_abs.2.1
    iintro ⟨Ha, ⟨%f, H⟩⟩
    unfold k0_t2_body
    sl_exec
    sl_step
    isplitl [Ha]; · iexact Ha
    iexists _; iexact H

set_option warn.classDefReducibility false in
/-- Conversion loop 3. -/
@[sl_loop] def convert3 (𝒱 : Variants) (c : Dev nD) (bd : Option 𝒱.V) (E : Set ℕ) (i : grid0.Coords) (h1 : k0_cond1 i = 1#1)
    (X : Cts (F := F) c alloca_r1) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 h1 where
  inv _ _ := iprop((alloca_r1.view.loc (c : Thread nD τ) ↦[alloca_r1.view.set \ (upper1 alloca_r1).view.set]{fullShare} X) ∗ (∃ f, at' c arg22 f))
  step k acc := by
    have hk : k.val < 8 := Nat.lt_of_lt_of_le k.isLt k0_t3_abs.2.1
    iintro ⟨Ha, ⟨%f, H⟩⟩
    unfold k0_t3_body
    sl_exec
    sl_step
    isplitl [Ha]; · iexact Ha
    iexists _; iexact H

set_option warn.classDefReducibility false in
/-- Conversion loop 4. -/
@[sl_loop] def convert4 (𝒱 : Variants) (c : Dev nD) (bd : Option 𝒱.V) (E : Set ℕ) (i : grid0.Coords) (h1 : k0_cond1 i = 1#1)
    (X : Cts (F := F) c alloca_r1) :
    LoopInvTy_k0_t4 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 h1 where
  inv _ _ := iprop((alloca_r1.view.loc (c : Thread nD τ) ↦[alloca_r1.view.set]{fullShare} X) ∗ (∃ f, at' c arg22 f))
  step k acc := by
    have hk : k.val < 8 := Nat.lt_of_lt_of_le k.isLt k0_t4_abs.2.1
    iintro ⟨Ha, ⟨%f, H⟩⟩
    unfold k0_t4_body
    sl_exec
    sl_step
    isplitl [Ha]; · iexact Ha
    iexists _; iexact H

end Cert.KernelIdeal.Hand

end
-- ==== Proof.Even.KernelIdeal.First.lean ====
module

public import proofs.«01_k».proof.Proof.Even.KernelIdeal.Fetch

/-! The first grid point: the two weights are fetched from HBM through the staging buffers and converted, the carried states are cleared, and the first block of tokens is projected. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .hbm S1x1024x2560 .f32) (harg4 : arg4.IsWhole)
  (arg5 : Memref sig .tc .vmem S4x512 .f32) (harg5 : arg5.IsWhole)
  (arg6 : Memref sig .tc .vmem S1x512 .f32) (harg6 : arg6.IsWhole)
  (arg7 : Memref sig .tc .vmem S2x256x512 .bf16) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S3x512 .f32) (harg11 : arg11.IsWhole)
  (arg12 : Memref sig .tc .hbm S1x1024x1024 .f32) (harg12 : arg12.IsWhole)
  (arg13 : Memref sig .tc .vmem S1x1024 .f32) (harg13 : arg13.IsWhole)
  (arg14 : Memref sig .tc .vmem S1x32x2816 .f32) (harg14 : arg14.IsWhole)
  (arg15 : Memref sig .tc .vmem S1x32x2816 .f32) (harg15 : arg15.IsWhole)
  (arg16 : Memref sig .tc .vmem S1x128x1024 .f32) (harg16 : arg16.IsWhole)
  (arg17 : Memref sig .tc .vmem S512x1024 .f32) (harg17 : arg17.IsWhole)
  (arg18 : Memref sig .tc .vmem S32x2816 .bf16) (harg18 : arg18.IsWhole)
  (arg19 : Memref sig .tc .vmem S32x2816 .bf16) (harg19 : arg19.IsWhole)
  (arg20 : Memref sig .tc .vmem S128x1024 .bf16) (harg20 : arg20.IsWhole)
  (arg21 : Memref sig .tc .vmem S1024x2560 .bf16) (harg21 : arg21.IsWhole)
  (arg22 : Memref sig .tc .vmem S1024x1024 .bf16) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S32x8x2560 .f32) (harg25 : arg25.IsWhole)
  (arg26 : Memref sig .tc .vmem S32x8x2560 .f32) (harg26 : arg26.IsWhole)
  (arg27 : Memref sig .tc .vmem S256x1024 .bf16) (harg27 : arg27.IsWhole)
  (arg28 : Memref sig .tc .vmem S256x1024 .bf16) (harg28 : arg28.IsWhole)
  (arg29 : Memref sig .tc .vmem S32x8x512 .f32) (harg29 : arg29.IsWhole)
  (arg30 : Memref sig .tc .vmem S256x512 .bf16) (harg30 : arg30.IsWhole)
  (arg31 : Memref sig .tc .vmem S256x1024 .f32) (harg31 : arg31.IsWhole)
  (arg32 : Memref sig .tc .vmem S1x8x512 .f32) (harg32 : arg32.IsWhole)
  (arg33 : Memref sig .tc .vmem S1x8x512 .f32) (harg33 : arg33.IsWhole)
  (arg34 : Memref sig .tc .vmem S1x8x512 .f32) (harg34 : arg34.IsWhole)
  (alloca_r0 : Memref sig .tc .vmem S2x512x2560 .f32) (halloca_r0 : alloca_r0.IsWhole)
  (alloca_r1 : Memref sig .tc .vmem S2x512x1024 .f32) (halloca_r1 : alloca_r1.IsWhole)

set_option sl_exec.dmaWindow true in
set_option sl_exec.dmaWindowSet true in
theorem first_run (c : Dev nD) (i : grid0.Coords)
    (h1 : k0_cond1 i = 1#1) (h2 : Scalar.cmpi .ne (Scalar.extui (Scalar.cmpi .eq (BitVec.ofNat 32 (i 0).val) 0#32)) 0#32 = 1#1) (h3 : ¬ k0_cond3 i = 1#1) (h4 : ¬ k0_cond4 i = 1#1)
    (f4 : Cts (F := F) c arg4) (f12 : Cts (F := F) c arg12) (W : _) (K : PUnit → sProp 𝕄) :
    iprop(held (F := F) arg1 arg2 arg3 arg5 arg6 arg7 arg8 arg9 arg10 arg11 arg13 arg14 arg15 arg16 arg17 arg18 arg19 arg20 arg21 arg22 arg23 arg24 arg25 arg26 arg27 arg28 arg29 arg30 arg31 arg32 arg33 arg34 alloca_r0 alloca_r1 c ∗ at' c arg4 f4 ∗ at' c arg12 f12 ∗ idle (F := F) c ∗ owes (c : Thread nD τ) 0 W
      ∗ (iprop(held (F := F) arg1 arg2 arg3 arg5 arg6 arg7 arg8 arg9 arg10 arg11 arg13 arg14 arg15 arg16 arg17 arg18 arg19 arg20 arg21 arg22 arg23 arg24 arg25 arg26 arg27 arg28 arg29 arg30 arg31 arg32 arg33 arg34 alloca_r0 alloca_r1 c ∗ at' c arg4 f4 ∗ at' c arg12 f12 ∗ idle (F := F) c ∗ (∃ W', owes (c : Thread nD τ) 0 W')) -∗ K ⟨⟩))
    ⊢ wp frame (wpE (defs₀ (F := F)) Variants.none c none) Set.univ
      (cc0_even_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3) K := by
  unfold held any owns idle
  iintro ⟨⟨⟨%dH1, %fH1, -, H1⟩, ⟨%dH2, %fH2, -, H2⟩, ⟨%dH3, %fH3, -, H3⟩, ⟨%dH5, %fH5, -, H5⟩, ⟨%dH6, %fH6, -, H6⟩, ⟨%dH7, %fH7, -, H7⟩, ⟨%dH8, %fH8, -, H8⟩, ⟨%dH9, %fH9, -, H9⟩, ⟨%dH10, %fH10, -, H10⟩, ⟨%dH11, %fH11, -, H11⟩, ⟨%dH13, %fH13, -, H13⟩, ⟨%dH14, %fH14, -, H14⟩, ⟨%dH15, %fH15, -, H15⟩, ⟨%dH16, %fH16, -, H16⟩, ⟨%dH17, %fH17, -, H17⟩, ⟨%dH18, %fH18, -, H18⟩, ⟨%dH19, %fH19, -, H19⟩, ⟨%dH20, %fH20, -, H20⟩, ⟨%dH21, %fH21, -, H21⟩, ⟨%dH22, %fH22, -, H22⟩, ⟨%dH23, %fH23, -, H23⟩, ⟨%dH24, %fH24, -, H24⟩, ⟨%dH25, %fH25, -, H25⟩, ⟨%dH26, %fH26, -, H26⟩, ⟨%dH27, %fH27, -, H27⟩, ⟨%dH28, %fH28, -, H28⟩, ⟨%dH29, %fH29, -, H29⟩, ⟨%dH30, %fH30, -, H30⟩, ⟨%dH31, %fH31, -, H31⟩, ⟨%dH32, %fH32, -, H32⟩, ⟨%dH33, %fH33, -, H33⟩, ⟨%dH34, %fH34, -, H34⟩, ⟨%dHar0, %fHar0, -, Har0⟩, ⟨%dHar1, %fHar1, -, Har1⟩⟩, H4, H12, ⟨Hs0, Hs1, Hs2, Hs3⟩, HW, Hk⟩
  unfold cc0_even_mixer
  sl_exec_parts
  sl_step
  iapply Hk
  isplitl [H1 H2 H3 H5 H6 H7 H8 H9 H10 H11 H13 H14 H15 H16 H17 H18 H19 H20 H21 H22 H23 H24 H25 H26 H27 H28 H29 H30 H31 H32 H33 H34 Har0 Har1]
  · isplitl [H1]; · iapply any_intro; iexact H1
    isplitl [H2]; · iapply any_intro; iexact H2
    isplitl [H3]; · iapply any_intro; iexact H3
    isplitl [H5]; · iapply any_intro; iexact H5
    isplitl [H6]; · iapply any_intro; iexact H6
    isplitl [H7]; · iapply any_intro; iexact H7
    isplitl [H8]; · iapply any_intro; iexact H8
    isplitl [H9]; · iapply any_intro; iexact H9
    isplitl [H10]; · iapply any_intro; iexact H10
    isplitl [H11]; · iapply any_intro; iexact H11
    isplitl [H13]; · iapply any_intro; iexact H13
    isplitl [H14]; · iapply any_intro; iexact H14
    isplitl [H15]; · iapply any_intro; iexact H15
    isplitl [H16]; · iapply any_intro; iexact H16
    isplitl [H17]; · iapply any_intro; iexact H17
    isplitl [H18]; · iapply any_intro; iexact H18
    isplitl [H19]; · iapply any_intro; iexact H19
    isplitl [H20]; · iapply any_intro; iexact H20
    isplitl [H21]; · iapply any_intro; iexact H21
    isplitl [H22]; · iapply any_intro; iexact H22
    isplitl [H23]; · iapply any_intro; iexact H23
    isplitl [H24]; · iapply any_intro; iexact H24
    isplitl [H25]; · iapply any_intro; iexact H25
    isplitl [H26]; · iapply any_intro; iexact H26
    isplitl [H27]; · iapply any_intro; iexact H27
    isplitl [H28]; · iapply any_intro; iexact H28
    isplitl [H29]; · iapply any_intro; iexact H29
    isplitl [H30]; · iapply any_intro; iexact H30
    isplitl [H31]; · iapply any_intro; iexact H31
    isplitl [H32]; · iapply any_intro; iexact H32
    isplitl [H33]; · iapply any_intro; iexact H33
    isplitl [H34]; · iapply any_intro; iexact H34
    isplitl [Har0]; · iapply any_intro; iexact Har0
    iapply any_intro; iexact Har1
  isplitl [H4]; · iexact H4
  isplitl [H12]; · iexact H12
  isplitl [Hs0 Hs1 Hs2 Hs3]
  · isplitl [Hs0]; · iexact Hs0
    isplitl [Hs1]; · iexact Hs1
    isplitl [Hs2]; · iexact Hs2
    iexact Hs3
  iexists _; iexact HW

end Cert.KernelIdeal.Hand

end
-- ==== Proof.Even.KernelIdeal.Middle.lean ====
module

public import proofs.«01_k».proof.Proof.Even.KernelIdeal.State

/-! A grid point between the first and the last: one block is projected while the block before it is mixed and finished. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .hbm S1x1024x2560 .f32) (harg4 : arg4.IsWhole)
  (arg5 : Memref sig .tc .vmem S4x512 .f32) (harg5 : arg5.IsWhole)
  (arg6 : Memref sig .tc .vmem S1x512 .f32) (harg6 : arg6.IsWhole)
  (arg7 : Memref sig .tc .vmem S2x256x512 .bf16) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S3x512 .f32) (harg11 : arg11.IsWhole)
  (arg12 : Memref sig .tc .hbm S1x1024x1024 .f32) (harg12 : arg12.IsWhole)
  (arg13 : Memref sig .tc .vmem S1x1024 .f32) (harg13 : arg13.IsWhole)
  (arg14 : Memref sig .tc .vmem S1x32x2816 .f32) (harg14 : arg14.IsWhole)
  (arg15 : Memref sig .tc .vmem S1x32x2816 .f32) (harg15 : arg15.IsWhole)
  (arg16 : Memref sig .tc .vmem S1x128x1024 .f32) (harg16 : arg16.IsWhole)
  (arg17 : Memref sig .tc .vmem S512x1024 .f32) (harg17 : arg17.IsWhole)
  (arg18 : Memref sig .tc .vmem S32x2816 .bf16) (harg18 : arg18.IsWhole)
  (arg19 : Memref sig .tc .vmem S32x2816 .bf16) (harg19 : arg19.IsWhole)
  (arg20 : Memref sig .tc .vmem S128x1024 .bf16) (harg20 : arg20.IsWhole)
  (arg21 : Memref sig .tc .vmem S1024x2560 .bf16) (harg21 : arg21.IsWhole)
  (arg22 : Memref sig .tc .vmem S1024x1024 .bf16) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S32x8x2560 .f32) (harg25 : arg25.IsWhole)
  (arg26 : Memref sig .tc .vmem S32x8x2560 .f32) (harg26 : arg26.IsWhole)
  (arg27 : Memref sig .tc .vmem S256x1024 .bf16) (harg27 : arg27.IsWhole)
  (arg28 : Memref sig .tc .vmem S256x1024 .bf16) (harg28 : arg28.IsWhole)
  (arg29 : Memref sig .tc .vmem S32x8x512 .f32) (harg29 : arg29.IsWhole)
  (arg30 : Memref sig .tc .vmem S256x512 .bf16) (harg30 : arg30.IsWhole)
  (arg31 : Memref sig .tc .vmem S256x1024 .f32) (harg31 : arg31.IsWhole)
  (arg32 : Memref sig .tc .vmem S1x8x512 .f32) (harg32 : arg32.IsWhole)
  (arg33 : Memref sig .tc .vmem S1x8x512 .f32) (harg33 : arg33.IsWhole)
  (arg34 : Memref sig .tc .vmem S1x8x512 .f32) (harg34 : arg34.IsWhole)
  (alloca_r0 : Memref sig .tc .vmem S2x512x2560 .f32) (halloca_r0 : alloca_r0.IsWhole)
  (alloca_r1 : Memref sig .tc .vmem S2x512x1024 .f32) (halloca_r1 : alloca_r1.IsWhole)

theorem middle_run (c : Dev nD) (i : grid0.Coords)
    (h1 : ¬ k0_cond1 i = 1#1) (h2 : ¬ Scalar.cmpi .ne (Scalar.extui (Scalar.cmpi .eq (BitVec.ofNat 32 (i 0).val) 0#32)) 0#32 = 1#1) (h3 : k0_cond3 i = 1#1) (h4 : ¬ k0_cond4 i = 1#1)
    (f4 : Cts (F := F) c arg4) (f12 : Cts (F := F) c arg12) (W : _) (K : PUnit → sProp 𝕄) :
    iprop(held (F := F) arg1 arg2 arg3 arg5 arg6 arg7 arg8 arg9 arg10 arg11 arg13 arg14 arg15 arg16 arg17 arg18 arg19 arg20 arg21 arg22 arg23 arg24 arg25 arg26 arg27 arg28 arg29 arg30 arg31 arg32 arg33 arg34 alloca_r0 alloca_r1 c ∗ at' c arg4 f4 ∗ at' c arg12 f12 ∗ idle (F := F) c ∗ owes (c : Thread nD τ) 0 W
      ∗ (iprop(held (F := F) arg1 arg2 arg3 arg5 arg6 arg7 arg8 arg9 arg10 arg11 arg13 arg14 arg15 arg16 arg17 arg18 arg19 arg20 arg21 arg22 arg23 arg24 arg25 arg26 arg27 arg28 arg29 arg30 arg31 arg32 arg33 arg34 alloca_r0 alloca_r1 c ∗ at' c arg4 f4 ∗ at' c arg12 f12 ∗ idle (F := F) c ∗ (∃ W', owes (c : Thread nD τ) 0 W')) -∗ K ⟨⟩))
    ⊢ wp frame (wpE (defs₀ (F := F)) Variants.none c none) Set.univ
      (cc0_even_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3) K := by
  unfold held any owns idle
  iintro ⟨⟨⟨%dH1, %fH1, -, H1⟩, ⟨%dH2, %fH2, -, H2⟩, ⟨%dH3, %fH3, -, H3⟩, ⟨%dH5, %fH5, -, H5⟩, ⟨%dH6, %fH6, -, H6⟩, ⟨%dH7, %fH7, -, H7⟩, ⟨%dH8, %fH8, -, H8⟩, ⟨%dH9, %fH9, -, H9⟩, ⟨%dH10, %fH10, -, H10⟩, ⟨%dH11, %fH11, -, H11⟩, ⟨%dH13, %fH13, -, H13⟩, ⟨%dH14, %fH14, -, H14⟩, ⟨%dH15, %fH15, -, H15⟩, ⟨%dH16, %fH16, -, H16⟩, ⟨%dH17, %fH17, -, H17⟩, ⟨%dH18, %fH18, -, H18⟩, ⟨%dH19, %fH19, -, H19⟩, ⟨%dH20, %fH20, -, H20⟩, ⟨%dH21, %fH21, -, H21⟩, ⟨%dH22, %fH22, -, H22⟩, ⟨%dH23, %fH23, -, H23⟩, ⟨%dH24, %fH24, -, H24⟩, ⟨%dH25, %fH25, -, H25⟩, ⟨%dH26, %fH26, -, H26⟩, ⟨%dH27, %fH27, -, H27⟩, ⟨%dH28, %fH28, -, H28⟩, ⟨%dH29, %fH29, -, H29⟩, ⟨%dH30, %fH30, -, H30⟩, ⟨%dH31, %fH31, -, H31⟩, ⟨%dH32, %fH32, -, H32⟩, ⟨%dH33, %fH33, -, H33⟩, ⟨%dH34, %fH34, -, H34⟩, ⟨%dHar0, %fHar0, -, Har0⟩, ⟨%dHar1, %fHar1, -, Har1⟩⟩, H4, H12, ⟨Hs0, Hs1, Hs2, Hs3⟩, HW, Hk⟩
  unfold cc0_even_mixer
  sl_exec_parts
  sl_step
  iapply Hk
  isplitl [H1 H2 H3 H5 H6 H7 H8 H9 H10 H11 H13 H14 H15 H16 H17 H18 H19 H20 H21 H22 H23 H24 H25 H26 H27 H28 H29 H30 H31 H32 H33 H34 Har0 Har1]
  · isplitl [H1]; · iapply any_intro; iexact H1
    isplitl [H2]; · iapply any_intro; iexact H2
    isplitl [H3]; · iapply any_intro; iexact H3
    isplitl [H5]; · iapply any_intro; iexact H5
    isplitl [H6]; · iapply any_intro; iexact H6
    isplitl [H7]; · iapply any_intro; iexact H7
    isplitl [H8]; · iapply any_intro; iexact H8
    isplitl [H9]; · iapply any_intro; iexact H9
    isplitl [H10]; · iapply any_intro; iexact H10
    isplitl [H11]; · iapply any_intro; iexact H11
    isplitl [H13]; · iapply any_intro; iexact H13
    isplitl [H14]; · iapply any_intro; iexact H14
    isplitl [H15]; · iapply any_intro; iexact H15
    isplitl [H16]; · iapply any_intro; iexact H16
    isplitl [H17]; · iapply any_intro; iexact H17
    isplitl [H18]; · iapply any_intro; iexact H18
    isplitl [H19]; · iapply any_intro; iexact H19
    isplitl [H20]; · iapply any_intro; iexact H20
    isplitl [H21]; · iapply any_intro; iexact H21
    isplitl [H22]; · iapply any_intro; iexact H22
    isplitl [H23]; · iapply any_intro; iexact H23
    isplitl [H24]; · iapply any_intro; iexact H24
    isplitl [H25]; · iapply any_intro; iexact H25
    isplitl [H26]; · iapply any_intro; iexact H26
    isplitl [H27]; · iapply any_intro; iexact H27
    isplitl [H28]; · iapply any_intro; iexact H28
    isplitl [H29]; · iapply any_intro; iexact H29
    isplitl [H30]; · iapply any_intro; iexact H30
    isplitl [H31]; · iapply any_intro; iexact H31
    isplitl [H32]; · iapply any_intro; iexact H32
    isplitl [H33]; · iapply any_intro; iexact H33
    isplitl [H34]; · iapply any_intro; iexact H34
    isplitl [Har0]; · iapply any_intro; iexact Har0
    iapply any_intro; iexact Har1
  isplitl [H4]; · iexact H4
  isplitl [H12]; · iexact H12
  isplitl [Hs0 Hs1 Hs2 Hs3]
  · isplitl [Hs0]; · iexact Hs0
    isplitl [Hs1]; · iexact Hs1
    isplitl [Hs2]; · iexact Hs2
    iexact Hs3
  iexists _; iexact HW

end Cert.KernelIdeal.Hand

end
-- ==== Proof.Even.KernelIdeal.Last.lean ====
module

public import proofs.«01_k».proof.Proof.Even.KernelIdeal.State

/-! The last grid point: the last block is mixed and finished. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .hbm S1x1024x2560 .f32) (harg4 : arg4.IsWhole)
  (arg5 : Memref sig .tc .vmem S4x512 .f32) (harg5 : arg5.IsWhole)
  (arg6 : Memref sig .tc .vmem S1x512 .f32) (harg6 : arg6.IsWhole)
  (arg7 : Memref sig .tc .vmem S2x256x512 .bf16) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S3x512 .f32) (harg11 : arg11.IsWhole)
  (arg12 : Memref sig .tc .hbm S1x1024x1024 .f32) (harg12 : arg12.IsWhole)
  (arg13 : Memref sig .tc .vmem S1x1024 .f32) (harg13 : arg13.IsWhole)
  (arg14 : Memref sig .tc .vmem S1x32x2816 .f32) (harg14 : arg14.IsWhole)
  (arg15 : Memref sig .tc .vmem S1x32x2816 .f32) (harg15 : arg15.IsWhole)
  (arg16 : Memref sig .tc .vmem S1x128x1024 .f32) (harg16 : arg16.IsWhole)
  (arg17 : Memref sig .tc .vmem S512x1024 .f32) (harg17 : arg17.IsWhole)
  (arg18 : Memref sig .tc .vmem S32x2816 .bf16) (harg18 : arg18.IsWhole)
  (arg19 : Memref sig .tc .vmem S32x2816 .bf16) (harg19 : arg19.IsWhole)
  (arg20 : Memref sig .tc .vmem S128x1024 .bf16) (harg20 : arg20.IsWhole)
  (arg21 : Memref sig .tc .vmem S1024x2560 .bf16) (harg21 : arg21.IsWhole)
  (arg22 : Memref sig .tc .vmem S1024x1024 .bf16) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S32x8x2560 .f32) (harg25 : arg25.IsWhole)
  (arg26 : Memref sig .tc .vmem S32x8x2560 .f32) (harg26 : arg26.IsWhole)
  (arg27 : Memref sig .tc .vmem S256x1024 .bf16) (harg27 : arg27.IsWhole)
  (arg28 : Memref sig .tc .vmem S256x1024 .bf16) (harg28 : arg28.IsWhole)
  (arg29 : Memref sig .tc .vmem S32x8x512 .f32) (harg29 : arg29.IsWhole)
  (arg30 : Memref sig .tc .vmem S256x512 .bf16) (harg30 : arg30.IsWhole)
  (arg31 : Memref sig .tc .vmem S256x1024 .f32) (harg31 : arg31.IsWhole)
  (arg32 : Memref sig .tc .vmem S1x8x512 .f32) (harg32 : arg32.IsWhole)
  (arg33 : Memref sig .tc .vmem S1x8x512 .f32) (harg33 : arg33.IsWhole)
  (arg34 : Memref sig .tc .vmem S1x8x512 .f32) (harg34 : arg34.IsWhole)
  (alloca_r0 : Memref sig .tc .vmem S2x512x2560 .f32) (halloca_r0 : alloca_r0.IsWhole)
  (alloca_r1 : Memref sig .tc .vmem S2x512x1024 .f32) (halloca_r1 : alloca_r1.IsWhole)

theorem last_run (c : Dev nD) (i : grid0.Coords)
    (h1 : ¬ k0_cond1 i = 1#1) (h2 : ¬ Scalar.cmpi .ne (Scalar.extui (Scalar.cmpi .eq (BitVec.ofNat 32 (i 0).val) 0#32)) 0#32 = 1#1) (h3 : ¬ k0_cond3 i = 1#1) (h4 : k0_cond4 i = 1#1)
    (f4 : Cts (F := F) c arg4) (f12 : Cts (F := F) c arg12) (W : _) (K : PUnit → sProp 𝕄) :
    iprop(held (F := F) arg1 arg2 arg3 arg5 arg6 arg7 arg8 arg9 arg10 arg11 arg13 arg14 arg15 arg16 arg17 arg18 arg19 arg20 arg21 arg22 arg23 arg24 arg25 arg26 arg27 arg28 arg29 arg30 arg31 arg32 arg33 arg34 alloca_r0 alloca_r1 c ∗ at' c arg4 f4 ∗ at' c arg12 f12 ∗ idle (F := F) c ∗ owes (c : Thread nD τ) 0 W
      ∗ (iprop(held (F := F) arg1 arg2 arg3 arg5 arg6 arg7 arg8 arg9 arg10 arg11 arg13 arg14 arg15 arg16 arg17 arg18 arg19 arg20 arg21 arg22 arg23 arg24 arg25 arg26 arg27 arg28 arg29 arg30 arg31 arg32 arg33 arg34 alloca_r0 alloca_r1 c ∗ at' c arg4 f4 ∗ at' c arg12 f12 ∗ idle (F := F) c ∗ (∃ W', owes (c : Thread nD τ) 0 W')) -∗ K ⟨⟩))
    ⊢ wp frame (wpE (defs₀ (F := F)) Variants.none c none) Set.univ
      (cc0_even_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3) K := by
  unfold held any owns idle
  iintro ⟨⟨⟨%dH1, %fH1, -, H1⟩, ⟨%dH2, %fH2, -, H2⟩, ⟨%dH3, %fH3, -, H3⟩, ⟨%dH5, %fH5, -, H5⟩, ⟨%dH6, %fH6, -, H6⟩, ⟨%dH7, %fH7, -, H7⟩, ⟨%dH8, %fH8, -, H8⟩, ⟨%dH9, %fH9, -, H9⟩, ⟨%dH10, %fH10, -, H10⟩, ⟨%dH11, %fH11, -, H11⟩, ⟨%dH13, %fH13, -, H13⟩, ⟨%dH14, %fH14, -, H14⟩, ⟨%dH15, %fH15, -, H15⟩, ⟨%dH16, %fH16, -, H16⟩, ⟨%dH17, %fH17, -, H17⟩, ⟨%dH18, %fH18, -, H18⟩, ⟨%dH19, %fH19, -, H19⟩, ⟨%dH20, %fH20, -, H20⟩, ⟨%dH21, %fH21, -, H21⟩, ⟨%dH22, %fH22, -, H22⟩, ⟨%dH23, %fH23, -, H23⟩, ⟨%dH24, %fH24, -, H24⟩, ⟨%dH25, %fH25, -, H25⟩, ⟨%dH26, %fH26, -, H26⟩, ⟨%dH27, %fH27, -, H27⟩, ⟨%dH28, %fH28, -, H28⟩, ⟨%dH29, %fH29, -, H29⟩, ⟨%dH30, %fH30, -, H30⟩, ⟨%dH31, %fH31, -, H31⟩, ⟨%dH32, %fH32, -, H32⟩, ⟨%dH33, %fH33, -, H33⟩, ⟨%dH34, %fH34, -, H34⟩, ⟨%dHar0, %fHar0, -, Har0⟩, ⟨%dHar1, %fHar1, -, Har1⟩⟩, H4, H12, ⟨Hs0, Hs1, Hs2, Hs3⟩, HW, Hk⟩
  unfold cc0_even_mixer
  sl_exec_parts
  sl_step
  iapply Hk
  isplitl [H1 H2 H3 H5 H6 H7 H8 H9 H10 H11 H13 H14 H15 H16 H17 H18 H19 H20 H21 H22 H23 H24 H25 H26 H27 H28 H29 H30 H31 H32 H33 H34 Har0 Har1]
  · isplitl [H1]; · iapply any_intro; iexact H1
    isplitl [H2]; · iapply any_intro; iexact H2
    isplitl [H3]; · iapply any_intro; iexact H3
    isplitl [H5]; · iapply any_intro; iexact H5
    isplitl [H6]; · iapply any_intro; iexact H6
    isplitl [H7]; · iapply any_intro; iexact H7
    isplitl [H8]; · iapply any_intro; iexact H8
    isplitl [H9]; · iapply any_intro; iexact H9
    isplitl [H10]; · iapply any_intro; iexact H10
    isplitl [H11]; · iapply any_intro; iexact H11
    isplitl [H13]; · iapply any_intro; iexact H13
    isplitl [H14]; · iapply any_intro; iexact H14
    isplitl [H15]; · iapply any_intro; iexact H15
    isplitl [H16]; · iapply any_intro; iexact H16
    isplitl [H17]; · iapply any_intro; iexact H17
    isplitl [H18]; · iapply any_intro; iexact H18
    isplitl [H19]; · iapply any_intro; iexact H19
    isplitl [H20]; · iapply any_intro; iexact H20
    isplitl [H21]; · iapply any_intro; iexact H21
    isplitl [H22]; · iapply any_intro; iexact H22
    isplitl [H23]; · iapply any_intro; iexact H23
    isplitl [H24]; · iapply any_intro; iexact H24
    isplitl [H25]; · iapply any_intro; iexact H25
    isplitl [H26]; · iapply any_intro; iexact H26
    isplitl [H27]; · iapply any_intro; iexact H27
    isplitl [H28]; · iapply any_intro; iexact H28
    isplitl [H29]; · iapply any_intro; iexact H29
    isplitl [H30]; · iapply any_intro; iexact H30
    isplitl [H31]; · iapply any_intro; iexact H31
    isplitl [H32]; · iapply any_intro; iexact H32
    isplitl [H33]; · iapply any_intro; iexact H33
    isplitl [H34]; · iapply any_intro; iexact H34
    isplitl [Har0]; · iapply any_intro; iexact Har0
    iapply any_intro; iexact Har1
  isplitl [H4]; · iexact H4
  isplitl [H12]; · iexact H12
  isplitl [Hs0 Hs1 Hs2 Hs3]
  · isplitl [Hs0]; · iexact Hs0
    isplitl [Hs1]; · iexact Hs1
    isplitl [Hs2]; · iexact Hs2
    iexact Hs3
  iexists _; iexact HW

end Cert.KernelIdeal.Hand

end
-- ==== Proof.Even.KernelIdeal.Frame.lean ====
module

public import proofs.«01_k».proof.Proof.Even.KernelIdeal.First
public import proofs.«01_k».proof.Proof.Even.KernelIdeal.Middle
public import proofs.«01_k».proof.Proof.Even.KernelIdeal.Last
public import proofs.«01_k».proof.Proof.Gen.KernelIdeal.Frame

/-! The frame of the even mixer: from any memory the program terminates, nothing faults, the arguments end unchanged and every counter ends at zero. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four cells of the weight transfers. -/
abbrev osem0 : Fin 4 → SemLoc sig := fun j => (![SemLoc.dma 27, SemLoc.dma 28, SemLoc.dma 29, SemLoc.dma 30] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = idle (F := F) c := by
  rw [Pipeline.ownSems0_eq_of_list c osem0 [0, 1, 2, 3] (by decide) (by decide)]; rfl

/-- The two weights that stay in HBM and that the body fetches itself. -/
def H0 : Finset (Ref sig .tc) := {main_arg1, main_arg10}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg1 ↦{fullShare} V m c main_arg1) ∗ ((c : Thread nD τ).loc main_arg10 ↦{fullShare} V m c main_arg10)) := by
  rw [BI.bigSep_eq_bigSepL_of_eq [main_arg1, main_arg10] (by decide) (by decide)]; rfl

theorem Phi_eq (c : Dev nD) :
    (Pipeline.ΦD osem0 spec0 H0 (V m) c : sProp 𝕄)
      = iprop(iprop(any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5) ∗ any (F := F) c (Memref.whole cc0_scratch6) ∗ any (F := F) c (Memref.whole cc0_scratch7) ∗ any (F := F) c (Memref.whole cc0_scratch8) ∗ any (F := F) c (Memref.whole cc0_scratch9) ∗ any (F := F) c (Memref.whole cc0_scratch10) ∗ any (F := F) c (Memref.whole cc0_scratch11) ∗ any (F := F) c (Memref.whole cc0_scratch12) ∗ any (F := F) c (Memref.whole cc0_scratch13) ∗ any (F := F) c (Memref.whole cc0_scoped0) ∗ any (F := F) c (Memref.whole cc0_scoped2))
          ∗ (∃ r, prngReg c r) ∗ idle (F := F) c
          ∗ iprop(at' c (Memref.whole main_arg1) (V m c main_arg1) ∗ at' c (Memref.whole main_arg10) (V m c main_arg10))) := by
  rw [Pipeline.ΦD_eq, scopedRest0_eq, ownSems00_eq, hbmPts0_eq]
  simp only [any, owns_whole, at', (Memref.isWhole_whole _).set_eq_univ]; try rfl

/-- The proof data: no contents are stated of any staging buffer; what the body keeps between points is the scratch, the
    counters at zero and the two weights in HBM. -/
def dats (_ : Fin 1) (c : Dev nD) : Dat τ (Elt F) Unit ℕ (Pipeline.UD sig nD τ) ℕ cfg0 c where
  A w := V m c (Pipeline.arrRef spec0 w)
  after w t := fun _ => default
  Φ _ := Pipeline.ΦD osem0 spec0 H0 (V m) c
  q w := Pipeline.shareOf spec0 w
  owed _ := 0

/-- Which phases a grid point runs. -/
theorem phases : ∀ t : Fin grid0.N, let i := grid0.coords t
    (k0_cond1 i = 1#1 ∧ Scalar.cmpi .ne (Scalar.extui (Scalar.cmpi .eq (BitVec.ofNat 32 (i 0).val) 0#32)) 0#32 = 1#1 ∧ ¬ k0_cond3 i = 1#1 ∧ ¬ k0_cond4 i = 1#1)
    ∨ (¬ k0_cond1 i = 1#1 ∧ ¬ Scalar.cmpi .ne (Scalar.extui (Scalar.cmpi .eq (BitVec.ofNat 32 (i 0).val) 0#32)) 0#32 = 1#1 ∧ k0_cond3 i = 1#1 ∧ ¬ k0_cond4 i = 1#1)
    ∨ (¬ k0_cond1 i = 1#1 ∧ ¬ Scalar.cmpi .ne (Scalar.extui (Scalar.cmpi .eq (BitVec.ofNat 32 (i 0).val) 0#32)) 0#32 = 1#1 ∧ ¬ k0_cond3 i = 1#1 ∧ k0_cond4 i = 1#1) := by decide

/-- One grid point: from the buffers at any contents to the buffers at some contents. -/
theorem point (c : Dev nD) (t : Fin cfg0.N) (f1 : Cts (F := F) c (Memref.whole main_arg1)) (f10 : Cts (F := F) c (Memref.whole main_arg10)) (W : _) (K : PUnit → sProp 𝕄) :
    iprop(held (F := F) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scoped0) (Memref.whole cc0_scoped2) c ∗ at' c (Memref.whole main_arg1) f1 ∗ at' c (Memref.whole main_arg10) f10 ∗ idle (F := F) c ∗ owes (c : Thread nD τ) 0 W
      ∗ (iprop(held (F := F) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scoped0) (Memref.whole cc0_scoped2) c ∗ at' c (Memref.whole main_arg1) f1 ∗ at' c (Memref.whole main_arg10) f10 ∗ idle (F := F) c ∗ (∃ W', owes (c : Thread nD τ) 0 W')) -∗ K ⟨⟩))
    ⊢ wp frame (wpE (defs₀ (F := F)) Variants.none c none) Set.univ (bodyAt0 t) K := by
  rcases phases t with ⟨h1, h2, h3, h4⟩ | ⟨h1, h2, h3, h4⟩ | ⟨h1, h2, h3, h4⟩
  · exact first_run (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) h1 h2 h3 h4 f1 f10 W K
  · exact middle_run (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) h1 h2 h3 h4 f1 f10 W K
  · exact last_run (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) h1 h2 h3 h4 f1 f10 W K

/-- What a point takes and gives back. -/
def bodyRes (c : Dev nD) (t : Fin cfg0.N) : sProp 𝕄 :=
  iprop(Pipeline.ΦD osem0 spec0 H0 (V m) c ∗ (dats m 0 c).owesAt () t.castSucc
    ∗ any (F := F) c (st0_0 t) ∗ any (F := F) c (st0_1 t) ∗ any (F := F) c (st0_2 t) ∗ any (F := F) c (st0_3 t) ∗ any (F := F) c (st0_4 t) ∗ any (F := F) c (st0_5 t) ∗ any (F := F) c (st0_6 t) ∗ any (F := F) c (st0_7 t) ∗ any (F := F) c (st0_8 t) ∗ any (F := F) c (st0_9 t) ∗ any (F := F) c (st0_10 t) ∗ any (F := F) c (st0_11 t) ∗ any (F := F) c (st0_12 t) ∗ any (F := F) c (st0_13 t) ∗ any (F := F) c (st0_14 t) ∗ any (F := F) c (st0_15 t) ∗ any (F := F) c (st0_16 t) ∗ any (F := F) c (st0_17 t))

theorem sound_body (c : Dev nD) (t : Fin cfg0.N) :
    bodyRes m c t ⊢ wp frame (wpE (defs₀ (F := F)) Variants.none c none) Set.univ (bodyAt0 t) (fun _ => bodyRes m c t) := by
  unfold bodyRes
  rw [Phi_eq]
  unfold Dat.owesAt Pipeline.owesWithin
  rw [show (dats m 0 c).owed t.castSucc = 0 from rfl]
  iintro ⟨⟨⟨Hs0, Hs1, Hs2, Hs3, Hs4, Hs5, Hs6, Hs7, Hs8, Hs9, Hs10, Hs11, Hs12, Hs13, Hs14, Hs15⟩, Hg, Hq, ⟨Ha1, Ha10⟩⟩, ⟨%W, -, HW⟩, Hw0, Hw1, Hw2, Hw3, Hw4, Hw5, Hw6, Hw7, Hw8, Hw9, Hw10, Hw11, Hw12, Hw13, Hw14, Hw15, Hw16, Hw17⟩
  iapply (point c t (V m c main_arg1) (V m c main_arg10) W _)
  unfold held
  isplitl [Hs0 Hs1 Hs2 Hs3 Hs4 Hs5 Hs6 Hs7 Hs8 Hs9 Hs10 Hs11 Hs12 Hs13 Hs14 Hs15 Hw0 Hw1 Hw2 Hw3 Hw4 Hw5 Hw6 Hw7 Hw8 Hw9 Hw10 Hw11 Hw12 Hw13 Hw14 Hw15 Hw16 Hw17]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  isplitl [Ha1]; · iexact Ha1
  isplitl [Ha10]; · iexact Ha10
  isplitl [Hq]; · iexact Hq
  isplitl [HW]; · iexact HW
  iintro ⟨⟨Hw0, Hw1, Hw2, Hw3, Hw4, Hw5, Hw6, Hw7, Hw8, Hw9, Hw10, Hw11, Hw12, Hw13, Hw14, Hw15, Hw16, Hw17, Hs0, Hs1, Hs2, Hs3, Hs4, Hs5, Hs6, Hs7, Hs8, Hs9, Hs10, Hs11, Hs12, Hs13, Hs14, Hs15⟩, Ha1, Ha10, Hq, ⟨%W', HW⟩⟩
  isplitl [Hs0 Hs1 Hs2 Hs3 Hs4 Hs5 Hs6 Hs7 Hs8 Hs9 Hs10 Hs11 Hs12 Hs13 Hs14 Hs15 Hg Hq Ha1 Ha10]
  · isplitl [Hs0 Hs1 Hs2 Hs3 Hs4 Hs5 Hs6 Hs7 Hs8 Hs9 Hs10 Hs11 Hs12 Hs13 Hs14 Hs15]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    isplitl [Hg]; · iexact Hg
    isplitl [Hq]; · iexact Hq
    isplitl [Ha1]; · iexact Ha1
    iexact Ha10
  isplitl [HW]
  · iexists W'; isplitr; · ipureintro; exact fun _ _ => Or.inl trivial
    iexact HW
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Hw15]; · iexact Hw15
  isplitl [Hw16]; · iexact Hw16
  iexact Hw17

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ (fun _ => true) := fun t => by
  rw [bigSep_W0, defs₀_row]
  exact triple_restated (sound_body m c t) rfl .rfl fun _ => .rfl

theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ)
    (fun r => Pipeline.RDat.FramePost cfg0 (fun c => (dats m 0 c).toRForget fun _ => true) (V m) r ∧ r.2.sem = fun _ => 0) :=
  Pipeline.θ_run_frame_dma_forget_shared (Q' := _) cfgs (dats m) (0 : Fin 1) launch₀0 osem0 defs₀ Variants.none (fun _ => true) ownSemFacts0 H0 H0_sub m ρ main
    (hbody := body_obligation m) (hq := fun _ _ _ => rfl)
    (howed := fun _ _ => rfl) (V := V m) (hmain := hmain' m) (hA := fun _ _ => rfl)
    (hin := fun _ => .rfl) (hout := fun _ => .rfl)

/-- The frame claim's statement, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      (Eq.mp (congrFun (Pipeline.RDat.ArrAt_in ((dats m 0 c).toRForget fun _ => true) 11 rfl _) _) ((h.1 c).1 11)).trans (V_main_arg13 m c),
      (Eq.mp (congrFun (Pipeline.RDat.ArrAt_in ((dats m 0 c).toRForget fun _ => true) 12 rfl _) _) ((h.1 c).1 12)).trans (V_main_arg14 m c),
      (Eq.mp (congrFun (Pipeline.RDat.ArrAt_in ((dats m 0 c).toRForget fun _ => true) 13 rfl _) _) ((h.1 c).1 13)).trans (V_main_arg15 m c)⟩, h.2⟩) (run_main m ρ)

end Cert.KernelIdeal.Hand

end
-- ==== Proof.Ffn.Row.lean ====
module

public import Idealize.ShloMosaic.Lib.Pointwise

/-! One row of the feed-forward block over the ideal values: RMS norm, SwiGLU, the down product, RMS norm again, and the
residual sum. Both programs are shown to compute this function of each row. -/

@[expose] public section

noncomputable section

namespace Cert.Ffn

open Idealize.ShloMosaic

/-- RMS norm of the row `x` with the weights `g`: the mean of the squares over 1024 lanes, plus the epsilon word. -/
def rms (x g : Fin 1024 → EReal) (k : Fin 1024) : EReal :=
  x k * Ideal.rsqrt (Ideal.div (∑ q, x q * x q) (Ideal.ofBits .f32 1149239296#32) + Ideal.ofBits .f32 897988541#32) * g k

/-- One hidden unit: `silu (y · a) * (y · b)`. -/
def unit (y a b : Fin 1024 → EReal) : EReal :=
  (∑ q, y q * a q) * Ideal.logistic (∑ q, y q * a q) * ∑ q, y q * b q

/-- The block on one row. -/
def row (x g₁ : Fin 1024 → EReal) (wg wu : Fin 1024 → Fin 2816 → EReal) (wd : Fin 2816 → Fin 1024 → EReal)
    (g₂ : Fin 1024 → EReal) (k : Fin 1024) : EReal :=
  x k + rms (fun c => ∑ j, unit (rms x g₁) (fun q => wg q j) (fun q => wu q j) * wd j c) g₂ k

/-- Four runs of hidden units laid side by side. -/
def side (a b c : Fin 768 → EReal) (d : Fin 512 → EReal) (j : Fin 2816) : EReal :=
  if h : j.val < 768 then a ⟨j.val, h⟩
  else if h : j.val - 768 < 768 then b ⟨j.val - 768, h⟩
  else if h : j.val - 768 - 768 < 768 then c ⟨j.val - 768 - 768, h⟩
  else d ⟨j.val - 768 - 768 - 768, by omega⟩

/-- Cutting a row of hidden units into its four runs and laying them side by side gives it back. -/
theorem side_cut (f : Fin 2816 → EReal) :
    side (fun q => f ⟨0 + q.val, by omega⟩) (fun q => f ⟨768 + q.val, by omega⟩) (fun q => f ⟨1536 + q.val, by omega⟩)
      (fun q => f ⟨2304 + q.val, by omega⟩) = f := by
  funext j
  unfold side
  split
  · exact congrArg f (Fin.ext (by simp))
  split
  · exact congrArg f (Fin.ext (by simp; omega))
  split
  · exact congrArg f (Fin.ext (by simp; omega))
  · exact congrArg f (Fin.ext (by simp; omega))

end Cert.Ffn

end
-- ==== Proof.Ffn.Stages.lean ====
module

public import proofs.«01_k».proof.Proof.Ffn.Row
public import proofs.«01_k».proof.Proof.Gen.Kernel2Ideal.Value

/-! The kernel's stages read at an index: each stored value of the feed-forward body as a function of the rows it is
computed from. -/

@[expose] public section

noncomputable section

namespace Cert.Ffn

open Cert.Kernel2Ideal Cert.Kernel2Ideal.Gen
open Idealize.ShloMosaic

/-! ## RMS norms -/

theorem norm_first (v0 v2) (r : Fin 512) (k : Fin 1024) :
    k0_pay3 (F := Ideal) v0 v2 (ix2 r k) = rms (fun q => v0 (ix2 r q)) (fun q => v2 (ix2 0 q)) k := by
  unfold k0_pay3; pointwise; rfl

theorem norm_b0 (v27 v29) (r : Fin 128) (k : Fin 1024) :
    k0_pay8 (F := Ideal) (k0_pay5 v27) (k0_pay6 v29) (k0_pay7 v27) (ix2 r k) = rms (fun q => v27 (ix2 r q)) (fun q => v29 (ix2 0 q)) k := by
  unfold k0_pay8 k0_pay5 k0_pay6 k0_pay7; pointwise [k0_pay5]; rfl

theorem norm_b1 (v54 v56) (r : Fin 128) (k : Fin 1024) :
    k0_pay10 (F := Ideal) v54 v56 (ix2 r k) = rms (fun q => v54 (ix2 r q)) (fun q => v56 (ix2 0 q)) k := by
  unfold k0_pay10; pointwise; rfl

theorem norm_b2 (v81 v83) (r : Fin 128) (k : Fin 1024) :
    k0_pay13 (F := Ideal) v81 v83 (ix2 r k) = rms (fun q => v81 (ix2 r q)) (fun q => v83 (ix2 0 q)) k := by
  unfold k0_pay13; pointwise; rfl

/-- The second half's normed rows: four runs of 128 rows, one under the other, the last normed here. -/
theorem norm_second (a b c v108 v110) (r : Fin 512) (k : Fin 1024) :
    k0_pay19 (F := Ideal) a b c (k0_pay15 v108) (k0_pay16 v110) (k0_pay17 v108) (ix2 r k)
      = if h : r.val < 128 then a (ix2 ⟨r.val, h⟩ k)
        else if h : r.val - 128 < 128 then b (ix2 ⟨r.val - 128, h⟩ k)
        else if h : r.val - 128 - 128 < 128 then c (ix2 ⟨r.val - 128 - 128, h⟩ k)
        else rms (fun q => v108 (ix2 ⟨r.val - 128 - 128 - 128, by omega⟩ q)) (fun q => v110 (ix2 0 q)) k := by
  unfold k0_pay19 k0_pay15 k0_pay16 k0_pay17; pointwise [k0_pay15]; rfl

/-! ## Hidden units -/

theorem units_a0 (v0 v2 v17 v22) (r : Fin 512) (j : Fin 768) :
    k0_pay4 (F := Ideal) v0 v2 v17 v22 (ix2 r j)
      = unit (fun q => k0_pay3 v0 v2 (ix2 r q)) (fun q => v17 (ix2 q j)) (fun q => v22 (ix2 q j)) := by
  unfold k0_pay4; pointwise; rfl

theorem units_a1 (y a b) (r : Fin 512) (j : Fin 768) :
    k0_pay9 (F := Ideal) y a b (ix2 r j) = unit (fun q => y (ix2 r q)) (fun q => a (ix2 q j)) (fun q => b (ix2 q j)) := by
  unfold k0_pay9; pointwise; rfl

theorem units_a2 (y a b) (r : Fin 512) (j : Fin 768) :
    k0_pay12 (F := Ideal) (k0_pay11 y a b) (ix2 r j) = unit (fun q => y (ix2 r q)) (fun q => a (ix2 q j)) (fun q => b (ix2 q j)) := by
  unfold k0_pay12 k0_pay11; pointwise; rfl

theorem units_a3 (y a b) (r : Fin 512) (j : Fin 512) :
    k0_pay14 (F := Ideal) y a b (ix2 r j) = unit (fun q => y (ix2 r q)) (fun q => a (ix2 q j)) (fun q => b (ix2 q j)) := by
  unfold k0_pay14; pointwise; rfl

theorem units_b0 (y₀ y₁ y₂ y₃ g n a b) (r : Fin 512) (j : Fin 768) :
    k0_pay20 (F := Ideal) y₀ y₁ y₂ y₃ g n a b (ix2 r j)
      = unit (fun q => k0_pay19 y₀ y₁ y₂ y₃ g n (ix2 r q)) (fun q => a (ix2 q j)) (fun q => b (ix2 q j)) := by
  unfold k0_pay20; pointwise; rfl

theorem units_b1 (y a b) (r : Fin 512) (j : Fin 768) :
    k0_pay22 (F := Ideal) y a b (ix2 r j) = unit (fun q => y (ix2 r q)) (fun q => a (ix2 q j)) (fun q => b (ix2 q j)) := by
  unfold k0_pay22; pointwise; rfl

theorem units_b2 (y a b) (r : Fin 512) (j : Fin 768) :
    k0_pay24 (F := Ideal) y a b (ix2 r j) = unit (fun q => y (ix2 r q)) (fun q => a (ix2 q j)) (fun q => b (ix2 q j)) := by
  unfold k0_pay24; pointwise; rfl

theorem units_b3 (y a b) (r : Fin 512) (j : Fin 512) :
    k0_pay27 (F := Ideal) y a b (ix2 r j) = unit (fun q => y (ix2 r q)) (fun q => a (ix2 q j)) (fun q => b (ix2 q j)) := by
  unfold k0_pay27; pointwise; rfl

/-! ## The down products and the last sums -/

theorem down_a (a b c d w) (r : Fin 512) (k : Fin 1024) :
    k0_pay18 (F := Ideal) a b c d w (ix2 r k)
      = ∑ j, side (fun q => a (ix2 r q)) (fun q => b (ix2 r q)) (fun q => c (ix2 r q)) (fun q => d (ix2 r q)) j * w (ix2 j k) := by
  unfold k0_pay18; pointwise; rfl

theorem out_a0 (a b c d w x g) (r : Fin 128) (k : Fin 1024) :
    k0_pay21 (F := Ideal) a b c d w x g (ix2 r k)
      = x (ix2 r k) + rms (fun q => k0_pay18 a b c d w (ix2 ⟨r.val, by omega⟩ q)) (fun q => g (ix2 0 q)) k := by
  unfold k0_pay21; pointwise; rfl

theorem out_a1 (f x g) (r : Fin 128) (k : Fin 1024) :
    k0_pay23 (F := Ideal) f x g (ix2 r k)
      = x (ix2 r k) + rms (fun q => f (ix2 ⟨128 + r.val, by omega⟩ q)) (fun q => g (ix2 0 q)) k := by
  unfold k0_pay23; pointwise; rfl

theorem out_a2 (f x g) (r : Fin 128) (k : Fin 1024) :
    k0_pay26 (F := Ideal) (k0_pay25 f) x g (ix2 r k)
      = x (ix2 r k) + rms (fun q => f (ix2 ⟨256 + r.val, by omega⟩ q)) (fun q => g (ix2 0 q)) k := by
  unfold k0_pay26 k0_pay25; pointwise; rfl

theorem out_a3 (f x g) (r : Fin 128) (k : Fin 1024) :
    k0_pay1 (F := Ideal) (k0_pay28 f) (k0_pay29 x) (k0_pay30 g) (k0_pay31 f) (ix2 r k)
      = x (ix2 r k) + rms (fun q => f (ix2 ⟨384 + r.val, by omega⟩ q)) (fun q => g (ix2 0 q)) k := by
  unfold k0_pay1 k0_pay28 k0_pay29 k0_pay30 k0_pay31; pointwise [k0_pay28]; rfl

theorem out_b (a b c d w x g) (r : Fin 512) (k : Fin 1024) :
    k0_pay2 (F := Ideal) a b c d w x g (ix2 r k)
      = x (ix2 r k) + rms (fun q => ∑ j, side (fun p => a (ix2 r p)) (fun p => b (ix2 r p)) (fun p => c (ix2 r p)) (fun p => d (ix2 r p)) j * w (ix2 j q))
          (fun q => g (ix2 0 q)) k := by
  unfold k0_pay2; pointwise; rfl

end Cert.Ffn

end
-- ==== Proof.Ffn.Block.lean ====
module

public import proofs.«01_k».proof.Proof.Ffn.Stages

/-! What one grid point writes: row `r` of the output block is the block's function of row `r` of the input block. -/

@[expose] public section

set_option maxRecDepth 16384

noncomputable section

namespace Cert.Ffn

open Cert.Kernel2Ideal Cert.Kernel2Ideal.Gen
open Idealize.ShloMosaic

/-- A load of the rectangle at `(o₀, o₁)` of a whole buffer, read at an index. -/
theorem load_apply {κ : Kind} {sp : Space} {A B n₀ n₁ : ℕ} {e : EltTy} (M : Memref sig κ sp ⟨2, ![A, B]⟩ e) (hM : M.IsWhole)
    (x : Vec Ideal ⟨2, ![A, B]⟩ e) (o₀ o₁ : ℕ) (inb) (r : Fin n₀) (k : Fin n₁) (r' : Fin A) (k' : Fin B)
    (hr : r'.val = o₀ + r.val) (hk : k'.val = o₁ + k.val) :
    View.readAt (Elt Ideal) M.view (Rect.unit (s := ⟨2, ![A, B]⟩) ![o₀, o₁] ![n₀, n₁] inb).toLoadRect (hM.unread x) (ix2 r k)
      = x (ix2 r' k') := by
  rw [View.readAt_eq_ld, hM.read_unread]
  refine congrArg x (funext fun a => Fin.ext ?_)
  match a with
  | ⟨0, _⟩ => show o₀ + 1 * r.val = r'.val; omega
  | ⟨1, _⟩ => show o₁ + 1 * k.val = k'.val; omega

section rows

variable (x0 : Vec Ideal S1024x1024 .f32) (x1 : Vec Ideal S1x1024 .f32) (x2 x3 : Vec Ideal S1024x2816 .bf16)
  (x4 : Vec Ideal S2816x1024 .bf16) (x5 : Vec Ideal S1x1024 .f32)

/-- The normed row `R` of `x0`. -/
def normed (R : Fin 1024) (k : Fin 1024) : EReal := rms (fun q => x0 (ix2 R q)) (fun q => x1 (ix2 0 q)) k

/-- Hidden unit `j` of row `R`. -/
def hidden (R : Fin 1024) (j : Fin 2816) : EReal := unit (normed x0 x1 R) (fun q => x2 (ix2 q j)) (fun q => x3 (ix2 q j))

/-- The down product of row `R`. -/
def down (R : Fin 1024) (k : Fin 1024) : EReal := ∑ j, hidden x0 x1 x2 x3 R j * x4 (ix2 j k)

/-- The block's function of a row of `x0`. -/
def blockOut (y : S1024x1024.Idx) : EReal :=
  row (fun q => x0 (ix2 (y 0) q)) (fun q => x1 (ix2 0 q)) (fun q j => x2 (ix2 q j)) (fun q j => x3 (ix2 q j))
    (fun j q => x4 (ix2 j q)) (fun q => x5 (ix2 0 q)) (y 1)

variable {x0 x1 x2 x3 x4 x5}

/-- A sum of a loaded row and its norm, in the loads' terms, is the block's function. -/
theorem blockOut_of (R k : Fin 1024) {v : EReal} {f g : Fin 1024 → EReal} (hv : v = x0 (ix2 R k))
    (hf : ∀ k, f k = down x0 x1 x2 x3 x4 R k) (hg : ∀ k, g k = x5 (ix2 0 k)) :
    v + rms f g k = blockOut x0 x1 x2 x3 x4 x5 (ix2 R k) := by
  rw [hv, funext hf, funext hg]; rfl

theorem normed_of (R : Fin 1024) (k : Fin 1024) {f g : Fin 1024 → EReal} (hf : ∀ q, f q = x0 (ix2 R q)) (hg : ∀ q, g q = x1 (ix2 0 q)) :
    rms f g k = normed x0 x1 R k := by
  rw [funext hf, funext hg]; rfl

theorem hidden_of (R : Fin 1024) (j : Fin 2816) {y a b : Fin 1024 → EReal} (hy : ∀ q, y q = normed x0 x1 R q)
    (ha : ∀ q, a q = x2 (ix2 q j)) (hb : ∀ q, b q = x3 (ix2 q j)) : unit y a b = hidden x0 x1 x2 x3 R j := by
  rw [funext hy, funext ha, funext hb]; rfl

/-- Four runs of hidden units side by side, times the down weight. -/
theorem down_of (R : Fin 1024) (k : Fin 1024) {a b c : Fin 768 → EReal} {d : Fin 512 → EReal} {w : Fin 2816 → EReal}
    (ha : ∀ q, a q = hidden x0 x1 x2 x3 R ⟨0 + q.val, by omega⟩) (hb : ∀ q, b q = hidden x0 x1 x2 x3 R ⟨768 + q.val, by omega⟩)
    (hc : ∀ q, c q = hidden x0 x1 x2 x3 R ⟨1536 + q.val, by omega⟩) (hd : ∀ q, d q = hidden x0 x1 x2 x3 R ⟨2304 + q.val, by omega⟩)
    (hw : ∀ j, w j = x4 (ix2 j k)) : (∑ j, side a b c d j * w j) = down x0 x1 x2 x3 x4 R k := by
  rw [funext ha, funext hb, funext hc, funext hd, funext hw, side_cut]; rfl

/-- The second half's normed rows are the norms of rows 512 and on. -/
theorem second_of {va vb vc vd : FVec Ideal S128x1024 .f32} {g : FVec Ideal S1x1024 .f32}
    (ha : ∀ (r : Fin 128) q, va (ix2 r q) = x0 (ix2 ⟨512 + r.val, by omega⟩ q))
    (hb : ∀ (r : Fin 128) q, vb (ix2 r q) = x0 (ix2 ⟨640 + r.val, by omega⟩ q))
    (hc : ∀ (r : Fin 128) q, vc (ix2 r q) = x0 (ix2 ⟨768 + r.val, by omega⟩ q))
    (hd : ∀ (r : Fin 128) q, vd (ix2 r q) = x0 (ix2 ⟨896 + r.val, by omega⟩ q))
    (hg : ∀ q, g (ix2 0 q) = x1 (ix2 0 q)) (r : Fin 512) (k : Fin 1024) :
    k0_pay19 (F := Ideal) (k0_pay8 (k0_pay5 va) (k0_pay6 g) (k0_pay7 va)) (k0_pay10 vb g) (k0_pay13 vc g) (k0_pay15 vd) (k0_pay16 g) (k0_pay17 vd) (ix2 r k)
      = normed x0 x1 ⟨512 + r.val, by omega⟩ k := by
  rw [norm_second]
  split
  · rw [norm_b0]; exact normed_of _ _ (fun q => ha _ q) hg
  split
  · rw [norm_b1]; refine normed_of _ _ (fun q => (hb _ q).trans ?_) hg
    exact congrArg (fun R => x0 (ix2 R q)) (Fin.ext (by simp; omega))
  split
  · rw [norm_b2]; refine normed_of _ _ (fun q => (hc _ q).trans ?_) hg
    exact congrArg (fun R => x0 (ix2 R q)) (Fin.ext (by simp; omega))
  · refine normed_of _ _ (fun q => (hd _ q).trans ?_) hg
    exact congrArg (fun R => x0 (ix2 R q)) (Fin.ext (by simp; omega))

end rows

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1024 .f32) (harg7 : arg7.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x1024 .f32)

/-- The rectangle of `n` rows at row `o` reaches row `o + r`. -/
theorem emb_rows {n o : ℕ} (inb) (r : Fin n) (k : Fin 1024) (h : o + r.val < 1024) :
    (Rect.unit (s := S1024x1024) ![o, 0] ![n, 1024] inb).emb (ix2 r k) = ix2 ⟨o + r.val, h⟩ k := by
  refine funext fun a => Fin.ext ?_
  match a with
  | ⟨0, _⟩ => show o + 1 * r.val = o + r.val; omega
  | ⟨1, _⟩ => show 0 + 1 * k.val = k.val; omega

/-! ## The run's stages -/

theorem normed_first (r : Fin 512) (k : Fin 1024) :
    kernelRun0_A.sl.r (F := Ideal) c arg1 harg1 arg2 harg2 x0 x1 (ix2 r k) = normed x0 x1 ⟨0 + r.val, by omega⟩ k :=
  (norm_first _ _ r k).trans (normed_of _ _ (fun _ => load_apply _ _ _ _ _ _ _ _ _ _ rfl (Nat.zero_add _).symm)
    (fun _ => load_apply _ _ _ _ _ _ _ _ _ _ rfl (Nat.zero_add _).symm))

theorem normed_second (r : Fin 512) (k : Fin 1024) :
    kernelRun0_A.sl.r_16 (F := Ideal) c arg1 harg1 arg2 harg2 x0 x1 (ix2 r k) = normed x0 x1 ⟨512 + r.val, by omega⟩ k :=
  second_of (fun _ _ => load_apply _ _ _ _ _ _ _ _ _ _ rfl (Nat.zero_add _).symm)
    (fun _ _ => load_apply _ _ _ _ _ _ _ _ _ _ rfl (Nat.zero_add _).symm)
    (fun _ _ => load_apply _ _ _ _ _ _ _ _ _ _ rfl (Nat.zero_add _).symm)
    (fun _ _ => load_apply _ _ _ _ _ _ _ _ _ _ rfl (Nat.zero_add _).symm)
    (fun _ => load_apply _ _ _ _ _ _ _ _ _ _ rfl (Nat.zero_add _).symm) r k

theorem hidden_a0 (r : Fin 512) (j : Fin 768) :
    kernelRun0_A.sl.r_1 (F := Ideal) c arg1 harg1 arg2 harg2 arg3 harg3 arg4 harg4 x0 x1 x2 x3 (ix2 r j) = hidden x0 x1 x2 x3 ⟨0 + r.val, by omega⟩ ⟨0 + j.val, by omega⟩ :=
  (units_a0 _ _ _ _ r j).trans (hidden_of _ _ (fun q => normed_first c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_a1 (r : Fin 512) (j : Fin 768) :
    kernelRun0_A.sl.r_6 (F := Ideal) c arg1 harg1 arg2 harg2 arg3 harg3 arg4 harg4 x0 x1 x2 x3 (ix2 r j) = hidden x0 x1 x2 x3 ⟨0 + r.val, by omega⟩ ⟨768 + j.val, by omega⟩ :=
  (units_a1 _ _ _ r j).trans (hidden_of _ _ (fun q => normed_first c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_a2 (r : Fin 512) (j : Fin 768) :
    kernelRun0_A.sl.r_9 (F := Ideal) c arg1 harg1 arg2 harg2 arg3 harg3 arg4 harg4 x0 x1 x2 x3 (ix2 r j) = hidden x0 x1 x2 x3 ⟨0 + r.val, by omega⟩ ⟨1536 + j.val, by omega⟩ :=
  (units_a2 _ _ _ r j).trans (hidden_of _ _ (fun q => normed_first c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_a3 (r : Fin 512) (j : Fin 512) :
    kernelRun0_A.sl.r_11 (F := Ideal) c arg1 harg1 arg2 harg2 arg3 harg3 arg4 harg4 x0 x1 x2 x3 (ix2 r j) = hidden x0 x1 x2 x3 ⟨0 + r.val, by omega⟩ ⟨2304 + j.val, by omega⟩ :=
  (units_a3 _ _ _ r j).trans (hidden_of _ _ (fun q => normed_first c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_b0 (r : Fin 512) (j : Fin 768) :
    kernelRun0_A.sl.r_17 (F := Ideal) c arg1 harg1 arg2 harg2 arg3 harg3 arg4 harg4 x0 x1 x2 x3 (ix2 r j) = hidden x0 x1 x2 x3 ⟨512 + r.val, by omega⟩ ⟨0 + j.val, by omega⟩ :=
  (units_b0 _ _ _ _ _ _ _ _ r j).trans (hidden_of _ _ (fun q => normed_second c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_b1 (r : Fin 512) (j : Fin 768) :
    kernelRun0_A.sl.r_18 (F := Ideal) c arg1 harg1 arg2 harg2 arg3 harg3 arg4 harg4 x0 x1 x2 x3 (ix2 r j) = hidden x0 x1 x2 x3 ⟨512 + r.val, by omega⟩ ⟨768 + j.val, by omega⟩ :=
  (units_b1 _ _ _ r j).trans (hidden_of _ _ (fun q => normed_second c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_b2 (r : Fin 512) (j : Fin 768) :
    kernelRun0_A.sl.r_19 (F := Ideal) c arg1 harg1 arg2 harg2 arg3 harg3 arg4 harg4 x0 x1 x2 x3 (ix2 r j) = hidden x0 x1 x2 x3 ⟨512 + r.val, by omega⟩ ⟨1536 + j.val, by omega⟩ :=
  (units_b2 _ _ _ r j).trans (hidden_of _ _ (fun q => normed_second c arg1 harg1 arg2 harg2 x0 x1 r q) (fun _ => load_apply _ _ _ _ _ _ _ _ _ _ (Nat.zero_add _).symm rfl) (fun _ => load_apply _ _ _ _ _ _ _ _ _ _ (Nat.zero_add _).symm rfl))

theorem hidden_b3 (r : Fin 512) (j : Fin 512) :
    kernelRun0_A.sl.r_21 (F := Ideal) c arg1 harg1 arg2 harg2 arg3 harg3 arg4 harg4 x0 x1 x2 x3 (ix2 r j) = hidden x0 x1 x2 x3 ⟨512 + r.val, by omega⟩ ⟨2304 + j.val, by omega⟩ :=
  (units_b3 _ _ _ r j).trans (hidden_of _ _ (fun q => normed_second c arg1 harg1 arg2 harg2 x0 x1 r q) (fun _ => load_apply _ _ _ _ _ _ _ _ _ _ (Nat.zero_add _).symm rfl) (fun _ => load_apply _ _ _ _ _ _ _ _ _ _ (Nat.zero_add _).symm rfl))

/-- The first half's down products. -/
theorem down_first (r : Fin 512) (k : Fin 1024) :
    kernelRun0_A.sl.r_15 (F := Ideal) c arg1 harg1 arg2 harg2 arg3 harg3 arg4 harg4 arg5 harg5 x0 x1 x2 x3 x4 (ix2 r k)
      = down x0 x1 x2 x3 x4 ⟨0 + r.val, by omega⟩ k :=
  (down_a _ _ _ _ _ r k).trans (down_of _ _ (fun q => hidden_a0 c arg1 harg1 arg2 harg2 arg3 harg3 arg4 harg4 x0 x1 x2 x3 r q) (fun q => hidden_a1 c arg1 harg1 arg2 harg2 arg3 harg3 arg4 harg4 x0 x1 x2 x3 r q)
    (fun q => hidden_a2 c arg1 harg1 arg2 harg2 arg3 harg3 arg4 harg4 x0 x1 x2 x3 r q) (fun q => hidden_a3 c arg1 harg1 arg2 harg2 arg3 harg3 arg4 harg4 x0 x1 x2 x3 r q) (fun _ => load_apply _ _ _ _ _ _ _ _ _ _ (Nat.zero_add _).symm (Nat.zero_add _).symm))

/-- The whole block the grid point leaves. -/
theorem out_apply (y : S1024x1024.Idx) : out0_A_6 (F := Ideal) c i arg1 harg1 arg2 harg2 arg3 harg3 arg4 harg4 arg5 harg5 arg6 harg6 arg7 harg7 x0 x1 x2 x3 x4 x5 y
    = blockOut x0 x1 x2 x3 x4 x5 y := by
  unfold out0_A_6
  refine View.read_writes_apply_of_pieces _ _ (blockOut x0 x1 x2 x3 x4 x5) _ ?_ y ((cover0_A_6 c i arg1 harg1 arg2 harg2 arg3 harg3 arg4 harg4 arg5 harg5 arg6 harg6 arg7 harg7 x0 x1 x2 x3 x4 x5) y)
  unfold kernelRun0_A
  dsimp only
  simp only [List.forall_mem_cons, List.not_mem_nil, false_imp_iff, implies_true, and_true]
  refine ⟨?_, ?_, ?_, ?_, ?_⟩ <;> intro z <;> idx_vars z
  · refine (out_b _ _ _ _ _ _ _ z0 z1).trans ?_
    rw [emb_rows _ z0 z1 (by omega)]
    exact blockOut_of _ _ (load_apply _ _ _ _ _ _ _ _ _ _ rfl (Nat.zero_add _).symm) (fun k => down_of _ _ (fun q => hidden_b0 c arg1 harg1 arg2 harg2 arg3 harg3 arg4 harg4 x0 x1 x2 x3 z0 q) (fun q => hidden_b1 c arg1 harg1 arg2 harg2 arg3 harg3 arg4 harg4 x0 x1 x2 x3 z0 q)
      (fun q => hidden_b2 c arg1 harg1 arg2 harg2 arg3 harg3 arg4 harg4 x0 x1 x2 x3 z0 q) (fun q => hidden_b3 c arg1 harg1 arg2 harg2 arg3 harg3 arg4 harg4 x0 x1 x2 x3 z0 q) (fun _ => load_apply _ _ _ _ _ _ _ _ _ _ (Nat.zero_add _).symm (Nat.zero_add _).symm))
      (fun _ => (load_apply _ _ _ _ _ _ _ _ _ _ rfl (Nat.zero_add _).symm))
  · refine (out_a3 (kernelRun0_A.sl.r_15 c arg1 harg1 arg2 harg2 arg3 harg3 arg4 harg4 arg5 harg5 x0 x1 x2 x3 x4) _ _ z0 z1).trans ?_
    rw [emb_rows _ z0 z1 (by omega)]
    exact blockOut_of _ _ (load_apply _ _ _ _ _ _ _ _ _ _ rfl (Nat.zero_add _).symm)
      (fun k => (down_first c arg1 harg1 arg2 harg2 arg3 harg3 arg4 harg4 arg5 harg5 x0 x1 x2 x3 x4 _ k).trans (congrArg (fun R => down x0 x1 x2 x3 x4 R k) (Fin.ext (by simp))))
      (fun _ => (load_apply _ _ _ _ _ _ _ _ _ _ rfl (Nat.zero_add _).symm))
  · refine (out_a2 (kernelRun0_A.sl.r_15 c arg1 harg1 arg2 harg2 arg3 harg3 arg4 harg4 arg5 harg5 x0 x1 x2 x3 x4) _ _ z0 z1).trans ?_
    rw [emb_rows _ z0 z1 (by omega)]
    exact blockOut_of _ _ (load_apply _ _ _ _ _ _ _ _ _ _ rfl (Nat.zero_add _).symm)
      (fun k => (down_first c arg1 harg1 arg2 harg2 arg3 harg3 arg4 harg4 arg5 harg5 x0 x1 x2 x3 x4 _ k).trans (congrArg (fun R => down x0 x1 x2 x3 x4 R k) (Fin.ext (by simp))))
      (fun _ => (load_apply _ _ _ _ _ _ _ _ _ _ rfl (Nat.zero_add _).symm))
  · refine (out_a1 _ _ _ z0 z1).trans ?_
    rw [emb_rows _ z0 z1 (by omega)]
    exact blockOut_of _ _ (load_apply _ _ _ _ _ _ _ _ _ _ rfl (Nat.zero_add _).symm)
      (fun k => (down_first c arg1 harg1 arg2 harg2 arg3 harg3 arg4 harg4 arg5 harg5 x0 x1 x2 x3 x4 _ k).trans (congrArg (fun R => down x0 x1 x2 x3 x4 R k) (Fin.ext (by simp))))
      (fun _ => (load_apply _ _ _ _ _ _ _ _ _ _ rfl (Nat.zero_add _).symm))
  · refine (out_a0 _ _ _ _ _ _ _ z0 z1).trans ?_
    rw [emb_rows _ z0 z1 (by omega)]
    exact blockOut_of _ _ (load_apply _ _ _ _ _ _ _ _ _ _ rfl (Nat.zero_add _).symm)
      (fun k => (down_first c arg1 harg1 arg2 harg2 arg3 harg3 arg4 harg4 arg5 harg5 x0 x1 x2 x3 x4 _ k).trans (congrArg (fun R => down x0 x1 x2 x3 x4 R k) (Fin.ext (by simp))))
      (fun _ => (load_apply _ _ _ _ _ _ _ _ _ _ rfl (Nat.zero_add _).symm))

end Cert.Ffn

end
-- ==== Proof.Ffn.Reference.lean ====
module

public import proofs.«01_k».proof.Proof.Ffn.Row
public import proofs.«01_k».proof.Proof.Gen.Reference2Ideal.Run

/-! The reference's result at an index: row `r` of the flattened tokens is the block's function of row `r`. -/

@[expose] public section

set_option maxRecDepth 8192

noncomputable section

namespace Cert.Ffn

open Cert.Reference2Ideal Cert.Reference2Ideal.Gen
open Idealize.ShloMosaic Idealize.ShloMosaic.TcCoe

/-- The reference's RMS norm of an array of rows. -/
def hostNorm (x : FVec Ideal S8x2048x1024 .f32) (g : FVec Ideal S2x1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2
        (shapeCast _ (extractStridedSlice S1x1024 ![1, 0] g slices_S2x1024_S1x1024_1_0) shapeCasts_S1x1024_S1024)))

/-- A product with the second layer's up or gate weight. -/
def hostUp (y : FVec Ideal S8x2048x1024 .f32) (w : FVec Ideal S2x1024x2816 .f32) : FVec Ideal S8x2048x2816 .f32 :=
  Host.dotGeneral dot_S8x2048x1024_S1024x2816_S8x2048x2816_2_0_01_1_n_n none y
    (shapeCast _ (extractStridedSlice S1x1024x2816 ![1, 0, 0] w slices_S2x1024x2816_S1x1024x2816_1_0_0) shapeCasts_S1x1024x2816_S1024x2816)

/-- The hidden units from the two products. -/
def hostUnits (a b : FVec Ideal S8x2048x2816 .f32) : FVec Ideal S8x2048x2816 .f32 :=
  mulf (mulf a (Host.divf (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf a))))) b

/-- The product with the second layer's down weight. -/
def hostDown (a : FVec Ideal S8x2048x2816 .f32) (w : FVec Ideal S2x2816x1024 .f32) : FVec Ideal S8x2048x1024 .f32 :=
  Host.dotGeneral dot_S8x2048x2816_S2816x1024_S8x2048x1024_2_0_01_1_n_n none a
    (shapeCast _ (extractStridedSlice S1x2816x1024 ![1, 0, 0] w slices_S2x2816x1024_S1x2816x1024_1_0_0) shapeCasts_S1x2816x1024_S2816x1024)

theorem hostNorm_apply (x g) (b : Fin 8) (s : Fin 2048) (k : Fin 1024) :
    hostNorm x g (ix3 b s k) = rms (fun q => x (ix3 b s q)) (fun q => g (ix2 1 q)) k := by
  unfold hostNorm; pointwise; rfl

theorem hostUp_apply (y w) (b : Fin 8) (s : Fin 2048) (j : Fin 2816) :
    hostUp y w (ix3 b s j) = ∑ q, y (ix3 b s q) * w (ix3 1 q j) := by
  unfold hostUp; pointwise

theorem hostUnits_apply (a v) (b : Fin 8) (s : Fin 2048) (j : Fin 2816) :
    hostUnits a v (ix3 b s j) = a (ix3 b s j) * Ideal.logistic (a (ix3 b s j)) * v (ix3 b s j) := by
  unfold hostUnits; pointwise; rfl

theorem hostDown_apply (a w) (b : Fin 8) (s : Fin 2048) (k : Fin 1024) :
    hostDown a w (ix3 b s k) = ∑ j, a (ix3 b s j) * w (ix3 1 j k) := by
  unfold hostDown; pointwise

/-- The whole reference by its stages. -/
def hostFfn (h : FVec Ideal S8x2048x1024 .f32) (g₁ g₂ : FVec Ideal S2x1024 .f32) (wg wu : FVec Ideal S2x1024x2816 .f32)
    (wd : FVec Ideal S2x2816x1024 .f32) : FVec Ideal S16384x1024 .f32 :=
  shapeCast _ (addf h (hostNorm (hostDown (hostUnits (hostUp (hostNorm h g₁) wg) (hostUp (hostNorm h g₁) wu)) wd) g₂))
    shapeCasts_S8x2048x1024_S16384x1024

theorem hostFfn_apply (h g₁ g₂ wg wu wd) (r : Fin 16384) (k : Fin 1024) :
    hostFfn h g₁ g₂ wg wu wd (ix2 r k)
      = row (fun q => h (ix3 ⟨r.val / 2048, by omega⟩ ⟨r.val % 2048, by omega⟩ q)) (fun q => g₁ (ix2 1 q))
          (fun q j => wg (ix3 1 q j)) (fun q j => wu (ix3 1 q j)) (fun j q => wd (ix3 1 j q)) (fun q => g₂ (ix2 1 q)) k := by
  unfold hostFfn
  pointwise
  simp only [hostNorm_apply, hostDown_apply, hostUnits_apply, hostUp_apply]
  rfl

theorem reference_eq (m : (ℓ : Loc nD τ sig) → Buf (Elt Ideal) ℓ) (c : Dev nD) :
    Value.res_main_v42 (F := Ideal) m c
      = hostFfn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.Ffn

end
-- ==== Proof.Ffn.Final.lean ====
module

public import proofs.«01_k».proof.Proof.Ffn.Block
public import proofs.«01_k».proof.Proof.Ffn.Reference
public import Idealize.ShloMosaic.Lib.Claim

/-! The kernel's result array: row `r` is the block's function of row `r` of the tokens, as in the reference. -/

@[expose] public section

set_option maxRecDepth 8192

noncomputable section

namespace Cert.Ffn

open Cert.Kernel2Ideal Cert.Kernel2Ideal.Gen Cert.Kernel2Ideal.Value
open Idealize.ShloMosaic Idealize.ShloMosaic.TcCoe Idealize.SL.Sem

variable (m : (ℓ : Loc nD τ sig) → Buf (Elt Ideal) ℓ) (ρ : Dev nD → PrngReg)

/-! ## What the region finds in the arrays it stages -/

theorem entry_tokens (c : Dev nD) (r : Fin 16384) (k : Fin 1024) : V m c main_v9 (ix2 r k)
    = m ((c : Thread nD τ).loc main_arg0) (ix3 ⟨r.val / 2048, by omega⟩ ⟨r.val % 2048, by omega⟩ k) := by
  entry_read; pointwise

theorem entry_pre (c : Dev nD) (k : Fin 1024) : V m c main_v12 (ix2 0 k)
    = m ((c : Thread nD τ).loc main_arg1) (ix2 1 k) := by
  entry_read; pointwise

theorem entry_gate (c : Dev nD) (q : Fin 1024) (j : Fin 2816) : V m c main_v2 (ix2 q j)
    = m ((c : Thread nD τ).loc main_arg3) (ix3 1 q j) := by
  entry_read; pointwise

theorem entry_up (c : Dev nD) (q : Fin 1024) (j : Fin 2816) : V m c main_v5 (ix2 q j)
    = m ((c : Thread nD τ).loc main_arg4) (ix3 1 q j) := by
  entry_read; pointwise

theorem entry_down (c : Dev nD) (j : Fin 2816) (q : Fin 1024) : V m c main_v8 (ix2 j q)
    = m ((c : Thread nD τ).loc main_arg5) (ix3 1 j q) := by
  entry_read; pointwise

theorem entry_post (c : Dev nD) (k : Fin 1024) : V m c main_v15 (ix2 0 k)
    = m ((c : Thread nD τ).loc main_arg2) (ix2 1 k) := by
  entry_read; pointwise

/-! ## The windows' blocks -/

theorem at_0 : ∀ t : Fin cfg0.N, win0_0.index t (0 : Fin 2) = t.val ∧ win0_0.index t (1 : Fin 2) = 0 :=
  (by decide +kernel : ∀ t : Fin grid0.N, _)
theorem at_6 : ∀ t : Fin cfg0.N, win0_6.index t (0 : Fin 2) = t.val ∧ win0_6.index t (1 : Fin 2) = 0 :=
  (by decide +kernel : ∀ t : Fin grid0.N, _)
theorem at_1 : ∀ t : Fin cfg0.N, win0_1.index t (0 : Fin 2) = 0 ∧ win0_1.index t (1 : Fin 2) = 0 :=
  (by decide +kernel : ∀ t : Fin grid0.N, _)
theorem at_2 : ∀ t : Fin cfg0.N, win0_2.index t (0 : Fin 2) = 0 ∧ win0_2.index t (1 : Fin 2) = 0 :=
  (by decide +kernel : ∀ t : Fin grid0.N, _)
theorem at_3 : ∀ t : Fin cfg0.N, win0_3.index t (0 : Fin 2) = 0 ∧ win0_3.index t (1 : Fin 2) = 0 :=
  (by decide +kernel : ∀ t : Fin grid0.N, _)
theorem at_4 : ∀ t : Fin cfg0.N, win0_4.index t (0 : Fin 2) = 0 ∧ win0_4.index t (1 : Fin 2) = 0 :=
  (by decide +kernel : ∀ t : Fin grid0.N, _)
theorem at_5 : ∀ t : Fin cfg0.N, win0_5.index t (0 : Fin 2) = 0 ∧ win0_5.index t (1 : Fin 2) = 0 :=
  (by decide +kernel : ∀ t : Fin grid0.N, _)

/-- Row `r` of block `t`, among all the rows. -/
def rowAt (t : Fin cfg0.N) (r : Fin 1024) : Fin 16384 := ⟨t.val * 1024 + r.val, by have : t.val < 16 := t.isLt; omega⟩

theorem emb_0 (t : Fin cfg0.N) (r k : Fin 1024) : ((cfg0.win 0).blk t).view.emb (ix2 r k) = ix2 (rowAt t r) k := by
  obtain ⟨e0, e1⟩ := at_0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem emb_6 (t : Fin cfg0.N) (r k : Fin 1024) : ((cfg0.win 6).blk t).view.emb (ix2 r k) = ix2 (rowAt t r) k := by
  obtain ⟨e0, e1⟩ := at_6 t
  funext a; apply Fin.ext
  match a with
  | ⟨0, _⟩ => show win0_6.index t (0 : Fin 2) * 1024 + 1 * r.val = t.val * 1024 + r.val; omega
  | ⟨1, _⟩ => show win0_6.index t (1 : Fin 2) * 1024 + 1 * k.val = k.val; omega

theorem emb_1 (t : Fin cfg0.N) (r : Fin 1) (k : Fin 1024) : ((cfg0.win 1).blk t).view.emb (ix2 r k) = ix2 r k := by
  obtain ⟨e0, e1⟩ := at_1 t
  funext a; apply Fin.ext
  match a with
  | ⟨0, _⟩ => show win0_1.index t (0 : Fin 2) * 1 + 1 * r.val = r.val; omega
  | ⟨1, _⟩ => show win0_1.index t (1 : Fin 2) * 1024 + 1 * k.val = k.val; omega

theorem emb_2 (t : Fin cfg0.N) (r : Fin 1024) (k : Fin 2816) : ((cfg0.win 2).blk t).view.emb (ix2 r k) = ix2 r k := by
  obtain ⟨e0, e1⟩ := at_2 t
  funext a; apply Fin.ext
  match a with
  | ⟨0, _⟩ => show win0_2.index t (0 : Fin 2) * 1024 + 1 * r.val = r.val; omega
  | ⟨1, _⟩ => show win0_2.index t (1 : Fin 2) * 2816 + 1 * k.val = k.val; omega

theorem emb_3 (t : Fin cfg0.N) (r : Fin 1024) (k : Fin 2816) : ((cfg0.win 3).blk t).view.emb (ix2 r k) = ix2 r k := by
  obtain ⟨e0, e1⟩ := at_3 t
  funext a; apply Fin.ext
  match a with
  | ⟨0, _⟩ => show win0_3.index t (0 : Fin 2) * 1024 + 1 * r.val = r.val; omega
  | ⟨1, _⟩ => show win0_3.index t (1 : Fin 2) * 2816 + 1 * k.val = k.val; omega

theorem emb_4 (t : Fin cfg0.N) (r : Fin 2816) (k : Fin 1024) : ((cfg0.win 4).blk t).view.emb (ix2 r k) = ix2 r k := by
  obtain ⟨e0, e1⟩ := at_4 t
  funext a; apply Fin.ext
  match a with
  | ⟨0, _⟩ => show win0_4.index t (0 : Fin 2) * 2816 + 1 * r.val = r.val; omega
  | ⟨1, _⟩ => show win0_4.index t (1 : Fin 2) * 1024 + 1 * k.val = k.val; omega

theorem emb_5 (t : Fin cfg0.N) (r : Fin 1) (k : Fin 1024) : ((cfg0.win 5).blk t).view.emb (ix2 r k) = ix2 r k := by
  obtain ⟨e0, e1⟩ := at_5 t
  funext a; apply Fin.ext
  match a with
  | ⟨0, _⟩ => show win0_5.index t (0 : Fin 2) * 1 + 1 * r.val = r.val; omega
  | ⟨1, _⟩ => show win0_5.index t (1 : Fin 2) * 1024 + 1 * k.val = k.val; omega

/-! ## The result array -/

/-- The result array as a function of the arguments. -/
def ffn (c : Dev nD) : FVec Ideal S16384x1024 .f32 :=
  hostFfn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem ffn_block (c : Dev nD) (t : Fin cfg0.N) (r k : Fin 1024) :
    blockOut (iblk m c 0 t) (iblk m c 1 t) (iblk m c 2 t) (iblk m c 3 t) (iblk m c 4 t) (iblk m c 5 t) (ix2 r k)
      = ffn m c (ix2 (rowAt t r) k) := by
  have h0 : ∀ q, iblk m c 0 t (ix2 r q) = _ := fun q => (congrArg (V m c main_v9) (emb_0 t r q)).trans (entry_tokens m c (rowAt t r) q)
  have h1 : ∀ q, iblk m c 1 t (ix2 0 q) = _ := fun q => (congrArg (V m c main_v12) (emb_1 t 0 q)).trans (entry_pre m c q)
  have h2 : ∀ q j, iblk m c 2 t (ix2 q j) = _ := fun q j => (congrArg (V m c main_v2) (emb_2 t q j)).trans (entry_gate m c q j)
  have h3 : ∀ q j, iblk m c 3 t (ix2 q j) = _ := fun q j => (congrArg (V m c main_v5) (emb_3 t q j)).trans (entry_up m c q j)
  have h4 : ∀ j q, iblk m c 4 t (ix2 j q) = _ := fun j q => (congrArg (V m c main_v8) (emb_4 t j q)).trans (entry_down m c j q)
  have h5 : ∀ q, iblk m c 5 t (ix2 0 q) = _ := fun q => (congrArg (V m c main_v15) (emb_5 t 0 q)).trans (entry_post m c q)
  refine Eq.trans ?_ (hostFfn_apply _ _ _ _ _ _ (rowAt t r) k).symm
  show row (fun q => iblk m c 0 t (ix2 r q)) (fun q => iblk m c 1 t (ix2 0 q)) (fun q j => iblk m c 2 t (ix2 q j))
    (fun q j => iblk m c 3 t (ix2 q j)) (fun j q => iblk m c 4 t (ix2 j q)) (fun q => iblk m c 5 t (ix2 0 q)) k = _
  rw [funext h0, funext h1, funext fun q => funext (h2 q), funext fun q => funext (h3 q), funext fun q => funext (h4 q), funext h5]

/-- What point `t` writes back is its block of the result. -/
theorem flushed_eq (c : Dev nD) (t : Fin cfg0.N) :
    (dats m 0 c).flushed 6 t = ((cfg0.win 6).blk t).view.read (Elt Ideal) (ffn m c) := by
  rw [flushed6_A]
  refine funext fun (j : S1024x1024.Idx) => ?_
  idx_vars j
  refine Eq.trans ?_ (congrArg (ffn m c) (emb_6 t j0 j1).symm)
  exact (out_apply c _ _ _ _ _ _ _ _ _ _ _ _ _ _ _ _ _ _ _ _ _ (ix2 j0 j1)).trans (ffn_block m c t j0 j1)

/-- Every row is in the block of the point it belongs to. -/
theorem covered (i : S16384x1024.Idx) :
    ∃ t : Fin cfg0.N, (cfg0.win 6).flush t = true ∧ i ∈ ((cfg0.win 6).blk t).view.set := by
  idx_vars i
  refine ⟨⟨i0.val / 1024, by show _ < 16; omega⟩, flush0_6 _, ?_⟩
  have h := ((cfg0.win 6).blk (⟨i0.val / 1024, by show _ < 16; omega⟩ : Fin cfg0.N)).view.emb_mem_set (ix2 ⟨i0.val % 1024, by omega⟩ i1)
  rw [emb_6] at h
  have e : rowAt ⟨i0.val / 1024, by show _ < 16; omega⟩ ⟨i0.val % 1024, by omega⟩ = i0 := Fin.ext (by show i0.val / 1024 * 1024 + i0.val % 1024 = i0.val; omega)
  rwa [e] at h

/-- The result array after the run. -/
theorem final (c : Dev nD) : (dats m 0 c).arrAt 6 cfg0.N = ffn m c :=
  (dats m 0 c).arrAt_eq_of_cover 6 (ffn m c) (fun t _ => flushed_eq m c t) covered

end Cert.Ffn

end
-- ==== Proof.Odd.LastRun.lean ====
module

public import proofs.«01_k».proof.Proof.Gen.Kernel3Ideal.Frame.RunB

/-! The run of the odd mixer's body at the last grid point: from its staging and scratch buffers at given contents to the
same buffers with the pieces that the last block's mixing and finishing write. -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)

set_option maxHeartbeats 4000000 in
/-- What the body leaves in each staging and scratch buffer at the last point, as pieces, with the proof that it does. -/
def lastRun (hc0 : ¬cond0_0 i) (hc1 : ¬cond0_1 i) (hc2 : ¬cond0_2 i) (hc3 : cond0_3 i)
    (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32) (xs0 : Vec F S256x1024 .bf16) (xs1 : Vec F S256x1024 .bf16) (xs3 : Vec F S32x8x1536 .f32) (xs4 : Vec F S256x1024 .bf16) (xs6 : Vec F S4x8x512 .f32) :
    Σ' (L14 : List (View.Piece (Elt F) S512x1024 .f32)), Σ' (L15 : List (View.Piece (Elt F) S32x2816 .bf16)), Σ' (L16 : List (View.Piece (Elt F) S32x2816 .bf16)), Σ' (L17 : List (View.Piece (Elt F) S128x1024 .bf16)), Σ' (LS0 : List (View.Piece (Elt F) S256x1024 .bf16)), Σ' (LS1 : List (View.Piece (Elt F) S256x1024 .bf16)), Σ' (LS3 : List (View.Piece (Elt F) S32x8x1536 .f32)), Σ' (LS4 : List (View.Piece (Elt F) S256x1024 .bf16)), Σ' (LS6 : List (View.Piece (Elt F) S4x8x512 .f32)), Σ' (LT2 : List (View.Piece (Elt F) S32x8x1536 .f32)), { LT5 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ (∃ d, owns (c : Thread nD τ) arg21 fullShare d) ∗ owns (c : Thread nD τ) arg22 fullShare xs3 ∗ owns (c : Thread nD τ) arg23 fullShare xs4 ∗ (∃ d, owns (c : Thread nD τ) arg24 fullShare d) ∗ owns (c : Thread nD τ) arg25 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ owns (c : Thread nD τ) arg19 fullShare xs0 ∗ owns (c : Thread nD τ) arg20 fullShare xs1 ∗ (∃ d, owns (c : Thread nD τ) arg21 fullShare d) ∗ owns (c : Thread nD τ) arg22 fullShare xs3 ∗ owns (c : Thread nD τ) arg23 fullShare xs4 ∗ (∃ f, arg24.view.loc (c : Thread nD τ) ↦[arg24.view.set]{fullShare} arg24.view.writes (Elt F) f LT5) ∗ (arg25.view.loc (c : Thread nD τ) ↦[arg25.view.set]{fullShare} arg25.view.writes (Elt F) (harg25.unread xs6) LS6)) -∗ K ⟨⟩))
          ⊢ wp frame (wpE (defs₀ ) Variants.none c none) E (cc0_odd_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, [], [], [], [], ?_, [], ?_, fun E K => ?run⟩
  case run =>
    simp only [cc0_odd_mixer_eq_skeleton]; unfold cc0_odd_mixer_skel
    dsimp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, ⟨%ds2, %fs2, -, HS2⟩, ⟨%fs3, %hfs3, HS3⟩, ⟨%fs4, %hfs4, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg19.eq_unread hfs0; obtain rfl := harg20.eq_unread hfs1; obtain rfl := harg22.eq_unread hfs3; obtain rfl := harg23.eq_unread hfs4; obtain rfl := harg25.eq_unread hfs6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [HS0]
    · iexists _; isplitr; · ipureintro; exact harg19.read_unread _
      iexact HS0
    isplitl [HS1]
    · iexists _; isplitr; · ipureintro; exact harg20.read_unread _
      iexact HS1
    isplitl [HS2]
    · iexists _, _; isplitr; swap; · iexact HS2
      ipureintro; rfl
    isplitl [HS3]
    · iexists _; isplitr; · ipureintro; exact harg22.read_unread _
      iexact HS3
    isplitl [HS4]
    · iexists _; isplitr; · ipureintro; exact harg23.read_unread _
      iexact HS4
    isplitl [HS5]; · iexists _; iexact HS5
    iexact HS6

end Cert.Kernel3Ideal.Hand

end
-- ==== Proof.Odd.Blocks.lean ====
module

public import proofs.«01_k».proof.Proof.Odd.LastRun

/-! What the odd mixer's body leaves in each output window and in the scratch that is kept from one point to the next: the
stored pieces read back, for the first point, a middle point and the last one. -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section First

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)
  (hc0 : cond0_0 i) (hc1 : cond0_1 i) (hc2 : ¬cond0_2 i) (hc3 : ¬cond0_3 i)
  (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32)

/-- What the first point leaves in window 14's buffer. -/
def out0_A_14 : Vec F S512x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).1)

/-- The pieces that the first point stores into window 15's buffer cover it. -/
theorem cover0_A_15 (y : S32x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.1 S32x2816.size (by sl_kernel_rfl) y

/-- What the first point leaves in window 15's buffer. -/
def out0_A_15 : Vec F S32x2816 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.1)

/-- The pieces that the first point stores into window 16's buffer cover it. -/
theorem cover0_A_16 (y : S32x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.1 S32x2816.size (by sl_kernel_rfl) y

/-- What the first point leaves in window 16's buffer. -/
def out0_A_16 : Vec F S32x2816 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.1)

/-- The pieces that the first point stores into window 17's buffer cover it. -/
theorem cover0_A_17 (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.1 S128x1024.size (by sl_kernel_rfl) y

/-- What the first point leaves in window 17's buffer. -/
def out0_A_17 : Vec F S128x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.1)

/-- The pieces that the first point stores into scratch `arg19` cover it. -/
theorem scover0_A_0 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.1 S256x1024.size (by sl_kernel_rfl) y

/-- What the first point leaves in scratch `arg19`. -/
def sout0_A_0 : Vec F S256x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.1)

/-- The pieces that the first point stores into scratch `arg20` cover it. -/
theorem scover0_A_1 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.1 S256x1024.size (by sl_kernel_rfl) y

/-- What the first point leaves in scratch `arg20`. -/
def sout0_A_1 : Vec F S256x1024 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.1)

/-- The pieces that the first point stores into scratch `arg22` cover it. -/
theorem scover0_A_3 (y : S32x8x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.1 S32x8x1536.size (by sl_kernel_rfl) y

/-- What the first point leaves in scratch `arg22`. -/
def sout0_A_3 : Vec F S32x8x1536 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.1)

/-- The pieces that the first point stores into scratch `arg23` cover it. -/
theorem scover0_A_4 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.1 S256x512.size (by sl_kernel_rfl) y

/-- What the first point leaves in scratch `arg23`. -/
def sout0_A_4 : Vec F S256x1024 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.1)

/-- The pieces that the first point stores into scratch `arg25` cover it. -/
theorem scover0_A_6 (y : S4x8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.2.1 (by sl_whole_mem) y

/-- What the first point leaves in scratch `arg25`. -/
def sout0_A_6 : Vec F S4x8x512 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.2.1)

end First

section Middle

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)
  (hc0 : ¬cond0_0 i) (hc1 : ¬cond0_1 i) (hc2 : cond0_2 i) (hc3 : ¬cond0_3 i)
  (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32)
  (xs0 : Vec F S256x1024 .bf16) (xs1 : Vec F S256x1024 .bf16) (xs3 : Vec F S32x8x1536 .f32) (xs4 : Vec F S256x1024 .bf16) (xs6 : Vec F S4x8x512 .f32)

/-- The pieces that a middle point stores into window 14's buffer cover it. -/
theorem cover0_B_14 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).1 S256x1024.size (by sl_kernel_rfl) y

/-- What a middle point leaves in window 14's buffer. -/
def out0_B_14 : Vec F S512x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).1)

/-- The pieces that a middle point stores into window 15's buffer cover it. -/
theorem cover0_B_15 (y : S32x2816.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.1 S32x2816.size (by sl_kernel_rfl) y

/-- What a middle point leaves in window 15's buffer. -/
def out0_B_15 : Vec F S32x2816 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.1)

/-- The pieces that a middle point stores into window 16's buffer cover it. -/
theorem cover0_B_16 (y : S32x2816.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.1 S32x2816.size (by sl_kernel_rfl) y

/-- What a middle point leaves in window 16's buffer. -/
def out0_B_16 : Vec F S32x2816 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.1)

/-- The pieces that a middle point stores into window 17's buffer cover it. -/
theorem cover0_B_17 (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.1 S128x1024.size (by sl_kernel_rfl) y

/-- What a middle point leaves in window 17's buffer. -/
def out0_B_17 : Vec F S128x1024 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.1)

/-- The pieces that a middle point stores into scratch `arg19` cover it. -/
theorem scover0_B_0 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.1 S256x1024.size (by sl_kernel_rfl) y

/-- What a middle point leaves in scratch `arg19`. -/
def sout0_B_0 : Vec F S256x1024 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.1)

/-- The pieces that a middle point stores into scratch `arg20` cover it. -/
theorem scover0_B_1 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.1 S256x1024.size (by sl_kernel_rfl) y

/-- What a middle point leaves in scratch `arg20`. -/
def sout0_B_1 : Vec F S256x1024 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.1)

/-- The pieces that a middle point stores into scratch `arg22` cover it. -/
theorem scover0_B_3 (y : S32x8x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.1 S32x8x1536.size (by sl_kernel_rfl) y

/-- What a middle point leaves in scratch `arg22`. -/
def sout0_B_3 : Vec F S32x8x1536 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.1)

/-- The pieces that a middle point stores into scratch `arg23` cover it. -/
theorem scover0_B_4 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.1 S256x512.size (by sl_kernel_rfl) y

/-- What a middle point leaves in scratch `arg23`. -/
def sout0_B_4 : Vec F S256x1024 .bf16 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.1)

/-- What a middle point leaves in scratch `arg25`. -/
def sout0_B_6 : Vec F S4x8x512 .f32 :=
  arg25.view.read (Elt F) (arg25.view.writes (Elt F) (harg25.unread xs6) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.2.1)

end Middle

section Last

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)
  (hc0 : ¬cond0_0 i) (hc1 : ¬cond0_1 i) (hc2 : ¬cond0_2 i) (hc3 : cond0_3 i)
  (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32)
  (xs0 : Vec F S256x1024 .bf16) (xs1 : Vec F S256x1024 .bf16) (xs3 : Vec F S32x8x1536 .f32) (xs4 : Vec F S256x1024 .bf16) (xs6 : Vec F S4x8x512 .f32)

/-- The pieces that the last point stores into window 14's buffer cover it. -/
theorem cover0_C_14 (y : S512x1024.Idx) :
    ∃ pc ∈ (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).1, y ∈ pc.1.set :=
  View.cover_of_tiledL (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).1 S256x1024.size (by sl_kernel_rfl) y

/-- What the last point leaves in window 14's buffer. -/
def out0_C_14 : Vec F S512x1024 .f32 :=
  VO0_14.read (Elt F) (VO0_14.writes (Elt F) VO0_14.junk (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).1)

/-- The pieces that the last point stores into window 15's buffer cover it. -/
theorem cover0_C_15 (y : S32x2816.Idx) :
    ∃ pc ∈ (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.1, y ∈ pc.1.set :=
  View.cover_of_tiledL (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.1 S32x2816.size (by sl_kernel_rfl) y

/-- What the last point leaves in window 15's buffer. -/
def out0_C_15 : Vec F S32x2816 .bf16 :=
  VO0_15.read (Elt F) (VO0_15.writes (Elt F) VO0_15.junk (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.1)

/-- The pieces that the last point stores into window 16's buffer cover it. -/
theorem cover0_C_16 (y : S32x2816.Idx) :
    ∃ pc ∈ (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.1, y ∈ pc.1.set :=
  View.cover_of_tiledL (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.1 S32x2816.size (by sl_kernel_rfl) y

/-- What the last point leaves in window 16's buffer. -/
def out0_C_16 : Vec F S32x2816 .bf16 :=
  VO0_16.read (Elt F) (VO0_16.writes (Elt F) VO0_16.junk (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.1)

/-- The pieces that the last point stores into window 17's buffer cover it. -/
theorem cover0_C_17 (y : S128x1024.Idx) :
    ∃ pc ∈ (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.1, y ∈ pc.1.set :=
  View.cover_of_tiledL (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.1 S128x1024.size (by sl_kernel_rfl) y

/-- What the last point leaves in window 17's buffer. -/
def out0_C_17 : Vec F S128x1024 .bf16 :=
  VO0_17.read (Elt F) (VO0_17.writes (Elt F) VO0_17.junk (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.1)

/-- What the last point leaves in scratch `arg19`. -/
def sout0_C_0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x128x128 .f32) (harg8 : arg8.IsWhole) (arg9 : Memref sig .tc .vmem S128x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x32x2816 .f32) (harg12 : arg12.IsWhole) (arg13 : Memref sig .tc .vmem S1x32x2816 .f32) (harg13 : arg13.IsWhole) (arg14 : Memref sig .tc .vmem S1x128x1024 .f32) (harg14 : arg14.IsWhole) (arg15 : Memref sig .tc .vmem S512x1024 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S128x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S32x8x1536 .f32) (harg21 : arg21.IsWhole) (arg22 : Memref sig .tc .vmem S32x8x1536 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S4x8x512 .f32) (harg25 : arg25.IsWhole) (hc0 : ¬cond0_0 i) (hc1 : ¬cond0_1 i) (hc2 : ¬cond0_2 i) (hc3 : cond0_3 i)
    (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32) (xs0 : Vec F S256x1024 .bf16) (xs1 : Vec F S256x1024 .bf16) (xs3 : Vec F S32x8x1536 .f32) (xs4 : Vec F S256x1024 .bf16) (xs6 : Vec F S4x8x512 .f32) : Vec F S256x1024 .bf16 := xs0

/-- What the last point leaves in scratch `arg20`. -/
def sout0_C_1 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x128x128 .f32) (harg8 : arg8.IsWhole) (arg9 : Memref sig .tc .vmem S128x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x32x2816 .f32) (harg12 : arg12.IsWhole) (arg13 : Memref sig .tc .vmem S1x32x2816 .f32) (harg13 : arg13.IsWhole) (arg14 : Memref sig .tc .vmem S1x128x1024 .f32) (harg14 : arg14.IsWhole) (arg15 : Memref sig .tc .vmem S512x1024 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S128x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S32x8x1536 .f32) (harg21 : arg21.IsWhole) (arg22 : Memref sig .tc .vmem S32x8x1536 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S4x8x512 .f32) (harg25 : arg25.IsWhole) (hc0 : ¬cond0_0 i) (hc1 : ¬cond0_1 i) (hc2 : ¬cond0_2 i) (hc3 : cond0_3 i)
    (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32) (xs0 : Vec F S256x1024 .bf16) (xs1 : Vec F S256x1024 .bf16) (xs3 : Vec F S32x8x1536 .f32) (xs4 : Vec F S256x1024 .bf16) (xs6 : Vec F S4x8x512 .f32) : Vec F S256x1024 .bf16 := xs1

/-- What the last point leaves in scratch `arg22`. -/
def sout0_C_3 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x128x128 .f32) (harg8 : arg8.IsWhole) (arg9 : Memref sig .tc .vmem S128x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x32x2816 .f32) (harg12 : arg12.IsWhole) (arg13 : Memref sig .tc .vmem S1x32x2816 .f32) (harg13 : arg13.IsWhole) (arg14 : Memref sig .tc .vmem S1x128x1024 .f32) (harg14 : arg14.IsWhole) (arg15 : Memref sig .tc .vmem S512x1024 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S128x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S32x8x1536 .f32) (harg21 : arg21.IsWhole) (arg22 : Memref sig .tc .vmem S32x8x1536 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S4x8x512 .f32) (harg25 : arg25.IsWhole) (hc0 : ¬cond0_0 i) (hc1 : ¬cond0_1 i) (hc2 : ¬cond0_2 i) (hc3 : cond0_3 i)
    (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32) (xs0 : Vec F S256x1024 .bf16) (xs1 : Vec F S256x1024 .bf16) (xs3 : Vec F S32x8x1536 .f32) (xs4 : Vec F S256x1024 .bf16) (xs6 : Vec F S4x8x512 .f32) : Vec F S32x8x1536 .f32 := xs3

/-- What the last point leaves in scratch `arg23`. -/
def sout0_C_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S8x128x128 .f32) (harg8 : arg8.IsWhole) (arg9 : Memref sig .tc .vmem S128x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x32x2816 .f32) (harg12 : arg12.IsWhole) (arg13 : Memref sig .tc .vmem S1x32x2816 .f32) (harg13 : arg13.IsWhole) (arg14 : Memref sig .tc .vmem S1x128x1024 .f32) (harg14 : arg14.IsWhole) (arg15 : Memref sig .tc .vmem S512x1024 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S128x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S32x8x1536 .f32) (harg21 : arg21.IsWhole) (arg22 : Memref sig .tc .vmem S32x8x1536 .f32) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S4x8x512 .f32) (harg25 : arg25.IsWhole) (hc0 : ¬cond0_0 i) (hc1 : ¬cond0_1 i) (hc2 : ¬cond0_2 i) (hc3 : cond0_3 i)
    (x0 : Vec F S512x1024 .f32) (x1 : Vec F S512x1024 .f32) (x2 : Vec F S1x1024 .f32) (x3 : Vec F S1024x1536 .bf16) (x4 : Vec F S4x128x128 .bf16) (x5 : Vec F S1x512 .f32) (x6 : Vec F S1x512 .f32) (x7 : Vec F S8x128x128 .f32) (x8 : Vec F S128x512 .f32) (x9 : Vec F S1024x1024 .bf16) (x10 : Vec F S1x1024 .f32) (x11 : Vec F S1x32x2816 .f32) (x12 : Vec F S1x32x2816 .f32) (x13 : Vec F S1x128x1024 .f32) (xs0 : Vec F S256x1024 .bf16) (xs1 : Vec F S256x1024 .bf16) (xs3 : Vec F S32x8x1536 .f32) (xs4 : Vec F S256x1024 .bf16) (xs6 : Vec F S4x8x512 .f32) : Vec F S256x1024 .bf16 := xs4

/-- What the last point leaves in scratch `arg25`. -/
def sout0_C_6 : Vec F S4x8x512 .f32 :=
  arg25.view.read (Elt F) (arg25.view.writes (Elt F) (harg25.unread xs6) (lastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.2.1)

end Last

end Cert.Kernel3Ideal.Hand

end
-- ==== Proof.Odd.Frame.lean ====
module

public import proofs.«01_k».proof.Proof.Odd.Blocks
public import Idealize.ShloMosaic.Lib.Claim

/-! The frame of the odd mixer: what the outputs and the kept scratch hold after each point, and that from any memory the
program terminates, nothing faults, the arguments end unchanged and every counter ends at zero. -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs and the kept scratch hold after the point at position `n`, in the order of windows 14 to 17 and then of the
    scratch: the point's own run, over what the point before left. -/
def outsAt0 (c : Dev nD) : (n : ℕ) → n < cfg0.N → Vec F S512x1024 .f32 × Vec F S32x2816 .bf16 × Vec F S32x2816 .bf16 × Vec F S128x1024 .bf16 × Vec F S256x1024 .bf16 × Vec F S256x1024 .bf16 × Vec F S32x8x1536 .f32 × Vec F S256x1024 .bf16 × Vec F S4x8x512 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 33 = 0 then
      if h1 : (n + 1) % 33 = 0 then
        if h2 : (1 ≤ (n + 1) % 33 ∧ (n + 1) % 33 ≤ 31) then
          False.elim (by have hN : n + 1 < 33 := lt_of_lt_of_eq hn (show cfg0.N = 33 from N_0); omega)
        else
          if h3 : (n + 1) % 33 = 32 then
            False.elim (by have hN : n + 1 < 33 := lt_of_lt_of_eq hn (show cfg0.N = 33 from N_0); omega)
          else
            (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
      else
        False.elim (by have hN : n + 1 < 33 := lt_of_lt_of_eq hn (show cfg0.N = 33 from N_0); omega)
    else
      if h1 : (n + 1) % 33 = 0 then
        False.elim (by have hN : n + 1 < 33 := lt_of_lt_of_eq hn (show cfg0.N = 33 from N_0); omega)
      else
        if h2 : (1 ≤ (n + 1) % 33 ∧ (n + 1) % 33 ≤ 31) then
          if h3 : (n + 1) % 33 = 32 then
            False.elim (by have hN : n + 1 < 33 := lt_of_lt_of_eq hn (show cfg0.N = 33 from N_0); omega)
          else
            (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)
        else
          if h3 : (n + 1) % 33 = 32 then
            (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)
          else
            False.elim (by have hN : n + 1 < 33 := lt_of_lt_of_eq hn (show cfg0.N = 33 from N_0); omega)

/-- The contents after the first point. -/
theorem outsAt0_A (c : Dev nD) (t : Fin cfg0.N) (h0 : t.val % 33 = 0) (h1 : t.val % 33 = 0) (h2 : ¬(1 ≤ t.val % 33 ∧ t.val % 33 ≤ 31)) (h3 : ¬t.val % 33 = 32) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans ((dif_pos h1).trans ((dif_neg h2).trans ((dif_neg h3).trans rfl)))

/-- The contents after a middle point. -/
theorem outsAt0_B (c : Dev nD) (t : Fin cfg0.N) (h0 : ¬t.val % 33 = 0) (h1 : ¬t.val % 33 = 0) (h2 : (1 ≤ t.val % 33 ∧ t.val % 33 ≤ 31)) (h3 : ¬t.val % 33 = 32) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- The contents after the last point. -/
theorem outsAt0_C (c : Dev nD) (t : Fin cfg0.N) (h0 : ¬t.val % 33 = 0) (h1 : ¬t.val % 33 = 0) (h2 : ¬(1 ≤ t.val % 33 ∧ t.val % 33 ≤ 31)) (h3 : t.val % 33 = 32) :
    outsAt0 m c t.val t.isLt = (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- What holds of the scratch before position `n`: nothing before the first point, and then the contents the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ (∃ d, owns (c : Thread nD τ) scM0_2 fullShare d) ∗ owns (c : Thread nD τ) scM0_3 fullShare ((outsAt0 m c n hn).2.2.2.2.2.2.1) ∗ owns (c : Thread nD τ) scM0_4 fullShare ((outsAt0 m c n hn).2.2.2.2.2.2.2.1) ∗ (∃ d, owns (c : Thread nD τ) scM0_5 fullShare d) ∗ owns (c : Thread nD τ) scM0_6 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- The scratch after point `n`. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ (∃ d, owns (c : Thread nD τ) scM0_2 fullShare d) ∗ owns (c : Thread nD τ) scM0_3 fullShare ((outsAt0 m c n hn).2.2.2.2.2.2.1) ∗ owns (c : Thread nD τ) scM0_4 fullShare ((outsAt0 m c n hn).2.2.2.2.2.2.2.1) ∗ (∃ d, owns (c : Thread nD τ) scM0_5 fullShare d) ∗ owns (c : Thread nD τ) scM0_6 fullShare ((outsAt0 m c n hn).2.2.2.2.2.2.2.2)) ∗ (∃ r, prngReg c r)) := rfl

/-- The scratch before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ (∃ d, owns (c : Thread nD τ) scM0_2 fullShare d) ∗ owns (c : Thread nD τ) scM0_3 fullShare ((outsAt0 m c (n - 1) (by omega)).2.2.2.2.2.2.1) ∗ owns (c : Thread nD τ) scM0_4 fullShare ((outsAt0 m c (n - 1) (by omega)).2.2.2.2.2.2.2.1) ∗ (∃ d, owns (c : Thread nD τ) scM0_5 fullShare d) ∗ owns (c : Thread nD τ) scM0_6 fullShare ((outsAt0 m c (n - 1) (by omega)).2.2.2.2.2.2.2.2)) ∗ (∃ r, prngReg c r)) := by
  cases n with
  | zero => exact absurd rfl hz
  | succ n => rfl

/-- The proof data: the arrays as the grid finds them, each input window left at its block, each output window at what the point
    leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨_ + 18, h⟩ => absurd h (Nat.not_lt.2 (Nat.le_add_left _ _))
  Φ t := PhiS m c t.val (Nat.le_of_lt_succ t.isLt)
  q w := Pipeline.shareOf spec0 w
  owed _ := 0

/-- The arrays are those the grid finds. -/
theorem A_eq (c : Dev nD) (w : Fin cfg0.W) : (dats m 0 c).A w = V m c (Pipeline.arrRef spec0 w) := by
  dsimp only [dats]

/-- The scratch before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]

/-- Each input window holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What each window is left at, for the windows every point leaves. -/
theorem leaves0_0 (c : Dev nD) (t : Fin cfg0.N) : (dats m 0 c).leavesExact 0 t = owns (c : Thread nD τ) (ms0_0 t) fullShare (iblk m c 0 t) := by
  rw [← after0_0]
theorem leaves0_1 (c : Dev nD) (t : Fin cfg0.N) : (dats m 0 c).leavesExact 1 t = owns (c : Thread nD τ) (ms0_1 t) fullShare (iblk m c 1 t) := by
  rw [← after0_1]
theorem leaves0_2 (c : Dev nD) (t : Fin cfg0.N) : (dats m 0 c).leavesExact 2 t = owns (c : Thread nD τ) (ms0_2 t) fullShare (iblk m c 2 t) := by
  rw [← after0_2]
theorem leaves0_3 (c : Dev nD) (t : Fin cfg0.N) : (dats m 0 c).leavesExact 3 t = owns (c : Thread nD τ) (ms0_3 t) fullShare (iblk m c 3 t) := by
  rw [← after0_3]
theorem leaves0_4 (c : Dev nD) (t : Fin cfg0.N) : (dats m 0 c).leavesExact 4 t = owns (c : Thread nD τ) (ms0_4 t) fullShare (iblk m c 4 t) := by
  rw [← after0_4]
theorem leaves0_5 (c : Dev nD) (t : Fin cfg0.N) : (dats m 0 c).leavesExact 5 t = owns (c : Thread nD τ) (ms0_5 t) fullShare (iblk m c 5 t) := by
  rw [← after0_5]
theorem leaves0_6 (c : Dev nD) (t : Fin cfg0.N) : (dats m 0 c).leavesExact 6 t = owns (c : Thread nD τ) (ms0_6 t) fullShare (iblk m c 6 t) := by
  rw [← after0_6]
theorem leaves0_7 (c : Dev nD) (t : Fin cfg0.N) : (dats m 0 c).leavesExact 7 t = owns (c : Thread nD τ) (ms0_7 t) fullShare (iblk m c 7 t) := by
  rw [← after0_7]
theorem leaves0_8 (c : Dev nD) (t : Fin cfg0.N) : (dats m 0 c).leavesExact 8 t = owns (c : Thread nD τ) (ms0_8 t) fullShare (iblk m c 8 t) := by
  rw [← after0_8]
theorem leaves0_9 (c : Dev nD) (t : Fin cfg0.N) : (dats m 0 c).leavesExact 9 t = owns (c : Thread nD τ) (ms0_9 t) fullShare (iblk m c 9 t) := by
  rw [← after0_9]
theorem leaves0_10 (c : Dev nD) (t : Fin cfg0.N) : (dats m 0 c).leavesExact 10 t = owns (c : Thread nD τ) (ms0_10 t) fullShare (iblk m c 10 t) := by
  rw [← after0_10]
theorem leaves0_11 (c : Dev nD) (t : Fin cfg0.N) : (dats m 0 c).leavesExact 11 t = owns (c : Thread nD τ) (ms0_11 t) fullShare (iblk m c 11 t) := by
  rw [← after0_11]
theorem leaves0_12 (c : Dev nD) (t : Fin cfg0.N) : (dats m 0 c).leavesExact 12 t = owns (c : Thread nD τ) (ms0_12 t) fullShare (iblk m c 12 t) := by
  rw [← after0_12]
theorem leaves0_13 (c : Dev nD) (t : Fin cfg0.N) : (dats m 0 c).leavesExact 13 t = owns (c : Thread nD τ) (ms0_13 t) fullShare (iblk m c 13 t) := by
  rw [← after0_13]
theorem leaves0_15 (c : Dev nD) (t : Fin cfg0.N) : (dats m 0 c).leavesExact 15 t = owns (c : Thread nD τ) (ms0_15 t) fullShare ((outsAt0 m c t.val t.isLt).2.1) := by
  rw [← after0_15]
theorem leaves0_16 (c : Dev nD) (t : Fin cfg0.N) : (dats m 0 c).leavesExact 16 t = owns (c : Thread nD τ) (ms0_16 t) fullShare ((outsAt0 m c t.val t.isLt).2.2.1) := by
  rw [← after0_16]
theorem leaves0_17 (c : Dev nD) (t : Fin cfg0.N) : (dats m 0 c).leavesExact 17 t = owns (c : Thread nD τ) (ms0_17 t) fullShare ((outsAt0 m c t.val t.isLt).2.2.2.1) := by
  rw [← after0_17]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 28800000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : t.val % 33 = 0
    · by_cases h2 : (1 ≤ t.val % 33 ∧ t.val % 33 ≤ 31)
      · exfalso; omega
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [leaves0_1, leaves0_2, leaves0_3, leaves0_4, leaves0_5, leaves0_6, leaves0_7, leaves0_8, leaves0_9, leaves0_10, leaves0_11, leaves0_12, leaves0_13]
          rw [Dat.leavesExact_idle (dats m 0 c) 14 t (idleAt0_14_A t ((hcond0_0 t).mpr h0) ((hcond0_1 t).mpr h1) (fun h => h2 ((hcond0_2 t).mp h)) (fun h => h3 ((hcond0_3 t).mp h))) (noFlush0_14_A t ((hcond0_0 t).mpr h0) ((hcond0_1 t).mpr h1) (fun h => h2 ((hcond0_2 t).mp h)) (fun h => h3 ((hcond0_3 t).mp h)))]
          rw [leaves0_15, leaves0_16, leaves0_17]
          by_cases hz : t.val = 0
          · rw [PhiS_castSucc m c t, PhiS_zero m c _ _ hz, PhiA0_eq]
            rw [outsAt0_A m c t h0 h1 h2 h3]
            unfold out0_A_15 out0_A_16 out0_A_17 sout0_A_0 sout0_A_1 sout0_A_3 sout0_A_4 sout0_A_6; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
            iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexists _; iexact H15
            isplitl [H16]; · iexists _; iexact H16
            isplitl [H17]; · iexists _; iexact H17
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, H14, ⟨%e15, H15⟩, ⟨%e16, H16⟩, ⟨%e17, H17⟩, ⟨%es0, HS0⟩, ⟨%es1, HS1⟩, ⟨%fT2, HS2⟩, ⟨%es3, HS3⟩, ⟨%es4, HS4⟩, HS5, ⟨%es6, HS6⟩⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexists _; unfold owns; iexists _; isplitr
                  swap; · iexact HS2
                  ipureintro; rfl
                isplitl [HS3]
                · unfold owns; iexists _; isplitr
                  swap; · iexact HS3
                  ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS4]
                · unfold owns; iexists _; isplitr
                  swap; · iexact HS4
                  ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS5]
                · iexact HS5
                unfold owns; iexists _; isplitr
                swap; · iexact HS6
                ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]
            · unfold owns; iexists _; isplitr
              swap; · iexact H15
              ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H16]
            · unfold owns; iexists _; isplitr
              swap; · iexact H16
              ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          · exfalso; have hN : t.val < 33 := lt_of_lt_of_eq t.isLt (show cfg0.N = 33 from N_0); omega
    · exfalso; omega
  · by_cases h1 : t.val % 33 = 0
    · exfalso; omega
    · by_cases h2 : (1 ≤ t.val % 33 ∧ t.val % 33 ≤ 31)
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [leaves0_1, leaves0_2, leaves0_3, leaves0_4, leaves0_5, leaves0_6, leaves0_7, leaves0_8, leaves0_9, leaves0_10, leaves0_11, leaves0_12, leaves0_13]
          rw [show (dats m 0 c).leavesExact 14 t = owns (c : Thread nD τ) (ms0_14 t) fullShare ((dats m 0 c).after 14 t) from by
      unfold Dat.leavesExact; rw [liveAt0_14_B t (fun h => h0 ((hcond0_0 t).mp h)) (fun h => h1 ((hcond0_1 t).mp h)) ((hcond0_2 t).mpr h2) (fun h => h3 ((hcond0_3 t).mp h))], after0_14]
          rw [leaves0_15, leaves0_16, leaves0_17]
          by_cases hz : t.val = 0
          · exfalso; have hN : t.val < 33 := lt_of_lt_of_eq t.isLt (show cfg0.N = 33 from N_0); omega
          · rw [PhiS_castSucc m c t, PhiS_pos m c _ _ hz]
            rw [outsAt0_B m c t h0 h1 h2 h3]
            unfold out0_B_14 out0_B_15 out0_B_16 out0_B_17 sout0_B_0 sout0_B_1 sout0_B_3 sout0_B_4 sout0_B_6; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
            iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _).2.2.2.2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            isplitl [H16]; · iexists _; iexact H16
            isplitl [H17]; · iexists _; iexact H17
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, ⟨%e14, H14⟩, ⟨%e15, H15⟩, ⟨%e16, H16⟩, ⟨%e17, H17⟩, ⟨%es0, HS0⟩, ⟨%es1, HS1⟩, ⟨%fT2, HS2⟩, ⟨%es3, HS3⟩, ⟨%es4, HS4⟩, ⟨%fT5, HS5⟩, HS6⟩
            isplitl [HS0 HS1 HS2 HS3 HS4 HS5 HS6 Hg]
            · isplitl [HS0 HS1 HS2 HS3 HS4 HS5 HS6]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexists _; unfold owns; iexists _; isplitr
                  swap; · iexact HS2
                  ipureintro; rfl
                isplitl [HS3]
                · unfold owns; iexists _; isplitr
                  swap; · iexact HS3
                  ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS4]
                · unfold owns; iexists _; isplitr
                  swap; · iexact HS4
                  ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS5]
                · iexists _; unfold owns; iexists _; isplitr
                  swap; · iexact HS5
                  ipureintro; rfl
                unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]
            · unfold owns; iexists _; isplitr
              swap; · iexact H14
              ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H15]
            · unfold owns; iexists _; isplitr
              swap; · iexact H15
              ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H16]
            · unfold owns; iexists _; isplitr
              swap; · iexact H16
              ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H17
            ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · by_cases h3 : t.val % 33 = 32
        · rw [show (dats m 0 c).leavesExact 0 t = owns (c : Thread nD τ) (ms0_0 t) fullShare ((dats m 0 c).after 0 t) from by
      unfold Dat.leavesExact; rw [liveAt0_0 t], after0_0]
          rw [leaves0_1, leaves0_2, leaves0_3, leaves0_4, leaves0_5, leaves0_6, leaves0_7, leaves0_8, leaves0_9, leaves0_10, leaves0_11, leaves0_12, leaves0_13]
          rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) (fun h => h2 ((hcond0_2 t).mp h)) ((hcond0_3 t).mpr h3)], after0_14]
          rw [leaves0_15, leaves0_16, leaves0_17]
          by_cases hz : t.val = 0
          · exfalso; have hN : t.val < 33 := lt_of_lt_of_eq t.isLt (show cfg0.N = 33 from N_0); omega
          · rw [PhiS_castSucc m c t, PhiS_pos m c _ _ hz]
            rw [outsAt0_C m c t h0 h1 h2 h3]
            unfold out0_C_14 out0_C_15 out0_C_16 out0_C_17 sout0_C_0 sout0_C_1 sout0_C_3 sout0_C_4 sout0_C_6; (try dsimp only)
            iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
            iapply ((lastRun c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _).2.2.2.2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            isplitl [H16]; · iexists _; iexact H16
            isplitl [H17]; · iexists _; iexact H17
            isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iintro ⟨H0, H1, H2, H3, H4, H5, H6, H7, H8, H9, H10, H11, H12, H13, ⟨%e14, H14⟩, ⟨%e15, H15⟩, ⟨%e16, H16⟩, ⟨%e17, H17⟩, HS0, HS1, HS2, HS3, HS4, ⟨%fT5, HS5⟩, HS6⟩
            isplitl [HS0 HS1 HS2 HS3 HS4 HS5 HS6 Hg]
            · isplitl [HS0 HS1 HS2 HS3 HS4 HS5 HS6]
              · isplitl [HS0]
                · iexact HS0
                isplitl [HS1]
                · iexact HS1
                isplitl [HS2]
                · iexact HS2
                isplitl [HS3]
                · iexact HS3
                isplitl [HS4]
                · iexact HS4
                isplitl [HS5]
                · iexists _; unfold owns; iexists _; isplitr
                  swap; · iexact HS5
                  ipureintro; rfl
                unfold owns; iexists _; isplitr
                swap; · iexact HS6
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]
            · unfold owns; iexists _; isplitr
              swap; · iexact H14
              ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H15]
            · unfold owns; iexists _; isplitr
              swap; · iexact H15
              ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H16]
            · unfold owns; iexists _; isplitr
              swap; · iexact H16
              ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H17
            ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · exfalso; omega

/-- The body at the point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the grid starts from is what is asked before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the scratch's contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexists _; iexact HS3
    isplitl [HS4]
    · iexists _; iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

set_option backward.isDefEq.respectTransparency.types false in
/-- The program runs to its end with the windows' arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel3Ideal.Hand

end
-- ==== Proof.Odd.Row.lean ====
module

public import Idealize.ShloMosaic.Lib.Pointwise

/-! One row of the odd mixer over the ideal values: window means of the pooled lanes, the spatial gate, the two products
and the norms. A row is at position `s` of its sequence, and the rows before it are given by a function of the position. -/

@[expose] public section

noncomputable section

namespace Cert.Odd

open Idealize.ShloMosaic

/-- RMS norm of the row `x` with the weights `g`; `n` is the word of the number of lanes. -/
def rms {N : ℕ} (n : BitVec 32) (x g : Fin N → EReal) (k : Fin N) : EReal :=
  x k * Ideal.rsqrt (Ideal.div (∑ q, x q * x q) (Ideal.ofBits .f32 n) + Ideal.ofBits .f32 897988541#32) * g k

/-- The sum of the last `d` values up to position `s`, those before the sequence being zero. -/
def win (f : ℕ → EReal) (d s : ℕ) : EReal := ∑ j ∈ Finset.range d, if j ≤ s then f (s - j) else 0

theorem win_one (f : ℕ → EReal) (s : ℕ) : win f 1 s = f s := by
  unfold win; simp

/-- A window of twice the length is the window and the one before it. -/
theorem win_double (f : ℕ → EReal) (d s : ℕ) : win f (d + d) s = win f d s + if d ≤ s then win f d (s - d) else 0 := by
  unfold win
  rw [Finset.sum_range_add]
  congr 1
  split
  · refine Finset.sum_congr rfl fun j _ => ?_
    by_cases h : j ≤ s - d
    · rw [if_pos h, if_pos (by omega), Nat.sub_add_eq]
    · rw [if_neg h, if_neg (by omega)]
  · exact Finset.sum_eq_zero fun j _ => if_neg (by omega)

/-- The window mean less the value itself; `w` is the word of the window's length. -/
def mean (f : ℕ → EReal) (d : ℕ) (w : BitVec 32) (s : ℕ) : EReal :=
  Ideal.div (win f d s) (min (((s + 1 : ℕ) : ℝ) : EReal) (Ideal.ofBits .f32 w)) - f s

/-- The window means of lane `q` of pooling group `g`: windows of 2, 4, 8 and 16 rows. -/
def groupMean (g : Fin 4) (f : ℕ → EReal) (s : ℕ) : EReal :=
  match g with
  | 0 => mean f 2 0x40000000#32 s
  | 1 => mean f 4 0x40800000#32 s
  | 2 => mean f 8 0x41000000#32 s
  | 3 => mean f 16 0x41800000#32 s

/-- Pooled lane `c` of the row at `s`: `z` are the rows' 1536 lanes. -/
def pooled (z : ℕ → Fin 1536 → EReal) (w : Fin 4 → Fin 128 → Fin 128 → EReal) (scale : Fin 512 → EReal) (s : ℕ) (c : Fin 512) : EReal :=
  (∑ q : Fin 128, groupMean ⟨c.val / 128, by omega⟩ (fun s => z s ⟨c.val / 128 * 128 + q.val, by omega⟩) s
    * w ⟨c.val / 128, by omega⟩ q ⟨c.val % 128, by omega⟩) * scale c

/-- The gate of lane `c` at row `t` of a block of 128: the rows `v` of the block up to the end of `t`'s chunk of 64. -/
def gate (v : Fin 128 → Fin 512 → EReal) (w : Fin 8 → Fin 128 → Fin 128 → EReal) (b : Fin 128 → Fin 512 → EReal) (t : Fin 128) (c : Fin 512) : EReal :=
  (∑ q : Fin 128, (if q.val / 64 ≤ t.val / 64 then w ⟨c.val / 64, by omega⟩ t q else 0) * v q c) + b t c

/-- Gated lane `c` of the row at `s`. -/
def gated (z : ℕ → Fin 1536 → EReal) (norm : Fin 512 → EReal) (w : Fin 8 → Fin 128 → Fin 128 → EReal) (b : Fin 128 → Fin 512 → EReal)
    (s : ℕ) (c : Fin 512) : EReal :=
  z s ⟨512 + c.val, by omega⟩
    * gate (fun q => rms 0x44000000#32 (fun p : Fin 512 => z (s / 128 * 128 + q.val) ⟨1024 + p.val, by omega⟩) norm) w b ⟨s % 128, Nat.mod_lt _ (by decide)⟩ c

/-- The mixed row at `s`: pooled lanes, then gated lanes. -/
def mixed (z : ℕ → Fin 1536 → EReal) (pw : Fin 4 → Fin 128 → Fin 128 → EReal) (scale norm : Fin 512 → EReal)
    (w : Fin 8 → Fin 128 → Fin 128 → EReal) (b : Fin 128 → Fin 512 → EReal) (s : ℕ) (c : Fin 1024) : EReal :=
  if h : c.val < 512 then pooled z pw scale s ⟨c.val, h⟩ else gated z norm w b s ⟨c.val - 512, by omega⟩

end Cert.Odd

end
-- ==== Proof.Odd.Stages.lean ====
module

public import proofs.«01_k».proof.Proof.Odd.Row
public import proofs.«01_k».proof.Proof.Gen.Kernel3Ideal.Skeleton

/-! The stages of one mixed tile of 256 rows, as functions of what the tile is computed from: the window sums and their
pooled products, the spatial gate, and the two halves of the mixed rows. -/

@[expose] public section

set_option maxRecDepth 16384

noncomputable section

namespace Cert.Odd

open Cert.Kernel3Ideal Cert.Kernel3Ideal.Gen
open Idealize.ShloMosaic

/-! ## Window sums -/

/-- The rows of `x` moved down by one group of eight, with `h` as the first group. -/
def groupDown (x : FVec Ideal S32x8x128 .f32) (h : FVec Ideal S1x8x128 .f32) : FVec Ideal S32x8x128 .f32 :=
  concatenate S32x8x128 0 [⟨S1x8x128, h⟩, ⟨S31x8x128, extractStridedSlice S31x8x128 ![0, 0, 0] x slices_S32x8x128_o0_0_0_S31x8x128⟩]
    concatenates_S1x8x128_S31x8x128_S32x8x128_d0

/-- `x` plus its rows moved down by `d` rows, the rows before `x` being the last of `h`; `w` is `8 - d`. -/
def shiftAdd (w d : BitVec 32) (x : FVec Ideal S32x8x128 .f32) (h : FVec Ideal S1x8x128 .f32) : FVec Ideal S32x8x128 .f32 :=
  addf x (dynamicRotate 1 d none (select (cmpi .sge (iota .tc S32x8x128 32 [1] iota_S32x8x128_d1_w32) (broadcast S32x8x128 w))
    (groupDown x h) x) rotates_S32x8x128_d1)

/-- The last group of rows. -/
def tail (x : FVec Ideal S32x8x128 .f32) : FVec Ideal S1x8x128 .f32 :=
  shapeCast S1x8x128 (extractStridedSlice S1x8x128 ![31, 0, 0] x slices_S32x8x128_o31_0_0_S1x8x128) shapeCasts_S1x8x128_S1x8x128

theorem groupDown_apply (x h) (g : Fin 32) (r : Fin 8) (l : Fin 128) :
    groupDown x h (ix3 g r l) = if hg : g.val < 1 then h (ix3 ⟨g.val, hg⟩ r l) else x (ix3 ⟨g.val - 1, by omega⟩ r l) := by
  unfold groupDown; pointwise

theorem tail_apply (x) (r : Fin 8) (l : Fin 128) : tail x (ix3 0 r l) = x (ix3 31 r l) := by
  unfold tail; pointwise

/-- The vector `x` holds the rows of `f` from position `s₀` on. -/
def Rows (s₀ : ℕ) (f : ℕ → Fin 128 → EReal) (x : FVec Ideal S32x8x128 .f32) : Prop :=
  ∀ (g : Fin 32) (r : Fin 8) (l : Fin 128), x (ix3 g r l) = f (s₀ + (8 * g.val + r.val)) l

/-- The vector `h` holds the eight rows of `f` before position `s₀`, or zeros at the start of the sequence. -/
def Before (s₀ : ℕ) (f : ℕ → Fin 128 → EReal) (h : FVec Ideal S1x8x128 .f32) : Prop :=
  ∀ (r : Fin 8) (l : Fin 128), h (ix3 0 r l) = if s₀ = 0 then 0 else f (s₀ - 8 + r.val) l

/-- What the rows become when those `d` rows earlier are added. -/
def plus (f : ℕ → Fin 128 → EReal) (d s : ℕ) (l : Fin 128) : EReal := f s l + if d ≤ s then f (s - d) l else 0

theorem lane_ge : ∀ r w : Fin 8, IntOp.cmpi CmpIPredicate.sge (BitVec.ofNat 32 r.val) (BitVec.ofNat 32 w.val) = if w.val ≤ r.val then 1#1 else 0#1 := by
  decide

theorem select_one {α : Type} (a b : α) : Scalar.select 1#1 a b = a := rfl
theorem select_zero {α : Type} (a b : α) : Scalar.select 0#1 a b = b := rfl

theorem groupDown_rows {s₀ f x h} (hs : s₀ % 8 = 0) (hx : Rows s₀ f x) (hh : Before s₀ f h) (g : Fin 32) (r : Fin 8) (l : Fin 128) :
    groupDown x h (ix3 g r l) = if 8 ≤ s₀ + (8 * g.val + r.val) then f (s₀ + (8 * g.val + r.val) - 8) l else 0 := by
  rw [groupDown_apply]
  split
  · rename_i hg
    have e : (⟨g.val, hg⟩ : Fin 1) = 0 := Subsingleton.elim _ _
    rw [e, hh]
    by_cases h0 : s₀ = 0
    · rw [if_pos h0, if_neg (by omega)]
    · rw [if_neg h0, if_pos (by omega)]; congr 1; omega
  · rw [hx, if_pos (by omega)]; congr 1; simp only; omega

/-- One rotation within the groups of eight, given what it reads at an index. -/
theorem rotated_rows {s₀ f x h} (d : ℕ) (hd : 0 < d ∧ d < 8) (hs : s₀ % 8 = 0) (hx : Rows s₀ f x) (hh : Before s₀ f h) (g : Fin 32) (r : Fin 8) (l : Fin 128)
    (r' : Fin 8) (hr : r'.val = (r.val + 8 - d) % 8) (w : Fin 8) (hw : w.val = 8 - d) :
    x (ix3 g r l) + Scalar.select (IntOp.cmpi CmpIPredicate.sge (BitVec.ofNat 32 r'.val) (BitVec.ofNat 32 w.val))
      (groupDown x h (ix3 g r' l)) (x (ix3 g r' l)) = plus f d (s₀ + (8 * g.val + r.val)) l := by
  unfold plus
  rw [lane_ge r' w, hx, groupDown_rows hs hx hh, hx]
  congr 1
  by_cases hd' : r.val < d
  · rw [if_pos (by omega), select_one]
    by_cases hb : d ≤ s₀ + (8 * g.val + r.val)
    · rw [if_pos hb, if_pos (by omega)]; congr 1; omega
    · rw [if_neg hb, if_neg (by omega)]
  · rw [if_neg (by omega), select_zero]
    rw [if_pos (by omega)]; congr 1; omega

theorem shiftAdd_one {s₀ f x h} (hs : s₀ % 8 = 0) (hx : Rows s₀ f x) (hh : Before s₀ f h) : Rows s₀ (plus f 1) (shiftAdd 7#32 1#32 x h) := by
  intro g r l
  unfold shiftAdd; pointwise
  exact rotated_rows 1 ⟨by decide, by decide⟩ hs hx hh g r l ⟨(r.val + 8 - 1) % 8, Nat.mod_lt _ (by decide)⟩ rfl 7 rfl

theorem shiftAdd_two {s₀ f x h} (hs : s₀ % 8 = 0) (hx : Rows s₀ f x) (hh : Before s₀ f h) : Rows s₀ (plus f 2) (shiftAdd 6#32 2#32 x h) := by
  intro g r l
  unfold shiftAdd; pointwise
  exact rotated_rows 2 ⟨by decide, by decide⟩ hs hx hh g r l ⟨(r.val + 8 - 2) % 8, Nat.mod_lt _ (by decide)⟩ rfl 6 rfl

theorem shiftAdd_four {s₀ f x h} (hs : s₀ % 8 = 0) (hx : Rows s₀ f x) (hh : Before s₀ f h) : Rows s₀ (plus f 4) (shiftAdd 4#32 4#32 x h) := by
  intro g r l
  unfold shiftAdd; pointwise
  exact rotated_rows 4 ⟨by decide, by decide⟩ hs hx hh g r l ⟨(r.val + 8 - 4) % 8, Nat.mod_lt _ (by decide)⟩ rfl 4 rfl

theorem groupAdd {s₀ f x h} (hs : s₀ % 8 = 0) (hx : Rows s₀ f x) (hh : Before s₀ f h) : Rows s₀ (plus f 8) (addf x (groupDown x h)) := by
  intro g r l
  show x _ + groupDown x h _ = _
  rw [hx, groupDown_rows hs hx hh]; rfl

/-- The windows of `d` rows of every lane. -/
def wins (f : ℕ → Fin 128 → EReal) (d s : ℕ) (l : Fin 128) : EReal := win (fun s => f s l) d s

theorem wins_one (f : ℕ → Fin 128 → EReal) : wins f 1 = f := funext fun s => funext fun _ => win_one _ s
theorem plus_one (f : ℕ → Fin 128 → EReal) : plus f 1 = wins f 2 := funext fun s => funext fun l => by
  rw [← congrFun (congrFun (congrArg (fun f => plus f 1) (wins_one f)) s) l]; exact (win_double _ 1 s).symm
theorem plus_two (f : ℕ → Fin 128 → EReal) : plus (wins f 2) 2 = wins f 4 := funext fun s => funext fun _ => (win_double _ 2 s).symm
theorem plus_four (f : ℕ → Fin 128 → EReal) : plus (wins f 4) 4 = wins f 8 := funext fun s => funext fun _ => (win_double _ 4 s).symm
theorem plus_eight (f : ℕ → Fin 128 → EReal) : plus (wins f 8) 8 = wins f 16 := funext fun s => funext fun _ => (win_double _ 8 s).symm

end Cert.Odd

end
-- ==== Proof.Odd.Pool.lean ====
module

public import proofs.«01_k».proof.Proof.Odd.Stages

/-! The pooled half of a mixed tile: the window sums of the four lane groups, their means' products with the pooling
weights, and the lanes' scales. -/

@[expose] public section

set_option maxRecDepth 16384

noncomputable section

namespace Cert.Odd

open Cert.Kernel3Ideal Cert.Kernel3Ideal.Gen
open Idealize.ShloMosaic

/-- The count of rows up to each row of a tile whose first row has position word `p`. -/
def counts (p : BitVec 32) : FVec Ideal S32x8x128 .f32 :=
  sitofp .f32 (addi (addi (addi (broadcast S32x8x128 p) (muli (iota .tc S32x8x128 32 [0] iota_S32x8x128_d0_w32) (broadcast S32x8x128 8#32)))
    (iota .tc S32x8x128 32 [1] iota_S32x8x128_d1_w32)) (broadcast S32x8x128 1#32))

theorem counts_rows (s₀ : ℕ) (hs : s₀ ≤ 1792) : Rows s₀ (fun s _ => (((s + 1 : ℕ) : ℝ) : EReal)) (counts (BitVec.ofNat 32 s₀)) := by
  intro g r l
  unfold counts; pointwise
  show (((_ : BitVec 32).toInt : ℝ) : EReal) = _
  have e : IntOp.addi (IntOp.addi (IntOp.addi (BitVec.ofNat 32 s₀) (IntOp.muli (BitVec.ofNat 32 g.val) 8#32)) (BitVec.ofNat 32 r.val)) 1#32
      = BitVec.ofNat 32 (s₀ + (8 * g.val + r.val) + 1) := by
    unfold IntOp.addi IntOp.muli
    apply BitVec.eq_of_toNat_eq
    simp only [BitVec.toNat_add, BitVec.toNat_mul, BitVec.toNat_ofNat]
    omega
  have i : (BitVec.ofNat 32 (s₀ + (8 * g.val + r.val) + 1)).toInt = ((s₀ + (8 * g.val + r.val) + 1 : ℕ) : ℤ) := by
    rw [BitVec.toInt_eq_toNat_cond, BitVec.toNat_ofNat]
    split <;> omega
  rw [e, i, Int.cast_natCast]

/-- The product of one group's window means with its pooling weights. -/
def meanProduct (word : BitVec 32) (count W x : FVec Ideal S32x8x128 .f32) (w : FVec Ideal S1x128x128 .bf16) : FVec Ideal S256x128 .f32 :=
  matmul dot_S256x128_S128x128_S256x128_1_0_0_1_n_n none
    (truncf .bf16 (shapeCast S256x128 (subf (divf W (minimumf count (broadcast S32x8x128 (Scalar.ofBits .f32 word : Ideal .f32)))) x) shapeCasts_S32x8x128_S256x128) bitsLt_bf16_f32 : FVec Ideal S256x128 .bf16)
    (shapeCast S128x128 w shapeCasts_S1x128x128_S128x128) (constant S256x128 .f32 0x00000000#32)

theorem meanProduct_apply (word) (count W x) (w) (n : Fin 256) (c : Fin 128) :
    meanProduct word count W x w (ix2 n c) = ∑ q : Fin 128,
      (Ideal.div (W (ix3 ⟨n.val / 8, by omega⟩ ⟨n.val % 8, by omega⟩ q))
        (min (count (ix3 ⟨n.val / 8, by omega⟩ ⟨n.val % 8, by omega⟩ q)) (Ideal.ofBits .f32 word))
        - x (ix3 ⟨n.val / 8, by omega⟩ ⟨n.val % 8, by omega⟩ q)) * w (ix3 0 q c) := by
  unfold meanProduct; pointwise

/-- The four groups' products side by side, scaled. -/
def poolLanes (p0 p1 p2 p3 : FVec Ideal S256x128 .f32) (scale : FVec Ideal S1x512 .f32) : FVec Ideal S256x512 .f32 :=
  mulf (concatenate S256x512 1 [⟨S256x128, p0⟩, ⟨S256x128, p1⟩, ⟨S256x128, p2⟩, ⟨S256x128, p3⟩] concatenates_S256x128_S256x128_S256x128_S256x128_S256x512_d1)
    (broadcastTo S256x512 (shapeCast S1x512 scale shapeCasts_S1x512_S1x512) broadcasts_S1x512_S256x512)

theorem poolLanes_apply (p0 p1 p2 p3) (scale) (n : Fin 256) (g : Fin 4) (c : Fin 128) :
    poolLanes p0 p1 p2 p3 scale (ix2 n ⟨g.val * 128 + c.val, by omega⟩) =
      (match g with | 0 => p0 (ix2 n c) | 1 => p1 (ix2 n c) | 2 => p2 (ix2 n c) | 3 => p3 (ix2 n c)) * scale (ix2 0 ⟨g.val * 128 + c.val, by omega⟩) := by
  unfold poolLanes; pointwise
  match g with
  | 0 => rw [dif_pos (by show 0 * 128 + c.val < 128; omega)]; congr 3; ext; show 0 * 128 + c.val = _; omega
  | 1 => rw [dif_neg (by show ¬ 1 * 128 + c.val < 128; omega), dif_pos (by show 1 * 128 + c.val - 128 < 128; omega)]; congr 3; ext; show 1 * 128 + c.val - 128 = _; omega
  | 2 => rw [dif_neg (by show ¬ 2 * 128 + c.val < 128; omega), dif_neg (by show ¬ 2 * 128 + c.val - 128 < 128; omega), dif_pos (by show 2 * 128 + c.val - 128 - 128 < 128; omega)]
         congr 3; ext; show 2 * 128 + c.val - 128 - 128 = _; omega
  | 3 => rw [dif_neg (by show ¬ 3 * 128 + c.val < 128; omega), dif_neg (by show ¬ 3 * 128 + c.val - 128 < 128; omega), dif_neg (by show ¬ 3 * 128 + c.val - 128 - 128 < 128; omega)]
         congr 3; ext; show 3 * 128 + c.val - 128 - 128 - 128 = _; omega

/-- A group's product is the means' product, when the vectors hold the windows and the lanes. -/
theorem meanProduct_rows {s₀ f} (hs : s₀ ≤ 1792) (d : ℕ) (word) {W x} (hW : Rows s₀ (wins f d) W) (hx : Rows s₀ f x) (w) (n : Fin 256) (c : Fin 128) :
    meanProduct word (counts (BitVec.ofNat 32 s₀)) W x w (ix2 n c) = ∑ q : Fin 128, mean (fun s => f s q) d word (s₀ + n.val) * w (ix3 0 q c) := by
  rw [meanProduct_apply]
  refine Finset.sum_congr rfl fun q _ => ?_
  rw [hW, counts_rows s₀ hs, hx]
  have e : s₀ + (8 * (n.val / 8) + n.val % 8) = s₀ + n.val := by omega
  rw [e]; rfl

end Cert.Odd

end
-- ==== Proof.Odd.Gate.lean ====
module

public import proofs.«01_k».proof.Proof.Odd.Stages

/-! The gated half of a mixed tile: the normed gate lanes, the causal weights, one product for two heads and two blocks
of 128 rows at once, and the gate itself. -/

@[expose] public section

set_option maxRecDepth 16384

noncomputable section

namespace Cert.Odd

open Cert.Kernel3Ideal Cert.Kernel3Ideal.Gen
open Idealize.ShloMosaic

/-- Which weights of a block are kept: those of rows up to the end of the row's chunk of 64. -/
def causal : IVec S128x128 1 := k0_pay98 k0_pay95 (iota .tc S128x128 32 [1] iota_S128x128_d1_w32) 64#32 k0_pay96 k0_pay97

/-- The lanes of the first of two heads. -/
def firstHead : IVec S128x128 1 := k0_pay99

/-- The chunk a row lies in, as the causal weights compute it. -/
theorem chunk : ∀ q : Fin 128,
    Scalar.select
        (IntOp.andi
          (IntOp.cmpi CmpIPredicate.ne
            (IntOp.subi (BitVec.setWidth 32 (IntOp.cmpi CmpIPredicate.sgt (BitVec.ofNat 32 q.val) 0#32))
              (BitVec.setWidth 32 (IntOp.cmpi CmpIPredicate.slt (BitVec.ofNat 32 q.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 q.val) 64#32) 0#32))
        (IntOp.subi (IntOp.divsi ArithUnit.vector (BitVec.ofNat 32 q.val) 64#32) 1#32)
        (IntOp.divsi ArithUnit.vector (BitVec.ofNat 32 q.val) 64#32) = BitVec.ofNat 32 (q.val / 64) := by
  decide +kernel

theorem sle_chunk : ∀ a b : Fin 2, IntOp.cmpi CmpIPredicate.sle (BitVec.ofNat 32 a.val) (BitVec.ofNat 32 b.val) = if a.val ≤ b.val then 1#1 else 0#1 := by
  decide

theorem causal_apply (t q : Fin 128) : causal (ix2 t q) = if q.val / 64 ≤ t.val / 64 then 1#1 else 0#1 := by
  unfold causal k0_pay98 k0_pay97 k0_pay96 k0_pay95; pointwise
  rw [chunk, chunk, sle_chunk ⟨q.val / 64, by omega⟩ ⟨t.val / 64, by omega⟩]

theorem firstHead_apply (t q : Fin 128) : firstHead (ix2 t q) = if q.val < 64 then 1#1 else 0#1 := by
  unfold firstHead k0_pay99; pointwise
  revert q; decide

/-- One head's weights, zero where not kept. -/
def kept (w : FVec Ideal S1x128x128 .f32) : FVec Ideal S128x128 .bf16 :=
  truncf .bf16 (select causal (shapeCast S128x128 w shapeCasts_S1x128x128_S128x128) (broadcast S128x128 (Scalar.ofBits .f32 0x00000000#32 : Ideal .f32))) bitsLt_bf16_f32

theorem kept_apply (w) (t q : Fin 128) : kept w (ix2 t q) = if q.val / 64 ≤ t.val / 64 then w (ix3 0 t q) else 0 := by
  unfold kept; pointwise
  rw [causal_apply]; split <;> rfl

/-- Two blocks' rows, once with the second head's lanes cleared and once with the first head's. -/
def stacked (a b : FVec Ideal S128x128 .bf16) : FVec Ideal S256x256 .bf16 :=
  concatenate S256x256 0
    [⟨S128x256, concatenate S128x256 1 [⟨S128x128, select firstHead a (broadcast S128x128 (Scalar.ofBits .bf16 0x0000#16 : Ideal .bf16))⟩,
        ⟨S128x128, select firstHead b (broadcast S128x128 (Scalar.ofBits .bf16 0x0000#16 : Ideal .bf16))⟩] concatenates_S128x128_S128x128_S128x256_d1⟩,
     ⟨S128x256, concatenate S128x256 1 [⟨S128x128, select firstHead (broadcast S128x128 (Scalar.ofBits .bf16 0x0000#16 : Ideal .bf16)) a⟩,
        ⟨S128x128, select firstHead (broadcast S128x128 (Scalar.ofBits .bf16 0x0000#16 : Ideal .bf16)) b⟩] concatenates_S128x128_S128x128_S128x256_d1⟩]
    concatenates_S128x256_S128x256_S256x256_d0

/-- The products of two heads' weights with two blocks' rows. -/
def pairProduct (w w' : FVec Ideal S1x128x128 .f32) (a b : FVec Ideal S128x128 .bf16) : FVec Ideal S128x256 .f32 :=
  matmul dot_S128x256_S256x256_S128x256_1_0_0_1_n_n none
    (concatenate S128x256 1 [⟨S128x128, kept w⟩, ⟨S128x128, kept w'⟩] concatenates_S128x128_S128x128_S128x256_d1 : FVec Ideal S128x256 .bf16)
    (stacked a b) (constant S128x256 .f32 0x00000000#32)

theorem pairProduct_apply (w w') (a b) (t : Fin 128) (k : Fin 256) :
    pairProduct w w' a b (ix2 t k) = ∑ q : Fin 128, (if q.val / 64 ≤ t.val / 64 then (if k.val % 128 < 64 then w else w') (ix3 0 t q) else 0)
      * (if h : k.val < 128 then a (ix2 q ⟨k.val, h⟩) else b (ix2 q ⟨k.val - 128, by omega⟩)) := by
  unfold pairProduct stacked; pointwise
  simp only [firstHead_apply, kept_apply]
  rw [← Finset.sum_add_distrib]
  refine Finset.sum_congr rfl fun q _ => ?_
  by_cases h : k.val < 128
  · simp only [dif_pos h]
    by_cases h' : k.val < 64
    · have e : k.val % 128 < 64 := by omega
      simp only [if_pos h', if_pos e, select_one, mul_zero, add_zero]
    · have e : ¬ k.val % 128 < 64 := by omega
      simp only [if_neg h', if_neg e, select_zero, mul_zero, zero_add]
  · simp only [dif_neg h]
    by_cases h' : k.val - 128 < 64
    · have e : k.val % 128 < 64 := by omega
      simp only [if_pos h', if_pos e, select_one, mul_zero, add_zero]
    · have e : ¬ k.val % 128 < 64 := by omega
      simp only [if_neg h', if_neg e, select_zero, mul_zero, zero_add]

/-- The normed gate lanes of a tile. -/
def normed (v : FVec Ideal S32x8x512 .f32) (g : FVec Ideal S1x512 .f32) : FVec Ideal S256x512 .bf16 := k0_pay94 v g

theorem normed_apply (v) (g) (n : Fin 256) (c : Fin 512) :
    normed v g (ix2 n c) = rms 0x44000000#32 (fun p => v (ix3 ⟨n.val / 8, by omega⟩ ⟨n.val % 8, by omega⟩ p)) (fun p => g (ix2 0 p)) c := by
  unfold normed rms k0_pay94; pointwise

/-- The gate of a tile from the four pairs of heads. -/
def gates (v : FVec Ideal S256x512 .bf16) (w : Fin 8 → FVec Ideal S1x128x128 .f32) (b : FVec Ideal S128x512 .f32) : FVec Ideal S256x512 .f32 :=
  let p0 := pairProduct (w 0) (w 1) (extractStridedSlice S128x128 ![0, 0] v slices_S256x512_o0_0_S128x128) (extractStridedSlice S128x128 ![128, 0] v slices_S256x512_o128_0_S128x128)
  let p1 := pairProduct (w 2) (w 3) (extractStridedSlice S128x128 ![0, 128] v slices_S256x512_o0_128_S128x128) (extractStridedSlice S128x128 ![128, 128] v slices_S256x512_o128_128_S128x128)
  let p2 := pairProduct (w 4) (w 5) (extractStridedSlice S128x128 ![0, 256] v slices_S256x512_o0_256_S128x128) (extractStridedSlice S128x128 ![128, 256] v slices_S256x512_o128_256_S128x128)
  let p3 := pairProduct (w 6) (w 7) (extractStridedSlice S128x128 ![0, 384] v slices_S256x512_o0_384_S128x128) (extractStridedSlice S128x128 ![128, 384] v slices_S256x512_o128_384_S128x128)
  concatenate S256x512 0
    [⟨S128x512, addf (concatenate S128x512 1 [⟨S128x128, extractStridedSlice S128x128 ![0, 0] p0 slices_S128x256_o0_0_S128x128⟩,
        ⟨S128x128, extractStridedSlice S128x128 ![0, 0] p1 slices_S128x256_o0_0_S128x128⟩,
        ⟨S128x128, extractStridedSlice S128x128 ![0, 0] p2 slices_S128x256_o0_0_S128x128⟩,
        ⟨S128x128, extractStridedSlice S128x128 ![0, 0] p3 slices_S128x256_o0_0_S128x128⟩] concatenates_S128x128_S128x128_S128x128_S128x128_S128x512_d1)
        (shapeCast S128x512 b shapeCasts_S128x512_S128x512)⟩,
     ⟨S128x512, addf (concatenate S128x512 1 [⟨S128x128, extractStridedSlice S128x128 ![0, 128] p0 slices_S128x256_o0_128_S128x128⟩,
        ⟨S128x128, extractStridedSlice S128x128 ![0, 128] p1 slices_S128x256_o0_128_S128x128⟩,
        ⟨S128x128, extractStridedSlice S128x128 ![0, 128] p2 slices_S128x256_o0_128_S128x128⟩,
        ⟨S128x128, extractStridedSlice S128x128 ![0, 128] p3 slices_S128x256_o0_128_S128x128⟩] concatenates_S128x128_S128x128_S128x128_S128x128_S128x512_d1)
        (shapeCast S128x512 b shapeCasts_S128x512_S128x512)⟩]
    concatenates_S128x512_S128x512_S256x512_d0

/-- The lanes of one pair of heads in one block of a pair's product. -/
theorem pair_gate (v : FVec Ideal S256x512 .bf16) (w : Fin 8 → FVec Ideal S1x128x128 .f32) (b : FVec Ideal S128x512 .f32) (i : Fin 2) (t : Fin 128) (p : Fin 4)
    (k : Fin 128) {a a' : FVec Ideal S128x128 .bf16} (ha : ∀ q k, a (ix2 q k) = v (ix2 ⟨q.val, by omega⟩ ⟨p.val * 128 + k.val, by omega⟩))
    (ha' : ∀ q k, a' (ix2 q k) = v (ix2 ⟨128 + q.val, by omega⟩ ⟨p.val * 128 + k.val, by omega⟩)) (t' : Fin 128) (ht : t'.val = t.val)
    (k' : Fin 256) (hk : k'.val = i.val * 128 + k.val) (c c' : Fin 512) (hc : c.val = p.val * 128 + k.val) (hc' : c' = c) :
    pairProduct (w ⟨2 * p.val, by omega⟩) (w ⟨2 * p.val + 1, by omega⟩) a a' (ix2 t' k') + b (ix2 t' c') =
      gate (fun q c => v (ix2 ⟨i.val * 128 + q.val, by omega⟩ c)) (fun h t q => w h (ix3 0 t q)) (fun t c => b (ix2 t c)) t c := by
  obtain rfl : t' = t := Fin.ext ht
  subst hc'
  rw [pairProduct_apply]
  unfold gate
  congr 1
  refine Finset.sum_congr rfl fun q _ => ?_
  congr 1
  · congr 1
    by_cases h : k'.val % 128 < 64
    · rw [if_pos h]; congr 2; omega
    · rw [if_neg h]; congr 2; omega
  · by_cases h : k'.val < 128
    · rw [dif_pos h, ha]; congr 2 <;> (apply Fin.ext; simp only; omega)
    · rw [dif_neg h, ha']; congr 2 <;> (apply Fin.ext; simp only; omega)

theorem gates_apply (v w b) (i : Fin 2) (t : Fin 128) (p : Fin 4) (k : Fin 128) :
    gates v w b (ix2 ⟨i.val * 128 + t.val, by omega⟩ ⟨p.val * 128 + k.val, by omega⟩) =
      gate (fun q c => v (ix2 ⟨i.val * 128 + q.val, by omega⟩ c)) (fun h t q => w h (ix3 0 t q)) (fun t c => b (ix2 t c)) t ⟨p.val * 128 + k.val, by omega⟩ := by
  unfold gates; pointwise
  have hi : i = 0 ∨ i = 1 := by omega
  have hp : p = 0 ∨ p = 1 ∨ p = 2 ∨ p = 3 := by omega
  rcases hi with rfl | rfl <;> [rw [dif_pos (by simp only [Fin.val_zero]; omega)]; rw [dif_neg (by simp only [Fin.val_one]; omega)]] <;>
    rcases hp with rfl | rfl | rfl | rfl
  · rw [dif_pos (by omega)]; exact pair_gate v w b 0 t 0 k (fun q k => by pointwise) (fun q k => by pointwise) _ (by simp <;> omega) _ (by simp <;> omega) _ _ (by simp <;> omega) (by ext; simp <;> omega)
  · rw [dif_neg (by omega), dif_pos (by omega)]; exact pair_gate v w b 0 t 1 k (fun q k => by pointwise) (fun q k => by pointwise) _ (by simp <;> omega) _ (by simp <;> omega) _ _ (by simp <;> omega) (by ext; simp <;> omega)
  · rw [dif_neg (by omega), dif_neg (by omega), dif_pos (by omega)]; exact pair_gate v w b 0 t 2 k (fun q k => by pointwise) (fun q k => by pointwise) _ (by simp <;> omega) _ (by simp <;> omega) _ _ (by simp <;> omega) (by ext; simp <;> omega)
  · rw [dif_neg (by omega), dif_neg (by omega), dif_neg (by omega)]; exact pair_gate v w b 0 t 3 k (fun q k => by pointwise) (fun q k => by pointwise) _ (by simp <;> omega) _ (by simp <;> omega) _ _ (by simp <;> omega) (by ext; simp <;> omega)
  · rw [dif_pos (by omega)]; exact pair_gate v w b 1 t 0 k (fun q k => by pointwise) (fun q k => by pointwise) _ (by simp <;> omega) _ (by simp <;> omega) _ _ (by simp <;> omega) (by ext; simp <;> omega)
  · rw [dif_neg (by omega), dif_pos (by omega)]; exact pair_gate v w b 1 t 1 k (fun q k => by pointwise) (fun q k => by pointwise) _ (by simp <;> omega) _ (by simp <;> omega) _ _ (by simp <;> omega) (by ext; simp <;> omega)
  · rw [dif_neg (by omega), dif_neg (by omega), dif_pos (by omega)]; exact pair_gate v w b 1 t 2 k (fun q k => by pointwise) (fun q k => by pointwise) _ (by simp <;> omega) _ (by simp <;> omega) _ _ (by simp <;> omega) (by ext; simp <;> omega)
  · rw [dif_neg (by omega), dif_neg (by omega), dif_neg (by omega)]; exact pair_gate v w b 1 t 3 k (fun q k => by pointwise) (fun q k => by pointwise) _ (by simp <;> omega) _ (by simp <;> omega) _ _ (by simp <;> omega) (by ext; simp <;> omega)

end Cert.Odd

end
-- ==== Proof.Odd.Tile.lean ====
module

public import proofs.«01_k».proof.Proof.Odd.Pool
public import proofs.«01_k».proof.Proof.Odd.Gate

/-! One mixed tile of 256 rows from its lanes and the window sums kept of the tile before: its pooled and gated lanes are
the mixed rows, and the window sums kept of it are those of its last eight rows. -/

@[expose] public section

set_option maxRecDepth 16384

noncomputable section

namespace Cert.Odd

open Cert.Kernel3Ideal Cert.Kernel3Ideal.Gen
open Idealize.ShloMosaic

/-- The lanes of pooling group `g`. -/
def lanes (z : ℕ → Fin 1536 → EReal) (g : Fin 4) (s : ℕ) (l : Fin 128) : EReal := z s ⟨128 * g.val + l.val, by omega⟩

/-- The window sums over 2, 4, 8 and 16 rows; `h0` to `h3` are the shorter windows of the rows before. -/
def sum2 (x : FVec Ideal S32x8x128 .f32) (h0 : FVec Ideal S1x8x128 .f32) : FVec Ideal S32x8x128 .f32 := shiftAdd 7#32 1#32 x h0
def sum4 (x : FVec Ideal S32x8x128 .f32) (h0 h1 : FVec Ideal S1x8x128 .f32) : FVec Ideal S32x8x128 .f32 := shiftAdd 6#32 2#32 (sum2 x h0) h1
def sum8 (x : FVec Ideal S32x8x128 .f32) (h0 h1 h2 : FVec Ideal S1x8x128 .f32) : FVec Ideal S32x8x128 .f32 := shiftAdd 4#32 4#32 (sum4 x h0 h1) h2
def sum16 (x : FVec Ideal S32x8x128 .f32) (h0 h1 h2 h3 : FVec Ideal S1x8x128 .f32) : FVec Ideal S32x8x128 .f32 :=
  addf (sum8 x h0 h1 h2) (groupDown (sum8 x h0 h1 h2) h3)

theorem sum2_rows {s₀ f x h0} (hs : s₀ % 8 = 0) (hx : Rows s₀ f x) (H0 : Before s₀ (wins f 1) h0) : Rows s₀ (wins f 2) (sum2 x h0) := by
  rw [← plus_one]; rw [wins_one] at H0; exact shiftAdd_one hs hx H0

theorem sum4_rows {s₀ f x h0 h1} (hs : s₀ % 8 = 0) (hx : Rows s₀ f x) (H0 : Before s₀ (wins f 1) h0) (H1 : Before s₀ (wins f 2) h1) :
    Rows s₀ (wins f 4) (sum4 x h0 h1) := by
  rw [← plus_two]; exact shiftAdd_two hs (sum2_rows hs hx H0) H1

theorem sum8_rows {s₀ f x h0 h1 h2} (hs : s₀ % 8 = 0) (hx : Rows s₀ f x) (H0 : Before s₀ (wins f 1) h0) (H1 : Before s₀ (wins f 2) h1)
    (H2 : Before s₀ (wins f 4) h2) : Rows s₀ (wins f 8) (sum8 x h0 h1 h2) := by
  rw [← plus_four]; exact shiftAdd_four hs (sum4_rows hs hx H0 H1) H2

theorem sum16_rows {s₀ f x h0 h1 h2 h3} (hs : s₀ % 8 = 0) (hx : Rows s₀ f x) (H0 : Before s₀ (wins f 1) h0) (H1 : Before s₀ (wins f 2) h1)
    (H2 : Before s₀ (wins f 4) h2) (H3 : Before s₀ (wins f 8) h3) : Rows s₀ (wins f 16) (sum16 x h0 h1 h2 h3) := by
  rw [← plus_eight]; exact groupAdd hs (sum8_rows hs hx H0 H1 H2) H3

/-- The last eight rows of a tile. -/
theorem tail_rows {s₀ f x} (hx : Rows s₀ f x) (r : Fin 8) (l : Fin 128) : tail x (ix3 0 r l) = f (s₀ + (248 + r.val)) l := by
  rw [tail_apply, hx]; rfl

theorem wins_of_rows {s₀ f x} (hx : Rows s₀ f x) : Rows s₀ (wins f 1) x := by rw [wins_one]; exact hx

/-- The window sums kept of the rows before `s₀`: level `a` holds the windows of `2 ^ a` rows, for the groups `a` and on. -/
def Kept (s₀ : ℕ) (z : ℕ → Fin 1536 → EReal) (G : FVec Ideal S4x8x512 .f32) : Prop :=
  ∀ g a : Fin 4, a ≤ g → ∀ (r : Fin 8) (l : Fin 128), G (ix3 a r ⟨128 * g.val + l.val, by omega⟩) = wins (lanes z g) (2 ^ a.val) (s₀ - 8 + r.val) l

/-- The pooled half of a tile. -/
def poolHalf (p : BitVec 32) (x0 x1 x2 x3 : FVec Ideal S32x8x128 .f32) (h00 h10 h11 h20 h21 h22 h30 h31 h32 h33 : FVec Ideal S1x8x128 .f32)
    (w0 w1 w2 w3 : FVec Ideal S1x128x128 .bf16) (scale : FVec Ideal S1x512 .f32) : FVec Ideal S256x512 .f32 :=
  poolLanes (meanProduct 0x40000000#32 (counts p) (sum2 x0 h00) x0 w0) (meanProduct 0x40800000#32 (counts p) (sum4 x1 h10 h11) x1 w1)
    (meanProduct 0x41000000#32 (counts p) (sum8 x2 h20 h21 h22) x2 w2) (meanProduct 0x41800000#32 (counts p) (sum16 x3 h30 h31 h32 h33) x3 w3) scale

section Pooled

variable {s₀ : ℕ} {z : ℕ → Fin 1536 → EReal} {x0 x1 x2 x3 : FVec Ideal S32x8x128 .f32} {h00 h10 h11 h20 h21 h22 h30 h31 h32 h33 : FVec Ideal S1x8x128 .f32}
  {w0 w1 w2 w3 : FVec Ideal S1x128x128 .bf16} {scale : FVec Ideal S1x512 .f32} {W : Fin 4 → Fin 128 → Fin 128 → EReal} {S : Fin 512 → EReal}

/-- The pooled half holds the pooled lanes of the tile's rows, when the vectors hold the tile's lanes and the windows before. -/
theorem poolHalf_rows (hs : s₀ % 8 = 0) (hs' : s₀ ≤ 1792)
    (hx0 : Rows s₀ (lanes z 0) x0) (hx1 : Rows s₀ (lanes z 1) x1) (hx2 : Rows s₀ (lanes z 2) x2) (hx3 : Rows s₀ (lanes z 3) x3)
    (H00 : Before s₀ (wins (lanes z 0) 1) h00) (H10 : Before s₀ (wins (lanes z 1) 1) h10) (H11 : Before s₀ (wins (lanes z 1) 2) h11)
    (H20 : Before s₀ (wins (lanes z 2) 1) h20) (H21 : Before s₀ (wins (lanes z 2) 2) h21) (H22 : Before s₀ (wins (lanes z 2) 4) h22)
    (H30 : Before s₀ (wins (lanes z 3) 1) h30) (H31 : Before s₀ (wins (lanes z 3) 2) h31) (H32 : Before s₀ (wins (lanes z 3) 4) h32)
    (H33 : Before s₀ (wins (lanes z 3) 8) h33)
    (hw0 : ∀ q c, w0 (ix3 0 q c) = W 0 q c) (hw1 : ∀ q c, w1 (ix3 0 q c) = W 1 q c) (hw2 : ∀ q c, w2 (ix3 0 q c) = W 2 q c)
    (hw3 : ∀ q c, w3 (ix3 0 q c) = W 3 q c) (hS : ∀ c, scale (ix2 0 c) = S c) (n : Fin 256) (c : Fin 512) :
    poolHalf (BitVec.ofNat 32 s₀) x0 x1 x2 x3 h00 h10 h11 h20 h21 h22 h30 h31 h32 h33 w0 w1 w2 w3 scale (ix2 n c) = pooled z W S (s₀ + n.val) c := by
  have e : c = ⟨(⟨c.val / 128, by omega⟩ : Fin 4).val * 128 + (⟨c.val % 128, by omega⟩ : Fin 128).val, by simp only; omega⟩ := Fin.ext (by simp only; omega)
  have key : ∀ (g : Fin 4) (c : Fin 128), poolHalf (BitVec.ofNat 32 s₀) x0 x1 x2 x3 h00 h10 h11 h20 h21 h22 h30 h31 h32 h33 w0 w1 w2 w3 scale
      (ix2 n ⟨g.val * 128 + c.val, by omega⟩) = (∑ q : Fin 128, groupMean g (fun s => lanes z g s q) (s₀ + n.val) * W g q c) * scale (ix2 0 ⟨g.val * 128 + c.val, by omega⟩) := by
    intro g c
    unfold poolHalf
    rw [poolLanes_apply]
    congr 1
    match g with
    | 0 => exact (meanProduct_rows hs' 2 _ (sum2_rows hs hx0 H00) hx0 w0 n c).trans (Finset.sum_congr rfl fun q _ => congrArg _ (hw0 q c))
    | 1 => exact (meanProduct_rows hs' 4 _ (sum4_rows hs hx1 H10 H11) hx1 w1 n c).trans (Finset.sum_congr rfl fun q _ => congrArg _ (hw1 q c))
    | 2 => exact (meanProduct_rows hs' 8 _ (sum8_rows hs hx2 H20 H21 H22) hx2 w2 n c).trans (Finset.sum_congr rfl fun q _ => congrArg _ (hw2 q c))
    | 3 => exact (meanProduct_rows hs' 16 _ (sum16_rows hs hx3 H30 H31 H32 H33) hx3 w3 n c).trans (Finset.sum_congr rfl fun q _ => congrArg _ (hw3 q c))
  conv_lhs => rw [e]
  rw [key]
  unfold pooled
  congr 1
  · refine Finset.sum_congr rfl fun q _ => ?_
    congr 2
    funext s
    unfold lanes; congr 2; simp only; omega
  · rw [← e, hS]

end Pooled

/-- The gated half of a tile. -/
def gateHalf (u v : FVec Ideal S32x8x512 .f32) (norm : FVec Ideal S1x512 .f32) (w : Fin 8 → FVec Ideal S1x128x128 .f32) (b : FVec Ideal S128x512 .f32) :
    FVec Ideal S256x512 .bf16 :=
  shapeCast S256x512 (truncf .bf16 (mulf (k0_pay93 u) (gates (normed v norm) w b)) bitsLt_bf16_f32 : FVec Ideal S256x512 .bf16) shapeCasts_S256x512_S256x512

/-- Eight vectors by their number. -/
def eight {α : Type} (a b c d e f g h : α) : Fin 8 → α
  | 0 => a | 1 => b | 2 => c | 3 => d | 4 => e | 5 => f | 6 => g | 7 => h

theorem gateHalf_apply (u v norm w b) (n : Fin 256) (c : Fin 512) :
    gateHalf u v norm w b (ix2 n c) = u (ix3 ⟨n.val / 8, by omega⟩ ⟨n.val % 8, by omega⟩ c) * gates (normed v norm) w b (ix2 n c) := by
  unfold gateHalf k0_pay93; pointwise

theorem gates_lane (v w b) (n : Fin 256) (c : Fin 512) :
    gates v w b (ix2 n c) = gate (fun q c => v (ix2 ⟨n.val / 128 * 128 + q.val, by omega⟩ c)) (fun h t q => w h (ix3 0 t q)) (fun t c => b (ix2 t c))
      ⟨n.val % 128, by omega⟩ c := by
  have e : c = ⟨(⟨c.val / 128, by omega⟩ : Fin 4).val * 128 + (⟨c.val % 128, by omega⟩ : Fin 128).val, by simp only; omega⟩ := Fin.ext (by simp only; omega)
  have e' : n = ⟨(⟨n.val / 128, by omega⟩ : Fin 2).val * 128 + (⟨n.val % 128, by omega⟩ : Fin 128).val, by simp only; omega⟩ := Fin.ext (by simp only; omega)
  conv_lhs => rw [e, e']
  rw [gates_apply]
  rw [← e]

/-- The gated half holds the gated lanes of the tile's rows. -/
theorem gateHalf_rows {s₀} {z : ℕ → Fin 1536 → EReal} (hs : s₀ % 128 = 0) {u v : FVec Ideal S32x8x512 .f32}
    (hu : ∀ (g : Fin 32) (r : Fin 8) (c : Fin 512), u (ix3 g r c) = z (s₀ + (8 * g.val + r.val)) ⟨512 + c.val, by omega⟩)
    (hv : ∀ (g : Fin 32) (r : Fin 8) (c : Fin 512), v (ix3 g r c) = z (s₀ + (8 * g.val + r.val)) ⟨1024 + c.val, by omega⟩)
    {norm w b} {N : Fin 512 → EReal} {W : Fin 8 → Fin 128 → Fin 128 → EReal} {B : Fin 128 → Fin 512 → EReal}
    (hN : ∀ c, norm (ix2 0 c) = N c) (hW : ∀ h t q, w h (ix3 0 t q) = W h t q) (hB : ∀ t c, b (ix2 t c) = B t c) (n : Fin 256) (c : Fin 512) :
    gateHalf u v norm w b (ix2 n c) = gated z N W B (s₀ + n.val) c := by
  obtain rfl : (fun c => norm (ix2 0 c)) = N := funext hN
  obtain rfl : (fun h t q => w h (ix3 0 t q)) = W := funext fun h => funext fun t => funext fun q => hW h t q
  obtain rfl : (fun t c => b (ix2 t c)) = B := funext fun t => funext fun c => hB t c
  rw [gateHalf_apply, gates_lane, hu]
  unfold gated
  congr 1
  · congr 1; simp only; omega
  · congr 1
    · funext q c
      rw [normed_apply]
      congr 1
      funext p
      rw [hv]
      congr 1; simp only; omega
    · apply Fin.ext; simp only; omega

end Cert.Odd

end
-- ==== Proof.Odd.Payloads.lean ====
module

public import proofs.«01_k».proof.Proof.Odd.Tile

/-! What the body's runs compute, by the stages of a mixed tile: the norms and products of a tile of rows, and the pooled
and gated halves at the first point, at a middle point's two tiles and at the last point. -/

@[expose] public section

set_option maxRecDepth 16384

noncomputable section

namespace Cert.Odd

open Cert.Kernel3Ideal Cert.Kernel3Ideal.Gen
open Idealize.ShloMosaic

/-! ## Norms and products of a tile of rows -/

theorem norm_pay8 (x g) (n : Fin 256) (k : Fin 1024) : k0_pay8 (F := Ideal) x g (ix2 n k) = rms 0x44800000#32 (fun q => x (ix2 n q)) (fun q => g (ix2 0 q)) k := by
  unfold k0_pay8 rms; pointwise
theorem norm_pay9 (x g) (n : Fin 256) (k : Fin 1024) : k0_pay9 (F := Ideal) x g (ix2 n k) = rms 0x44800000#32 (fun q => x (ix2 n q)) (fun q => g (ix2 0 q)) k := by
  unfold k0_pay9 rms; pointwise
theorem norm_pay11 (x g) (n : Fin 256) (k : Fin 1024) : k0_pay11 (F := Ideal) x g (ix2 n k) = rms 0x44800000#32 (fun q => x (ix2 n q)) (fun q => g (ix2 0 q)) k := by
  unfold k0_pay11 rms; pointwise
theorem norm_pay116 (x g) (n : Fin 256) (k : Fin 1024) :
    k0_pay116 (F := Ideal) (k0_pay115 x) g (ix2 n k) = rms 0x44800000#32 (fun q => x (ix2 n q)) (fun q => g (ix2 0 q)) k := by
  unfold k0_pay116 k0_pay115 rms; pointwise

/-- A corner of eight rows and 128 lanes has a zero added to it; the rest is carried over. -/
def corner (v : FVec Ideal S256x1024 .f32) (a : FVec Ideal S8x128 .f32) : FVec Ideal S256x1024 .f32 :=
  concatenate S256x1024 0 [⟨S248x1024, extractStridedSlice S248x1024 ![0, 0] v slices_S256x1024_o0_0_S248x1024⟩,
    ⟨S8x1024, concatenate S8x1024 1 [⟨S8x896, extractStridedSlice S8x896 ![248, 0] v slices_S256x1024_o248_0_S8x896⟩,
      ⟨S8x128, addf (extractStridedSlice S8x128 ![248, 896] v slices_S256x1024_o248_896_S8x128) a⟩] concatenates_S8x896_S8x128_S8x1024_d1⟩]
    concatenates_S248x1024_S8x1024_S256x1024_d0

theorem corner_apply (v a) (ha : ∀ (r : Fin 8) (k : Fin 128), a (ix2 r k) = 0) (n : Fin 256) (k : Fin 1024) : corner v a (ix2 n k) = v (ix2 n k) := by
  unfold corner; pointwise
  simp only [ha, add_zero]
  split
  · congr 1
  · split <;> · refine congrArg v (funext fun b => Fin.ext ?_); match b with
      | ⟨0, _⟩ => simp <;> omega
      | ⟨1, _⟩ => simp <;> omega

theorem anchor_62 (r : Fin 8) (k : Fin 128) : k0_pay62 (F := Ideal) (ix2 r k) = 0 := by
  unfold k0_pay62; pointwise
theorem anchor_173 (r : Fin 8) (k : Fin 128) : k0_pay173 (F := Ideal) (ix2 r k) = 0 := by
  unfold k0_pay173; pointwise

/-- The norm of a tile of rows before it is stored. -/
def wide (x : FVec Ideal S256x1024 .f32) (g : FVec Ideal S1x1024 .f32) : FVec Ideal S256x1024 .f32 :=
  have v := shapeCast S256x1024 x shapeCasts_S256x1024_S256x1024
  have s := shapeCast S256x1 (multiReduction .add [1] S256 (mulf v v) 0x00000000#32 reduces_S256x1024_S256 (.inl rfl) rfl) shapeCasts_S256_S256x1
  have m := divf s (broadcast S256x1 (Scalar.ofBits .f32 0x44800000#32 : Ideal .f32))
  have k := rsqrt (addf m (broadcast S256x1 (Scalar.ofBits .f32 0x358637BD#32 : Ideal .f32)))
  mulf (mulf v (broadcastTo S256x1024 k broadcasts_S256x1_S256x1024))
    (broadcastTo S256x1024 (shapeCast S1x1024 g shapeCasts_S1x1024_S1x1024) broadcasts_S1x1024_S256x1024)

theorem wide_apply (x g) (n : Fin 256) (k : Fin 1024) : wide x g (ix2 n k) = rms 0x44800000#32 (fun q => x (ix2 n q)) (fun q => g (ix2 0 q)) k := by
  unfold wide rms; pointwise

theorem pay6_corner (a x g) : k0_pay6 (F := Ideal) a x g = shapeCast S256x1024 (truncf .bf16 (corner (wide x g) a) bitsLt_bf16_f32) shapeCasts_S256x1024_S256x1024 := rfl

theorem norm_pay6 (x g) (n : Fin 256) (k : Fin 1024) :
    k0_pay6 (F := Ideal) k0_pay173 x g (ix2 n k) = rms 0x44800000#32 (fun q => x (ix2 n q)) (fun q => g (ix2 0 q)) k := by
  rw [pay6_corner, shapeCast_self]
  exact (corner_apply _ _ anchor_173 n k).trans (wide_apply x g n k)

theorem norm_pay5 (x g) (n : Fin 256) (k : Fin 1024) :
    k0_pay5 (F := Ideal) k0_pay62 (k0_pay63 x) (k0_pay64 g) (k0_pay65 x) (FloatOps.ofBits .f32 897988541#32) (ix2 n k)
      = rms 0x44800000#32 (fun q => x (ix2 n q)) (fun q => g (ix2 0 q)) k :=
  (congrFun (rfl : _ = k0_pay6 (F := Ideal) k0_pay173 x g) _).trans (norm_pay6 x g n k)

theorem in_pay10 (x w) (g : Fin 32) (r : Fin 8) (l : Fin 1536) :
    k0_pay10 (F := Ideal) x w (ix3 g r l) = ∑ q, x (ix2 ⟨8 * g.val + r.val, by omega⟩ q) * w (ix2 q l) := by
  unfold k0_pay10; pointwise; simp only [Nat.mul_comm g.val 8]
theorem in_pay61 (x w) (g : Fin 32) (r : Fin 8) (l : Fin 1536) :
    k0_pay61 (F := Ideal) x w (ix3 g r l) = ∑ q, x (ix2 ⟨8 * g.val + r.val, by omega⟩ q) * w (ix2 q l) := by
  unfold k0_pay61; pointwise; simp only [Nat.mul_comm g.val 8]
theorem in_pay114 (x w) (g : Fin 32) (r : Fin 8) (l : Fin 1536) :
    k0_pay114 (F := Ideal) x w (ix3 g r l) = ∑ q, x (ix2 ⟨8 * g.val + r.val, by omega⟩ q) * w (ix2 q l) := by
  unfold k0_pay114; pointwise; simp only [Nat.mul_comm g.val 8]
theorem in_pay172 (x w) (g : Fin 32) (r : Fin 8) (l : Fin 1536) :
    k0_pay172 (F := Ideal) x w (ix3 g r l) = ∑ q, x (ix2 ⟨8 * g.val + r.val, by omega⟩ q) * w (ix2 q l) := by
  unfold k0_pay172; pointwise; simp only [Nat.mul_comm g.val 8]

/-- The residual and the norm of the out product. -/
def outRow (x : Fin 1024 → EReal) (y : Fin 1024 → EReal) (w : Fin 1024 → Fin 1024 → EReal) (g : Fin 1024 → EReal) (k : Fin 1024) : EReal :=
  x k + rms 0x44800000#32 (fun k => ∑ q, y q * w q k) g k

theorem out_pay66 (x y w g) (n : Fin 256) (k : Fin 1024) : k0_pay66 (F := Ideal) x y w g (ix2 n k)
    = outRow (fun q => x (ix2 n q)) (fun q => y (ix2 n q)) (fun q k => w (ix2 q k)) (fun q => g (ix2 0 q)) k := by
  unfold k0_pay66 outRow rms; pointwise
theorem out_pay117 (x y w g) (n : Fin 256) (k : Fin 1024) : k0_pay117 (F := Ideal) x y w g (ix2 n k)
    = outRow (fun q => x (ix2 n q)) (fun q => y (ix2 n q)) (fun q k => w (ix2 q k)) (fun q => g (ix2 0 q)) k := by
  unfold k0_pay117 outRow rms; pointwise
theorem out_pay174 (x y w g) (n : Fin 256) (k : Fin 1024) : k0_pay174 (F := Ideal) x y w g (ix2 n k)
    = outRow (fun q => x (ix2 n q)) (fun q => y (ix2 n q)) (fun q k => w (ix2 q k)) (fun q => g (ix2 0 q)) k := by
  unfold k0_pay174 outRow rms; pointwise
theorem out_pay7 (x y w g) (n : Fin 256) (k : Fin 1024) :
    k0_pay7 (F := Ideal) (k0_pay222 x) (k0_pay223 y w) (k0_pay224 g) (k0_pay225 y w) (FloatOps.ofBits .f32 1149239296#32) (ix2 n k)
    = outRow (fun q => x (ix2 n q)) (fun q => y (ix2 n q)) (fun q k => w (ix2 q k)) (fun q => g (ix2 0 q)) k :=
  (congrFun (rfl : _ = k0_pay66 (F := Ideal) x y w g) _).trans (out_pay66 x y w g n k)

/-! ## Positions -/

/-- The position word of the first tile at a point, as computed from the point's number. -/
def firstWord (a : BitVec 32) : BitVec 32 := Scalar.muli (Scalar.remsi (Scalar.addi (Scalar.subi (Scalar.muli 2#32 a) 1#32) 8#32) 8#32) 256#32
/-- The position word of the second. -/
def secondWord (a : BitVec 32) : BitVec 32 := Scalar.muli (Scalar.remsi (Scalar.addi (Scalar.muli 2#32 a) 8#32) 8#32) 256#32
/-- Whether the second tile starts a sequence. -/
def startBit (a : BitVec 32) : BitVec 1 := Scalar.cmpi CmpIPredicate.eq (Scalar.remsi a 4#32) 0#32

theorem firstWord_at : ∀ t : Fin 33, 1 ≤ t.val → firstWord (BitVec.ofNat 32 t.val) = BitVec.ofNat 32 ((2 * t.val - 1) % 8 * 256) := by decide +kernel
theorem secondWord_at : ∀ t : Fin 33, secondWord (BitVec.ofNat 32 t.val) = BitVec.ofNat 32 (2 * t.val % 8 * 256) := by decide +kernel
theorem startBit_at : ∀ t : Fin 33, startBit (BitVec.ofNat 32 t.val) = if 2 * t.val % 8 = 0 then 1#1 else 0#1 := by decide +kernel

/-- The windows before a tile, zero where it starts a sequence. -/
def fresh (b : BitVec 1) (h : FVec Ideal S1x8x128 .f32) : FVec Ideal S1x8x128 .f32 :=
  Scalar.select b (broadcast S1x8x128 (Scalar.ofBits .f32 0x00000000#32 : Ideal .f32)) h

theorem fresh_one (h) (r : Fin 8) (l : Fin 128) : fresh 1#1 h (ix3 0 r l) = 0 := by
  unfold fresh; rw [select_one]; pointwise
theorem fresh_zero (h) : fresh 0#1 h = h := rfl

end Cert.Odd

end
-- ==== Proof.Odd.Halves.lean ====
module

public import proofs.«01_k».proof.Proof.Odd.Payloads

/-! The pooled half, the gated half and the kept windows of a tile, as each run of the body computes them: at the first
point, the two tiles of a middle point, and at the last point. -/

@[expose] public section

set_option maxRecDepth 16384

noncomputable section

namespace Cert.Odd

open Cert.Kernel3Ideal Cert.Kernel3Ideal.Gen
open Idealize.ShloMosaic

variable (a : BitVec 32) (b : BitVec 1) (x x0 x1 x2 x3 : FVec Ideal S32x8x128 .f32) (h0 h1 h2 h3 h00 h10 h11 h20 h21 h22 h30 h31 h32 h33 : FVec Ideal S1x8x128 .f32)
  (p0 p1 p2 p3 : FVec Ideal S1x128x128 .bf16) (scale : FVec Ideal S1x512 .f32)
  (u v : FVec Ideal S32x8x512 .f32) (norm : FVec Ideal S1x512 .f32) (w0 w1 w2 w3 w4 w5 w6 w7 : FVec Ideal S1x128x128 .f32) (bias : FVec Ideal S128x512 .f32)

/-- The pooled half as it is stored. -/
def stored (x : FVec Ideal S256x512 .f32) : FVec Ideal S256x512 .bf16 :=
  shapeCast S256x512 (truncf .bf16 x bitsLt_bf16_f32 : FVec Ideal S256x512 .bf16) shapeCasts_S256x512_S256x512

theorem stored_apply (x) (n : Fin 256) (c : Fin 512) : stored x (ix2 n c) = x (ix2 n c) := by
  unfold stored; pointwise

/-! ## The middle points' first tile -/

theorem pool_mid : k0_pay112 (k0_pay92 (k0_pay67 a) (k0_pay69 (k0_pay67 a) x0 h00 p0) (k0_pay74 (k0_pay67 a) x1 (k0_pay71 x1 h10) h11 p1)
      (k0_pay82 (k0_pay81 (k0_pay67 a) x2 (k0_pay76 x2 h20) h21 h22) p2) x3 (k0_pay85 x3 h30 h31) h32 (iota Kind.tc S32x8x128 32 [1] iota_S32x8x128_d1_w32)
      (k0_pay88 x3 h30 h31) h33 p3 scale)
    = stored (poolHalf (firstWord a) x0 x1 x2 x3 h00 h10 h11 h20 h21 h22 h30 h31 h32 h33 p0 p1 p2 p3 scale) := rfl

theorem gate_mid :
    have i := iota Kind.tc S128x128 32 [1] iota_S128x128_d1_w32
    have m := k0_pay98 k0_pay95 i (64#32) k0_pay96 k0_pay97
    have n := k0_pay94 v norm
    k0_pay113 (k0_pay93 u) (k0_pay105 k0_pay99 (k0_pay100 k0_pay95 i (64#32) k0_pay96 k0_pay97 w0 w1) (k0_pay101 n) (k0_pay102 n) (k0_pay103 n) k0_pay104)
      (k0_pay106 n m k0_pay99 w2 w3) (k0_pay109 n m k0_pay99 (k0_pay107 m w4) (k0_pay108 w5)) (k0_pay110 m w6 w7) (k0_pay111 n k0_pay99) bias bias
    = gateHalf u v norm (eight w0 w1 w2 w3 w4 w5 w6 w7) bias := rfl

theorem tail_68 : k0_pay68 x0 = tail x0 := rfl
theorem tail_72 : k0_pay72 (k0_pay70 x1) = tail x1 := rfl
theorem tail_73 : k0_pay73 (k0_pay71 x1 h0) = tail (sum2 x1 h0) := rfl
theorem tail_77 : k0_pay77 (k0_pay75 x2) = tail x2 := rfl
theorem tail_79 : k0_pay79 (k0_pay76 x2 h0) = tail (sum2 x2 h0) := rfl
theorem tail_80 : k0_pay80 (k0_pay76 x2 h0) h1 = tail (sum4 x2 h0 h1) := rfl
theorem tail_84 : k0_pay84 x3 = tail x3 := rfl
theorem tail_86 : k0_pay86 x3 h0 = tail (sum2 x3 h0) := rfl
theorem tail_90 : k0_pay90 (k0_pay87 x3 h0 h1) = tail (sum4 x3 h0 h1) := rfl
theorem tail_91 : k0_pay91 (k0_pay85 x3 h0 h1) h2 (iota Kind.tc S32x8x128 32 [1] iota_S32x8x128_d1_w32) (k0_pay88 x3 h0 h1) = tail (sum8 x3 h0 h1 h2) := rfl

/-! ## The last point -/

theorem pool_last : k0_pay220 (k0_pay200 (k0_pay175 a) (k0_pay177 (k0_pay175 a) x0 h00 p0) (k0_pay182 (k0_pay175 a) x1 (k0_pay179 x1 h10) h11 p1)
      (k0_pay190 (k0_pay189 (k0_pay175 a) x2 (k0_pay184 x2 h20) h21 h22) p2) x3 (k0_pay193 x3 h30 h31) h32 (iota Kind.tc S32x8x128 32 [1] iota_S32x8x128_d1_w32)
      (k0_pay196 x3 h30 h31) h33 p3 scale)
    = stored (poolHalf (firstWord a) x0 x1 x2 x3 h00 h10 h11 h20 h21 h22 h30 h31 h32 h33 p0 p1 p2 p3 scale) := rfl

theorem gate_last :
    have i := iota Kind.tc S128x128 32 [1] iota_S128x128_d1_w32
    have m := k0_pay206 k0_pay203 i (64#32) k0_pay204 k0_pay205
    have n := k0_pay202 v norm
    k0_pay221 (k0_pay201 u) (k0_pay213 k0_pay207 (k0_pay208 k0_pay203 i (64#32) k0_pay204 k0_pay205 w0 w1) (k0_pay209 n) (k0_pay210 n) (k0_pay211 n) k0_pay212)
      (k0_pay214 n m k0_pay207 w2 w3) (k0_pay217 n m k0_pay207 (k0_pay215 m w4) (k0_pay216 w5)) (k0_pay218 m w6 w7) (k0_pay219 n k0_pay207) bias bias
    = gateHalf u v norm (eight w0 w1 w2 w3 w4 w5 w6 w7) bias := rfl

/-! ## The middle points' second tile -/

theorem pool_second :
    have z := k0_pay118 a
    have f := k0_pay128 (startBit a) x2 h20
    have e := k0_pay131 (startBit a) x2 h20 h21
    k0_pay170 (k0_pay147 (startBit a) z (k0_pay121 (k0_pay120 a x0 h00) p0) (k0_pay127 z x1 (k0_pay125 (startBit a) x1 h10 h11) p1)
      (k0_pay136 (startBit a) z x2 f e k0_pay132 h22 p2) x3 (k0_pay140 (startBit a) x3 h30 k0_pay137 h31)
      (k0_pay143 (startBit a) x3 h30 k0_pay137 h31 h32) 4#32 h33 p3 scale)
    = stored (poolHalf (secondWord a) x0 x1 x2 x3 (fresh (startBit a) h00) (fresh (startBit a) h10) (fresh (startBit a) h11) (fresh (startBit a) h20) (fresh (startBit a) h21)
        (fresh (startBit a) h22) (fresh (startBit a) h30) (fresh (startBit a) h31) (fresh (startBit a) h32) (fresh (startBit a) h33) p0 p1 p2 p3 scale) := rfl

theorem gate_second :
    have i := iota Kind.tc S128x128 32 [1] iota_S128x128_d1_w32
    have m := k0_pay155 k0_pay151 i (64#32) k0_pay152 k0_pay153 k0_pay154
    have n := k0_pay150 (k0_pay149 v) norm
    have q := k0_pay163 k0_pay156 (k0_pay157 k0_pay151 i (64#32) k0_pay152 k0_pay153 k0_pay154 w0 w1) (k0_pay159 n) (k0_pay160 n) (k0_pay161 n) k0_pay162
    k0_pay171 (k0_pay148 u) q
      (k0_pay164 n m k0_pay156 w2 w3) (k0_pay167 n k0_pay156 (k0_pay165 m w4) (k0_pay166 m w5)) (k0_pay168 n m k0_pay156 w6 w7) (k0_pay169 q) bias bias
    = gateHalf u v norm (eight w0 w1 w2 w3 w4 w5 w6 w7) bias := rfl

theorem tail_119 : k0_pay119 x0 = tail x0 := rfl
theorem tail_123 : k0_pay123 x1 = tail x1 := rfl
theorem tail_126 : k0_pay126 (k0_pay124 b x1 h0) = tail (sum2 x1 (fresh b h0)) := rfl
theorem tail_129 : k0_pay129 x2 = tail x2 := rfl
theorem tail_134 : k0_pay134 (k0_pay130 b x2 h0) = tail (sum2 x2 (fresh b h0)) := rfl
theorem tail_135 : k0_pay135 (k0_pay128 b x2 h0) (k0_pay131 b x2 h0 h1) k0_pay132 = tail (sum4 x2 (fresh b h0) (fresh b h1)) := rfl
theorem tail_139 : k0_pay139 x3 = tail x3 := rfl
theorem tail_141 : k0_pay141 b x3 h0 k0_pay137 = tail (sum2 x3 (fresh b h0)) := rfl
theorem tail_145 : k0_pay145 (k0_pay142 b x3 h0 k0_pay137 h1) = tail (sum4 x3 (fresh b h0) (fresh b h1)) := rfl
theorem tail_146 : k0_pay146 (k0_pay140 b x3 h0 k0_pay137 h1) (k0_pay143 b x3 h0 k0_pay137 h1 h2) 4#32 = tail (sum8 x3 (fresh b h0) (fresh b h1) (fresh b h2)) := rfl

/-! ## The first point -/

theorem pool_start :
    have i := iota Kind.tc S32x8x128 32 [0] iota_S32x8x128_d0_w32
    have z := k0_pay12 (secondWord a) i
    have s := k0_pay28 b x3 h30
    k0_pay59 (k0_pay36 b z (k0_pay14 b (secondWord a) i x0 h00 p0) (k0_pay20 (k0_pay18 b z x1 h10 h11) (k0_pay19 p1))
      (k0_pay26 b z x2 (k0_pay23 b x2 h20 h21) h22 p2) x3 (k0_pay32 b s h31 h32) h33 k0_pay34 p3 scale)
    = stored (poolHalf (secondWord a) x0 x1 x2 x3 (fresh b h00) (fresh b h10) (fresh b h11) (fresh b h20) (fresh b h21)
        (fresh b h22) (fresh b h30) (fresh b h31) (fresh b h32) (fresh b h33) p0 p1 p2 p3 scale) := rfl

theorem gate_start :
    have n := k0_pay40 (k0_pay38 norm) (k0_pay39 v)
    have m := k0_pay45 k0_pay41 k0_pay42 k0_pay43 k0_pay44 0#32
    have q := k0_pay47 n k0_pay41 k0_pay42 k0_pay43 k0_pay44 (0#32) w0 w1
    have s := k0_pay49 n m k0_pay46 (k0_pay48 k0_pay41 k0_pay42 k0_pay43 k0_pay44 (0#32) w2) w3
    k0_pay60 (k0_pay37 u)
      (k0_pay57 n m k0_pay46 q s (k0_pay50 m w4 w5) (k0_pay52 n) (k0_pay53 n k0_pay46) (k0_pay54 n k0_pay46) (FloatOps.ofBits FTy.bf16 0#16) w6 w7 bias)
      (k0_pay58 n m k0_pay46 q s (k0_pay50 m w4 w5) (k0_pay52 n) (k0_pay53 n k0_pay46) (k0_pay54 n k0_pay46) (FloatOps.ofBits FTy.bf16 0#16) w6 w7) bias
    = gateHalf u v norm (eight w0 w1 w2 w3 w4 w5 w6 w7) bias := rfl

theorem tail_13 : k0_pay13 x0 = tail x0 := rfl
theorem tail_16 : k0_pay16 x1 = tail x1 := rfl
theorem tail_17 : k0_pay17 b x1 h0 = tail (sum2 x1 (fresh b h0)) := rfl
theorem tail_22 : k0_pay22 x2 = tail x2 := rfl
theorem tail_24 : k0_pay24 b x2 h0 = tail (sum2 x2 (fresh b h0)) := rfl
theorem tail_25 : k0_pay25 (k0_pay23 b x2 h0 h1) = tail (sum4 x2 (fresh b h0) (fresh b h1)) := rfl
theorem tail_29 : k0_pay29 (k0_pay27 x3) = tail x3 := rfl
theorem tail_31 : k0_pay31 (k0_pay28 b x3 h0) = tail (sum2 x3 (fresh b h0)) := rfl
theorem tail_33 : k0_pay33 b (k0_pay28 b x3 h0) h1 = tail (sum4 x3 (fresh b h0) (fresh b h1)) := rfl
theorem tail_35 : k0_pay35 (k0_pay32 b (k0_pay28 b x3 h0) h1 h2) = tail (sum8 x3 (fresh b h0) (fresh b h1) (fresh b h2)) := rfl

end Cert.Odd

end
-- ==== Proof.Odd.Loads.lean ====
module

public import proofs.«01_k».proof.Proof.Odd.Tile
public import Idealize.ShloMosaic.Lib.WritesUnit
public import Idealize.ShloMosaic.Lib.VecWindow

/-! Loads of the odd mixer's body at an index: of a whole buffer, of a buffer one piece covers, and of the kept window sums
after several pieces were stored. -/

@[expose] public section

set_option maxRecDepth 16384

noncomputable section

namespace Cert.Odd

open Cert.Kernel3Ideal Cert.Kernel3Ideal.Gen
open Idealize.ShloMosaic

/-- A load of the rectangle at `(o₀, o₁)`, read at an index. -/
theorem read2 {κ : Kind} {sp : Space} {A B n₀ n₁ : ℕ} {e : EltTy} (M : Memref sig κ sp ⟨2, ![A, B]⟩ e) (f : M.view.ty.Contents (Elt Ideal))
    (o₀ o₁ : ℕ) (inb) (r : Fin n₀) (k : Fin n₁) (r' : Fin A) (k' : Fin B) (hr : r'.val = o₀ + r.val) (hk : k'.val = o₁ + k.val) :
    View.readAt (Elt Ideal) M.view (Rect.unit (s := ⟨2, ![A, B]⟩) ![o₀, o₁] ![n₀, n₁] inb).toLoadRect f (ix2 r k) = M.view.read (Elt Ideal) f (ix2 r' k') := by
  rw [View.readAt_eq_ld]
  refine congrArg (M.view.read (Elt Ideal) f) (funext fun a => Fin.ext ?_)
  match a with
  | ⟨0, _⟩ => show o₀ + 1 * r.val = r'.val; omega
  | ⟨1, _⟩ => show o₁ + 1 * k.val = k'.val; omega

theorem read3 {κ : Kind} {sp : Space} {A B C n₀ n₁ n₂ : ℕ} {e : EltTy} (M : Memref sig κ sp ⟨3, ![A, B, C]⟩ e) (f : M.view.ty.Contents (Elt Ideal))
    (o₀ o₁ o₂ : ℕ) (inb) (r : Fin n₀) (k : Fin n₁) (l : Fin n₂) (r' : Fin A) (k' : Fin B) (l' : Fin C)
    (hr : r'.val = o₀ + r.val) (hk : k'.val = o₁ + k.val) (hl : l'.val = o₂ + l.val) :
    View.readAt (Elt Ideal) M.view (Rect.unit (s := ⟨3, ![A, B, C]⟩) ![o₀, o₁, o₂] ![n₀, n₁, n₂] inb).toLoadRect f (ix3 r k l)
      = M.view.read (Elt Ideal) f (ix3 r' k' l') := by
  rw [View.readAt_eq_ld]
  refine congrArg (M.view.read (Elt Ideal) f) (funext fun a => Fin.ext ?_)
  match a with
  | ⟨0, _⟩ => show o₀ + 1 * r.val = r'.val; omega
  | ⟨1, _⟩ => show o₁ + 1 * k.val = k'.val; omega
  | ⟨2, _⟩ => show o₂ + 1 * l.val = l'.val; omega

/-- A load of a whole buffer's known contents. -/
theorem load2 {κ : Kind} {sp : Space} {A B n₀ n₁ : ℕ} {e : EltTy} (M : Memref sig κ sp ⟨2, ![A, B]⟩ e) (hM : M.IsWhole)
    (x : Vec Ideal ⟨2, ![A, B]⟩ e) (o₀ o₁ : ℕ) (inb) (r : Fin n₀) (k : Fin n₁) (r' : Fin A) (k' : Fin B)
    (hr : r'.val = o₀ + r.val) (hk : k'.val = o₁ + k.val) :
    View.readAt (Elt Ideal) M.view (Rect.unit (s := ⟨2, ![A, B]⟩) ![o₀, o₁] ![n₀, n₁] inb).toLoadRect (hM.unread x) (ix2 r k)
      = x (ix2 r' k') := by
  rw [read2 M _ o₀ o₁ inb r k r' k' hr hk, hM.read_unread]

theorem load3 {κ : Kind} {sp : Space} {A B C n₀ n₁ n₂ : ℕ} {e : EltTy} (M : Memref sig κ sp ⟨3, ![A, B, C]⟩ e) (hM : M.IsWhole)
    (x : Vec Ideal ⟨3, ![A, B, C]⟩ e) (o₀ o₁ o₂ : ℕ) (inb) (r : Fin n₀) (k : Fin n₁) (l : Fin n₂) (r' : Fin A) (k' : Fin B) (l' : Fin C)
    (hr : r'.val = o₀ + r.val) (hk : k'.val = o₁ + k.val) (hl : l'.val = o₂ + l.val) :
    View.readAt (Elt Ideal) M.view (Rect.unit (s := ⟨3, ![A, B, C]⟩) ![o₀, o₁, o₂] ![n₀, n₁, n₂] inb).toLoadRect (hM.unread x) (ix3 r k l)
      = x (ix3 r' k' l') := by
  rw [read3 M _ o₀ o₁ o₂ inb r k l r' k' l' hr hk hl, hM.read_unread]

/-- What is read where one piece covers the whole buffer. -/
theorem whole2 {κ : Kind} {sp : Space} {A B : ℕ} {e : EltTy} (v : View sig κ sp ⟨2, ![A, B]⟩ e) (f) (inb) (w) (L) (r : Fin A) (k : Fin B) :
    v.read (Elt Ideal) (v.writes (Elt Ideal) f (⟨Rect.unit (s := ⟨2, ![A, B]⟩) ![0, 0] ![A, B] inb, w⟩ :: L)) (ix2 r k) = w (ix2 r k) := by
  refine View.read_writes_cons_unit_of_mem v f inb w L _ (ix2 r k) rfl fun a => ?_
  match a with
  | ⟨0, _⟩ => exact (Nat.zero_add _).symm
  | ⟨1, _⟩ => exact (Nat.zero_add _).symm

theorem whole3 {κ : Kind} {sp : Space} {A B C : ℕ} {e : EltTy} (v : View sig κ sp ⟨3, ![A, B, C]⟩ e) (f) (inb) (w) (L) (r : Fin A) (k : Fin B) (l : Fin C) :
    v.read (Elt Ideal) (v.writes (Elt Ideal) f (⟨Rect.unit (s := ⟨3, ![A, B, C]⟩) ![0, 0, 0] ![A, B, C] inb, w⟩ :: L)) (ix3 r k l) = w (ix3 r k l) := by
  refine View.read_writes_cons_unit_of_mem v f inb w L _ (ix3 r k l) rfl fun a => ?_
  match a with
  | ⟨0, _⟩ => exact (Nat.zero_add _).symm
  | ⟨1, _⟩ => exact (Nat.zero_add _).symm
  | ⟨2, _⟩ => exact (Nat.zero_add _).symm

/-- The kept window sums at level `a` and group `g`: the newest piece, if it is theirs. -/
theorem hist_hit {κ : Kind} {sp : Space} (v : View sig κ sp S4x8x512 .f32) (f) (a g o₀ o₂ : ℕ) (ha : a < 4) (hg : g < 4) (inb) (w) (L) (r : Fin 8) (l : Fin 128) (h₀ : o₀ = a) (h₂ : o₂ = 128 * g) :
    v.read (Elt Ideal) (v.writes (Elt Ideal) f (⟨Rect.unit (s := S4x8x512) ![o₀, 0, o₂] ![1, 8, 128] inb, w⟩ :: L)) (ix3 ⟨a, ha⟩ r ⟨128 * g + l.val, by omega⟩)
      = w (ix3 0 r l) := by
  refine View.read_writes_cons_unit_of_mem v f inb w L _ (ix3 0 r l) rfl fun b => ?_
  match b with
  | ⟨0, _⟩ => show a = o₀ + 0; omega
  | ⟨1, _⟩ => exact (Nat.zero_add _).symm
  | ⟨2, _⟩ => show 128 * g + l.val = o₂ + l.val; omega

/-- And the pieces before, if it is another's. -/
theorem hist_miss {κ : Kind} {sp : Space} (v : View sig κ sp S4x8x512 .f32) (f) (a g o₀ o₂ : ℕ) (ha : a < 4) (hg : g < 4) (inb) (w) (L) (r : Fin 8) (l : Fin 128)
    (h : o₀ ≠ a ∨ (o₂ + 128 ≤ 128 * g ∨ 128 * g + 128 ≤ o₂)) :
    v.read (Elt Ideal) (v.writes (Elt Ideal) f (⟨Rect.unit (s := S4x8x512) ![o₀, 0, o₂] ![1, 8, 128] inb, w⟩ :: L)) (ix3 ⟨a, ha⟩ r ⟨128 * g + l.val, by omega⟩)
      = v.read (Elt Ideal) (v.writes (Elt Ideal) f L) (ix3 ⟨a, ha⟩ r ⟨128 * g + l.val, by omega⟩) := by
  rcases h with h | h
  · refine View.read_writes_cons_unit_of_not_mem v f inb w L _ rfl (0 : Fin 3) ?_
    show a < o₀ ∨ o₀ + 1 ≤ a; omega
  · refine View.read_writes_cons_unit_of_not_mem v f inb w L _ rfl (2 : Fin 3) ?_
    show 128 * g + l.val < o₂ ∨ o₂ + 128 ≤ 128 * g + l.val; omega

end Cert.Odd

end
-- ==== Proof.Odd.Lists.lean ====
module

public import proofs.«01_k».proof.Proof.Odd.Halves
public import proofs.«01_k».proof.Proof.Odd.Loads

/-! A tile's two stored lists: the pieces of the mixed rows, and the pieces of the kept windows, with what is read after
they are stored. -/

@[expose] public section

set_option maxRecDepth 16384

noncomputable section

namespace Cert.Odd

open Cert.Kernel3Ideal Cert.Kernel3Ideal.Gen
open Idealize.ShloMosaic

/-- The four groups of lanes of a tile's rows. -/
def zLane (M : Memref sig .tc .vmem S32x8x1536 .f32) (f : M.view.ty.Contents (Elt Ideal)) : Fin 4 → FVec Ideal S32x8x128 .f32
  | 0 => View.readAt (Elt Ideal) M.view (Rect.unit (s := S32x8x1536) ![0, 0, 0] S32x8x128.size inb_S32x8x1536_S32x8x128_0_0_0).toLoadRect f
  | 1 => View.readAt (Elt Ideal) M.view (Rect.unit (s := S32x8x1536) ![0, 0, 128] S32x8x128.size inb_S32x8x1536_S32x8x128_0_0_128).toLoadRect f
  | 2 => View.readAt (Elt Ideal) M.view (Rect.unit (s := S32x8x1536) ![0, 0, 256] S32x8x128.size inb_S32x8x1536_S32x8x128_0_0_256).toLoadRect f
  | 3 => View.readAt (Elt Ideal) M.view (Rect.unit (s := S32x8x1536) ![0, 0, 384] S32x8x128.size inb_S32x8x1536_S32x8x128_0_0_384).toLoadRect f

/-- The rows' lanes that are gated, and those that gate. -/
def uLane (M : Memref sig .tc .vmem S32x8x1536 .f32) (f : M.view.ty.Contents (Elt Ideal)) : FVec Ideal S32x8x512 .f32 :=
  View.readAt (Elt Ideal) M.view (Rect.unit (s := S32x8x1536) ![0, 0, 512] S32x8x512.size inb_S32x8x1536_S32x8x512_0_0_512).toLoadRect f
def vLane (M : Memref sig .tc .vmem S32x8x1536 .f32) (f : M.view.ty.Contents (Elt Ideal)) : FVec Ideal S32x8x512 .f32 :=
  View.readAt (Elt Ideal) M.view (Rect.unit (s := S32x8x1536) ![0, 0, 1024] S32x8x512.size inb_S32x8x1536_S32x8x512_0_0_1024).toLoadRect f

/-- A group's pooling weights. -/
def poolW (M : Memref sig .tc .vmem S4x128x128 .bf16) (hM : M.IsWhole) (x : Vec Ideal S4x128x128 .bf16) : Fin 4 → FVec Ideal S1x128x128 .bf16
  | 0 => View.readAt (Elt Ideal) M.view (Rect.unit (s := S4x128x128) ![0, 0, 0] S1x128x128.size inb_S4x128x128_S1x128x128_0_0_0).toLoadRect (hM.unread x)
  | 1 => View.readAt (Elt Ideal) M.view (Rect.unit (s := S4x128x128) ![1, 0, 0] S1x128x128.size inb_S4x128x128_S1x128x128_1_0_0).toLoadRect (hM.unread x)
  | 2 => View.readAt (Elt Ideal) M.view (Rect.unit (s := S4x128x128) ![2, 0, 0] S1x128x128.size inb_S4x128x128_S1x128x128_2_0_0).toLoadRect (hM.unread x)
  | 3 => View.readAt (Elt Ideal) M.view (Rect.unit (s := S4x128x128) ![3, 0, 0] S1x128x128.size inb_S4x128x128_S1x128x128_3_0_0).toLoadRect (hM.unread x)

/-- A head's gate weights. -/
def gateW (M : Memref sig .tc .vmem S8x128x128 .f32) (hM : M.IsWhole) (x : Vec Ideal S8x128x128 .f32) : Fin 8 → FVec Ideal S1x128x128 .f32
  | 0 => View.readAt (Elt Ideal) M.view (Rect.unit (s := S8x128x128) ![0, 0, 0] S1x128x128.size inb_S8x128x128_S1x128x128_0_0_0).toLoadRect (hM.unread x)
  | 1 => View.readAt (Elt Ideal) M.view (Rect.unit (s := S8x128x128) ![1, 0, 0] S1x128x128.size inb_S8x128x128_S1x128x128_1_0_0).toLoadRect (hM.unread x)
  | 2 => View.readAt (Elt Ideal) M.view (Rect.unit (s := S8x128x128) ![2, 0, 0] S1x128x128.size inb_S8x128x128_S1x128x128_2_0_0).toLoadRect (hM.unread x)
  | 3 => View.readAt (Elt Ideal) M.view (Rect.unit (s := S8x128x128) ![3, 0, 0] S1x128x128.size inb_S8x128x128_S1x128x128_3_0_0).toLoadRect (hM.unread x)
  | 4 => View.readAt (Elt Ideal) M.view (Rect.unit (s := S8x128x128) ![4, 0, 0] S1x128x128.size inb_S8x128x128_S1x128x128_4_0_0).toLoadRect (hM.unread x)
  | 5 => View.readAt (Elt Ideal) M.view (Rect.unit (s := S8x128x128) ![5, 0, 0] S1x128x128.size inb_S8x128x128_S1x128x128_5_0_0).toLoadRect (hM.unread x)
  | 6 => View.readAt (Elt Ideal) M.view (Rect.unit (s := S8x128x128) ![6, 0, 0] S1x128x128.size inb_S8x128x128_S1x128x128_6_0_0).toLoadRect (hM.unread x)
  | 7 => View.readAt (Elt Ideal) M.view (Rect.unit (s := S8x128x128) ![7, 0, 0] S1x128x128.size inb_S8x128x128_S1x128x128_7_0_0).toLoadRect (hM.unread x)

variable (p : BitVec 32) (M : Memref sig .tc .vmem S32x8x1536 .f32) (f : M.view.ty.Contents (Elt Ideal))
  (h00 h10 h11 h20 h21 h22 h30 h31 h32 h33 : FVec Ideal S1x8x128 .f32)
  (arg5 : Memref sig .tc .vmem S4x128x128 .bf16) (harg5 : arg5.IsWhole) (arg6 : Memref sig .tc .vmem S1x512 .f32) (harg6 : arg6.IsWhole)
  (arg7 : Memref sig .tc .vmem S1x512 .f32) (harg7 : arg7.IsWhole) (arg8 : Memref sig .tc .vmem S8x128x128 .f32) (harg8 : arg8.IsWhole)
  (arg9 : Memref sig .tc .vmem S128x512 .f32) (harg9 : arg9.IsWhole)
  (x4 : Vec Ideal S4x128x128 .bf16) (x5 x6 : Vec Ideal S1x512 .f32) (x7 : Vec Ideal S8x128x128 .f32) (x8 : Vec Ideal S128x512 .f32)

/-- The two pieces of a tile's mixed rows. -/
def yList : List (View.Piece (Elt Ideal) S256x1024 .bf16) :=
  [⟨Rect.unit ![0, 512] S256x512.size inb_S256x1024_S256x512_0_512, gateHalf (uLane M f) (vLane M f)
      (View.readAt (Elt Ideal) arg7.view (Rect.unit (s := S1x512) ![0, 0] S1x512.size inb_S1x512_S1x512_0_0).toLoadRect (harg7.unread x6))
      (eight (gateW arg8 harg8 x7 0) (gateW arg8 harg8 x7 1) (gateW arg8 harg8 x7 2) (gateW arg8 harg8 x7 3) (gateW arg8 harg8 x7 4) (gateW arg8 harg8 x7 5) (gateW arg8 harg8 x7 6) (gateW arg8 harg8 x7 7))
      (View.readAt (Elt Ideal) arg9.view (Rect.unit (s := S128x512) ![0, 0] S128x512.size inb_S128x512_S128x512_0_0).toLoadRect (harg9.unread x8))⟩,
   ⟨Rect.unit ![0, 0] S256x512.size inb_S256x1024_S256x512_0_0, stored (poolHalf p (zLane M f 0) (zLane M f 1) (zLane M f 2) (zLane M f 3)
      h00 h10 h11 h20 h21 h22 h30 h31 h32 h33 (poolW arg5 harg5 x4 0) (poolW arg5 harg5 x4 1) (poolW arg5 harg5 x4 2) (poolW arg5 harg5 x4 3)
      (View.readAt (Elt Ideal) arg6.view (Rect.unit (s := S1x512) ![0, 0] S1x512.size inb_S1x512_S1x512_0_0).toLoadRect (harg6.unread x5)))⟩]

/-- The ten pieces of a tile's kept windows, on those before. -/
def hList (L : List (View.Piece (Elt Ideal) S4x8x512 .f32)) : List (View.Piece (Elt Ideal) S4x8x512 .f32) :=
  ⟨Rect.unit ![3, 0, 384] S1x8x128.size inb_S4x8x512_S1x8x128_3_0_384, tail (sum8 (zLane M f 3) h30 h31 h32)⟩ ::
  ⟨Rect.unit ![2, 0, 384] S1x8x128.size inb_S4x8x512_S1x8x128_2_0_384, tail (sum4 (zLane M f 3) h30 h31)⟩ ::
  ⟨Rect.unit ![1, 0, 384] S1x8x128.size inb_S4x8x512_S1x8x128_1_0_384, tail (sum2 (zLane M f 3) h30)⟩ ::
  ⟨Rect.unit ![0, 0, 384] S1x8x128.size inb_S4x8x512_S1x8x128_0_0_384, tail (zLane M f 3)⟩ ::
  ⟨Rect.unit ![2, 0, 256] S1x8x128.size inb_S4x8x512_S1x8x128_2_0_256, tail (sum4 (zLane M f 2) h20 h21)⟩ ::
  ⟨Rect.unit ![1, 0, 256] S1x8x128.size inb_S4x8x512_S1x8x128_1_0_256, tail (sum2 (zLane M f 2) h20)⟩ ::
  ⟨Rect.unit ![0, 0, 256] S1x8x128.size inb_S4x8x512_S1x8x128_0_0_256, tail (zLane M f 2)⟩ ::
  ⟨Rect.unit ![1, 0, 128] S1x8x128.size inb_S4x8x512_S1x8x128_1_0_128, tail (sum2 (zLane M f 1) h10)⟩ ::
  ⟨Rect.unit ![0, 0, 128] S1x8x128.size inb_S4x8x512_S1x8x128_0_0_128, tail (zLane M f 1)⟩ ::
  ⟨Rect.unit ![0, 0, 0] S1x8x128.size inb_S4x8x512_S1x8x128_0_0_0, tail (zLane M f 0)⟩ :: L

variable {s₀ : ℕ} {z : ℕ → Fin 1536 → EReal} (hs : s₀ % 256 = 0) (hs' : s₀ ≤ 1792)
  (hz : ∀ (g : Fin 32) (r : Fin 8) (l : Fin 1536), M.view.read (Elt Ideal) f (ix3 g r l) = z (s₀ + (8 * g.val + r.val)) l)
  (H00 : Before s₀ (wins (lanes z 0) 1) h00) (H10 : Before s₀ (wins (lanes z 1) 1) h10) (H11 : Before s₀ (wins (lanes z 1) 2) h11)
  (H20 : Before s₀ (wins (lanes z 2) 1) h20) (H21 : Before s₀ (wins (lanes z 2) 2) h21) (H22 : Before s₀ (wins (lanes z 2) 4) h22)
  (H30 : Before s₀ (wins (lanes z 3) 1) h30) (H31 : Before s₀ (wins (lanes z 3) 2) h31) (H32 : Before s₀ (wins (lanes z 3) 4) h32)
  (H33 : Before s₀ (wins (lanes z 3) 8) h33)

include hz in
theorem zLane_rows (g : Fin 4) : Rows s₀ (lanes z g) (zLane M f g) := by
  intro a r l
  unfold lanes
  rw [← hz]
  match g with
  | 0 => exact read3 M f 0 0 0 inb_S32x8x1536_S32x8x128_0_0_0 a r l a r _ (by omega) (by omega) (by simp only [Fin.val_zero])
  | 1 => exact read3 M f 0 0 128 inb_S32x8x1536_S32x8x128_0_0_128 a r l a r _ (by omega) (by omega) (by show 128 * 1 + l.val = _; omega)
  | 2 => exact read3 M f 0 0 256 inb_S32x8x1536_S32x8x128_0_0_256 a r l a r _ (by omega) (by omega) (by show 128 * 2 + l.val = _; omega)
  | 3 => exact read3 M f 0 0 384 inb_S32x8x1536_S32x8x128_0_0_384 a r l a r _ (by omega) (by omega) (by show 128 * 3 + l.val = _; omega)

include hz in
theorem uLane_rows (g : Fin 32) (r : Fin 8) (c : Fin 512) : uLane M f (ix3 g r c) = z (s₀ + (8 * g.val + r.val)) ⟨512 + c.val, by omega⟩ := by
  rw [← hz]; exact read3 M f 0 0 512 inb_S32x8x1536_S32x8x512_0_0_512 g r c g r _ (by omega) (by omega) (by rfl)

include hz in
theorem vLane_rows (g : Fin 32) (r : Fin 8) (c : Fin 512) : vLane M f (ix3 g r c) = z (s₀ + (8 * g.val + r.val)) ⟨1024 + c.val, by omega⟩ := by
  rw [← hz]; exact read3 M f 0 0 1024 inb_S32x8x1536_S32x8x512_0_0_1024 g r c g r _ (by omega) (by omega) (by rfl)

theorem poolW_apply (g : Fin 4) (q c : Fin 128) : poolW arg5 harg5 x4 g (ix3 0 q c) = x4 (ix3 g q c) := by
  match g with
  | 0 => exact load3 (n₀ := 1) arg5 harg5 x4 0 0 0 inb_S4x128x128_S1x128x128_0_0_0 0 q c 0 q c (by rfl) (by omega) (by omega)
  | 1 => exact load3 (n₀ := 1) arg5 harg5 x4 1 0 0 inb_S4x128x128_S1x128x128_1_0_0 0 q c 1 q c (by rfl) (by omega) (by omega)
  | 2 => exact load3 (n₀ := 1) arg5 harg5 x4 2 0 0 inb_S4x128x128_S1x128x128_2_0_0 0 q c 2 q c (by rfl) (by omega) (by omega)
  | 3 => exact load3 (n₀ := 1) arg5 harg5 x4 3 0 0 inb_S4x128x128_S1x128x128_3_0_0 0 q c 3 q c (by rfl) (by omega) (by omega)

theorem gateW_read (h : Fin 8) (t q : Fin 128) : gateW arg8 harg8 x7 h (ix3 0 t q) = x7 (ix3 h t q) := by
  match h with
  | 0 => exact load3 (n₀ := 1) arg8 harg8 x7 0 0 0 inb_S8x128x128_S1x128x128_0_0_0 0 t q 0 t q (by rfl) (by omega) (by omega)
  | 1 => exact load3 (n₀ := 1) arg8 harg8 x7 1 0 0 inb_S8x128x128_S1x128x128_1_0_0 0 t q 1 t q (by rfl) (by omega) (by omega)
  | 2 => exact load3 (n₀ := 1) arg8 harg8 x7 2 0 0 inb_S8x128x128_S1x128x128_2_0_0 0 t q 2 t q (by rfl) (by omega) (by omega)
  | 3 => exact load3 (n₀ := 1) arg8 harg8 x7 3 0 0 inb_S8x128x128_S1x128x128_3_0_0 0 t q 3 t q (by rfl) (by omega) (by omega)
  | 4 => exact load3 (n₀ := 1) arg8 harg8 x7 4 0 0 inb_S8x128x128_S1x128x128_4_0_0 0 t q 4 t q (by rfl) (by omega) (by omega)
  | 5 => exact load3 (n₀ := 1) arg8 harg8 x7 5 0 0 inb_S8x128x128_S1x128x128_5_0_0 0 t q 5 t q (by rfl) (by omega) (by omega)
  | 6 => exact load3 (n₀ := 1) arg8 harg8 x7 6 0 0 inb_S8x128x128_S1x128x128_6_0_0 0 t q 6 t q (by rfl) (by omega) (by omega)
  | 7 => exact load3 (n₀ := 1) arg8 harg8 x7 7 0 0 inb_S8x128x128_S1x128x128_7_0_0 0 t q 7 t q (by rfl) (by omega) (by omega)

theorem eight_same {α : Type} (w : Fin 8 → α) (h : Fin 8) : eight (w 0) (w 1) (w 2) (w 3) (w 4) (w 5) (w 6) (w 7) h = w h := by
  fin_cases h <;> rfl

theorem gateW_apply (h : Fin 8) (t q : Fin 128) :
    eight (gateW arg8 harg8 x7 0) (gateW arg8 harg8 x7 1) (gateW arg8 harg8 x7 2) (gateW arg8 harg8 x7 3) (gateW arg8 harg8 x7 4) (gateW arg8 harg8 x7 5) (gateW arg8 harg8 x7 6) (gateW arg8 harg8 x7 7)
      h (ix3 0 t q) = x7 (ix3 h t q) := by
  rw [eight_same (gateW arg8 harg8 x7)]; exact gateW_read arg8 harg8 x7 h t q

/-- The mixed row at a position, from the weights as they are held. -/
def mixedRow (z : ℕ → Fin 1536 → EReal) (x4 : Vec Ideal S4x128x128 .bf16) (x5 x6 : Vec Ideal S1x512 .f32) (x7 : Vec Ideal S8x128x128 .f32) (x8 : Vec Ideal S128x512 .f32) :
    ℕ → Fin 1024 → EReal :=
  mixed z (fun i q c => x4 (ix3 i q c)) (fun c => x5 (ix2 0 c)) (fun c => x6 (ix2 0 c)) (fun h t q => x7 (ix3 h t q)) (fun t c => x8 (ix2 t c))

include hs hs' hz H00 H10 H11 H20 H21 H22 H30 H31 H32 H33 in
/-- What is read after the two pieces of the mixed rows are stored. -/
theorem yList_read {κ : Kind} {sp : Space} (v : View sig κ sp S256x1024 .bf16) (d) (hp : p = BitVec.ofNat 32 s₀) (n : Fin 256) (k : Fin 1024) :
    v.read (Elt Ideal) (v.writes (Elt Ideal) d (yList p M f h00 h10 h11 h20 h21 h22 h30 h31 h32 h33 arg5 harg5 arg6 harg6 arg7 harg7 arg8 harg8 arg9 harg9 x4 x5 x6 x7 x8)) (ix2 n k)
      = mixedRow z x4 x5 x6 x7 x8 (s₀ + n.val) k := by
  subst hp
  unfold yList mixedRow mixed
  split
  · rename_i h
    refine (View.read_writes_cons_unit_of_not_mem v d _ _ _ _ rfl (1 : Fin 2) (Or.inl h)).trans ?_
    refine (View.read_writes_cons_unit_of_mem v d _ _ _ _ (ix2 n ⟨k.val, h⟩) rfl fun a => ?_).trans ?_
    · match a with
      | ⟨0, _⟩ => exact (Nat.zero_add _).symm
      | ⟨1, _⟩ => exact (Nat.zero_add _).symm
    · rw [stored_apply]
      exact poolHalf_rows (by omega) hs' (zLane_rows M f hz 0) (zLane_rows M f hz 1) (zLane_rows M f hz 2) (zLane_rows M f hz 3) H00 H10 H11 H20 H21 H22 H30 H31 H32 H33
        (poolW_apply arg5 harg5 x4 0) (poolW_apply arg5 harg5 x4 1) (poolW_apply arg5 harg5 x4 2) (poolW_apply arg5 harg5 x4 3)
        (fun c => load2 (n₀ := 1) arg6 harg6 x5 0 0 inb_S1x512_S1x512_0_0 0 c 0 c (by rfl) (by omega)) n ⟨k.val, h⟩
  · rename_i h
    refine (View.read_writes_cons_unit_of_mem v d _ _ _ _ (ix2 n ⟨k.val - 512, by omega⟩) rfl fun a => ?_).trans ?_
    · match a with
      | ⟨0, _⟩ => exact (Nat.zero_add _).symm
      | ⟨1, _⟩ => show k.val = 512 + (k.val - 512); omega
    · exact gateHalf_rows (by omega) (uLane_rows M f hz) (vLane_rows M f hz)
        (fun c => load2 (n₀ := 1) arg7 harg7 x6 0 0 inb_S1x512_S1x512_0_0 0 c 0 c (by rfl) (by omega)) (gateW_apply arg8 harg8 x7) (fun t c => load2 arg9 harg9 x8 0 0 inb_S128x512_S128x512_0_0 t c t c (by omega) (by omega)) n ⟨k.val - 512, by omega⟩

include hs hz H10 H20 H21 H30 H31 H32 in
/-- What is read after the ten pieces of the kept windows are stored: the windows before the next tile. -/
theorem hList_kept {κ : Kind} {sp : Space} (v : View sig κ sp S4x8x512 .f32) (d) (L) :
    Kept (s₀ + 256) z (v.read (Elt Ideal) (v.writes (Elt Ideal) d (hList M f h10 h20 h21 h30 h31 h32 L))) := by
  have e (r : Fin 8) : s₀ + 256 - 8 + r.val = s₀ + (248 + r.val) := by omega
  have z0 := zLane_rows M f hz 0
  have z1 := zLane_rows M f hz 1
  have z2 := zLane_rows M f hz 2
  have z3 := zLane_rows M f hz 3
  have w0 := wins_of_rows z0
  have w1 := wins_of_rows z1
  have w2 := wins_of_rows z2
  have w3 := wins_of_rows z3
  intro g a hga r l
  rw [e]
  unfold hList
  match g, a, hga with
  | 3, 3, _ =>
    exact (hist_hit v d 3 3 _ _ (by omega) (by omega) _ _ _ r l rfl rfl).trans (tail_rows (sum8_rows (by omega) z3 H30 H31 H32) r l)
  | 3, 2, _ =>
    iterate 1 refine (hist_miss v d 2 3 _ _ (by omega) (by omega) _ _ _ r l (by omega)).trans ?_
    exact (hist_hit v d 2 3 _ _ (by omega) (by omega) _ _ _ r l rfl rfl).trans (tail_rows (sum4_rows (by omega) z3 H30 H31) r l)
  | 3, 1, _ =>
    iterate 2 refine (hist_miss v d 1 3 _ _ (by omega) (by omega) _ _ _ r l (by omega)).trans ?_
    exact (hist_hit v d 1 3 _ _ (by omega) (by omega) _ _ _ r l rfl rfl).trans (tail_rows (sum2_rows (by omega) z3 H30) r l)
  | 3, 0, _ =>
    iterate 3 refine (hist_miss v d 0 3 _ _ (by omega) (by omega) _ _ _ r l (by omega)).trans ?_
    exact (hist_hit v d 0 3 _ _ (by omega) (by omega) _ _ _ r l rfl rfl).trans (tail_rows (w3) r l)
  | 2, 2, _ =>
    iterate 4 refine (hist_miss v d 2 2 _ _ (by omega) (by omega) _ _ _ r l (by omega)).trans ?_
    exact (hist_hit v d 2 2 _ _ (by omega) (by omega) _ _ _ r l rfl rfl).trans (tail_rows (sum4_rows (by omega) z2 H20 H21) r l)
  | 2, 1, _ =>
    iterate 5 refine (hist_miss v d 1 2 _ _ (by omega) (by omega) _ _ _ r l (by omega)).trans ?_
    exact (hist_hit v d 1 2 _ _ (by omega) (by omega) _ _ _ r l rfl rfl).trans (tail_rows (sum2_rows (by omega) z2 H20) r l)
  | 2, 0, _ =>
    iterate 6 refine (hist_miss v d 0 2 _ _ (by omega) (by omega) _ _ _ r l (by omega)).trans ?_
    exact (hist_hit v d 0 2 _ _ (by omega) (by omega) _ _ _ r l rfl rfl).trans (tail_rows (w2) r l)
  | 1, 1, _ =>
    iterate 7 refine (hist_miss v d 1 1 _ _ (by omega) (by omega) _ _ _ r l (by omega)).trans ?_
    exact (hist_hit v d 1 1 _ _ (by omega) (by omega) _ _ _ r l rfl rfl).trans (tail_rows (sum2_rows (by omega) z1 H10) r l)
  | 1, 0, _ =>
    iterate 8 refine (hist_miss v d 0 1 _ _ (by omega) (by omega) _ _ _ r l (by omega)).trans ?_
    exact (hist_hit v d 0 1 _ _ (by omega) (by omega) _ _ _ r l rfl rfl).trans (tail_rows (w1) r l)
  | 0, 0, _ =>
    iterate 9 refine (hist_miss v d 0 0 _ _ (by omega) (by omega) _ _ _ r l (by omega)).trans ?_
    exact (hist_hit v d 0 0 _ _ (by omega) (by omega) _ _ _ r l rfl rfl).trans (tail_rows (w0) r l)
  | 0, 1, h => exact absurd h (by decide)
  | 0, 2, h => exact absurd h (by decide)
  | 1, 2, h => exact absurd h (by decide)
  | 0, 3, h => exact absurd h (by decide)
  | 1, 3, h => exact absurd h (by decide)
  | 2, 3, h => exact absurd h (by decide)

end Cert.Odd

end
-- ==== Proof.Odd.Second.lean ====
module

public import proofs.«01_k».proof.Proof.Odd.Lists

/-! The windows a tile finds while it stores its own: each is read just before the tile's window takes its place, and is
set to zero where the tile begins a sequence. -/

@[expose] public section

set_option maxRecDepth 16384

noncomputable section

namespace Cert.Odd

open Cert.Kernel3Ideal Cert.Kernel3Ideal.Gen
open Idealize.ShloMosaic

/-- A load of the kept windows that are right. -/
theorem before_load {κ : Kind} {sp : Space} (v : View sig κ sp S4x8x512 .f32) (f) (a g : Fin 4) (o₀ o₂ : ℕ) (inb) (h₀ : o₀ = a.val) (h₂ : o₂ = 128 * g.val)
    {s₀ : ℕ} {z : ℕ → Fin 1536 → EReal} (hs : s₀ ≠ 0) (d : ℕ) (hd : d = 2 ^ a.val)
    (K : ∀ (r : Fin 8) (l : Fin 128), v.read (Elt Ideal) f (ix3 a r ⟨128 * g.val + l.val, by omega⟩) = wins (lanes z g) (2 ^ a.val) (s₀ - 8 + r.val) l) :
    Before s₀ (wins (lanes z g) d) (View.readAt (Elt Ideal) v (Rect.unit (s := S4x8x512) ![o₀, 0, o₂] ![1, 8, 128] inb).toLoadRect f) := by
  intro r l
  subst hd
  rw [if_neg hs, ← K r l, View.readAt_eq_ld]
  refine congrArg (v.read (Elt Ideal) f) (funext fun b => Fin.ext ?_)
  match b with
  | ⟨0, _⟩ => show o₀ + 1 * 0 = a.val; omega
  | ⟨1, _⟩ => show 0 + 1 * r.val = r.val; omega
  | ⟨2, _⟩ => show o₂ + 1 * l.val = 128 * g.val + l.val; omega

theorem before_fresh {s₀ : ℕ} {f : ℕ → Fin 128 → EReal} {h : FVec Ideal S1x8x128 .f32} {b : BitVec 1} (hb : b = if s₀ = 0 then 1#1 else 0#1)
    (H : s₀ ≠ 0 → Before s₀ f h) : Before s₀ f (fresh b h) := by
  by_cases e : s₀ = 0
  · intro r l; rw [hb, if_pos e, if_pos e, fresh_one]
  · rw [hb, if_neg e, fresh_zero]; exact H e

variable {κ : Kind} {sp : Space} (v : View sig κ sp S4x8x512 .f32) (b : BitVec 1) (M : Memref sig .tc .vmem S32x8x1536 .f32) (f : M.view.ty.Contents (Elt Ideal))
  (L : List (View.Piece (Elt Ideal) S4x8x512 .f32))

/-! The windows found (`k`), and the pieces after each store (`L`). -/

def k00 : FVec Ideal S1x8x128 .f32 := fresh b (v.readCov L (Rect.unit (s := S4x8x512) ![0, 0, 0] S1x8x128.size inb_S4x8x512_S1x8x128_0_0_0).toLoadRect)
def L1 : List (View.Piece (Elt Ideal) S4x8x512 .f32) := ⟨Rect.unit (s := S4x8x512) ![0, 0, 0] S1x8x128.size inb_S4x8x512_S1x8x128_0_0_0, tail (zLane M f 0)⟩ :: L
def k10 : FVec Ideal S1x8x128 .f32 := fresh b (v.readCov (L1 M f L) (Rect.unit (s := S4x8x512) ![0, 0, 128] S1x8x128.size inb_S4x8x512_S1x8x128_0_0_128).toLoadRect)
def L2 : List (View.Piece (Elt Ideal) S4x8x512 .f32) := ⟨Rect.unit (s := S4x8x512) ![0, 0, 128] S1x8x128.size inb_S4x8x512_S1x8x128_0_0_128, tail (zLane M f 1)⟩ :: L1 M f L
def k11 : FVec Ideal S1x8x128 .f32 := fresh b (v.readCov (L2 M f L) (Rect.unit (s := S4x8x512) ![1, 0, 128] S1x8x128.size inb_S4x8x512_S1x8x128_1_0_128).toLoadRect)
def L3 : List (View.Piece (Elt Ideal) S4x8x512 .f32) :=
  ⟨Rect.unit (s := S4x8x512) ![1, 0, 128] S1x8x128.size inb_S4x8x512_S1x8x128_1_0_128, tail (sum2 (zLane M f 1) (k10 v b M f L))⟩ :: L2 M f L
def k20 : FVec Ideal S1x8x128 .f32 := fresh b (v.readCov (L3 v b M f L) (Rect.unit (s := S4x8x512) ![0, 0, 256] S1x8x128.size inb_S4x8x512_S1x8x128_0_0_256).toLoadRect)
def L4 : List (View.Piece (Elt Ideal) S4x8x512 .f32) := ⟨Rect.unit (s := S4x8x512) ![0, 0, 256] S1x8x128.size inb_S4x8x512_S1x8x128_0_0_256, tail (zLane M f 2)⟩ :: L3 v b M f L
def k21 : FVec Ideal S1x8x128 .f32 := fresh b (v.readCov (L4 v b M f L) (Rect.unit (s := S4x8x512) ![1, 0, 256] S1x8x128.size inb_S4x8x512_S1x8x128_1_0_256).toLoadRect)
def L5 : List (View.Piece (Elt Ideal) S4x8x512 .f32) :=
  ⟨Rect.unit (s := S4x8x512) ![1, 0, 256] S1x8x128.size inb_S4x8x512_S1x8x128_1_0_256, tail (sum2 (zLane M f 2) (k20 v b M f L))⟩ :: L4 v b M f L
def k22 : FVec Ideal S1x8x128 .f32 := fresh b (v.readCov (L5 v b M f L) (Rect.unit (s := S4x8x512) ![2, 0, 256] S1x8x128.size inb_S4x8x512_S1x8x128_2_0_256).toLoadRect)
def L6 : List (View.Piece (Elt Ideal) S4x8x512 .f32) :=
  ⟨Rect.unit (s := S4x8x512) ![2, 0, 256] S1x8x128.size inb_S4x8x512_S1x8x128_2_0_256, tail (sum4 (zLane M f 2) (k20 v b M f L) (k21 v b M f L))⟩ :: L5 v b M f L
def k30 : FVec Ideal S1x8x128 .f32 := fresh b (v.readCov (L6 v b M f L) (Rect.unit (s := S4x8x512) ![0, 0, 384] S1x8x128.size inb_S4x8x512_S1x8x128_0_0_384).toLoadRect)
def L7 : List (View.Piece (Elt Ideal) S4x8x512 .f32) := ⟨Rect.unit (s := S4x8x512) ![0, 0, 384] S1x8x128.size inb_S4x8x512_S1x8x128_0_0_384, tail (zLane M f 3)⟩ :: L6 v b M f L
def k31 : FVec Ideal S1x8x128 .f32 := fresh b (v.readCov (L7 v b M f L) (Rect.unit (s := S4x8x512) ![1, 0, 384] S1x8x128.size inb_S4x8x512_S1x8x128_1_0_384).toLoadRect)
def L8 : List (View.Piece (Elt Ideal) S4x8x512 .f32) :=
  ⟨Rect.unit (s := S4x8x512) ![1, 0, 384] S1x8x128.size inb_S4x8x512_S1x8x128_1_0_384, tail (sum2 (zLane M f 3) (k30 v b M f L))⟩ :: L7 v b M f L
def k32 : FVec Ideal S1x8x128 .f32 := fresh b (v.readCov (L8 v b M f L) (Rect.unit (s := S4x8x512) ![2, 0, 384] S1x8x128.size inb_S4x8x512_S1x8x128_2_0_384).toLoadRect)
def L9 : List (View.Piece (Elt Ideal) S4x8x512 .f32) :=
  ⟨Rect.unit (s := S4x8x512) ![2, 0, 384] S1x8x128.size inb_S4x8x512_S1x8x128_2_0_384, tail (sum4 (zLane M f 3) (k30 v b M f L) (k31 v b M f L))⟩ :: L8 v b M f L
def k33 : FVec Ideal S1x8x128 .f32 := fresh b (v.readCov (L9 v b M f L) (Rect.unit (s := S4x8x512) ![3, 0, 384] S1x8x128.size inb_S4x8x512_S1x8x128_3_0_384).toLoadRect)

/-- The pieces after the tile's last store. -/
def L10 : List (View.Piece (Elt Ideal) S4x8x512 .f32) :=
  hList M f (k10 v b M f L) (k20 v b M f L) (k21 v b M f L) (k30 v b M f L) (k31 v b M f L) (k32 v b M f L) L

/-- The pieces of the tile's mixed rows. -/
def yNext (p : BitVec 32) (arg5 : Memref sig .tc .vmem S4x128x128 .bf16) (harg5 : arg5.IsWhole) (arg6 : Memref sig .tc .vmem S1x512 .f32) (harg6 : arg6.IsWhole)
    (arg7 : Memref sig .tc .vmem S1x512 .f32) (harg7 : arg7.IsWhole) (arg8 : Memref sig .tc .vmem S8x128x128 .f32) (harg8 : arg8.IsWhole)
    (arg9 : Memref sig .tc .vmem S128x512 .f32) (harg9 : arg9.IsWhole)
    (x4 : Vec Ideal S4x128x128 .bf16) (x5 x6 : Vec Ideal S1x512 .f32) (x7 : Vec Ideal S8x128x128 .f32) (x8 : Vec Ideal S128x512 .f32) :
    List (View.Piece (Elt Ideal) S256x1024 .bf16) :=
  yList p M f (k00 v b L) (k10 v b M f L) (k11 v b M f L) (k20 v b M f L) (k21 v b M f L) (k22 v b M f L) (k30 v b M f L) (k31 v b M f L) (k32 v b M f L) (k33 v b M f L)
    arg5 harg5 arg6 harg6 arg7 harg7 arg8 harg8 arg9 harg9 x4 x5 x6 x7 x8

variable {s₀ : ℕ} {z : ℕ → Fin 1536 → EReal} (hb : b = if s₀ = 0 then 1#1 else 0#1)
  (K : s₀ ≠ 0 → Kept s₀ z (v.read (Elt Ideal) (v.writes (Elt Ideal) v.junk L)))

include hb K

theorem before00 : Before s₀ (wins (lanes z 0) 1) (k00 v b L) :=
  before_fresh hb fun hs => before_load v _ 0 0 0 0 _ rfl rfl hs 1 rfl fun r l => K hs 0 0 (by decide) r l
theorem before10 : Before s₀ (wins (lanes z 1) 1) (k10 v b M f L) :=
  before_fresh hb fun hs => before_load v _ 0 1 0 128 _ rfl rfl hs 1 rfl fun r l => by
    iterate 1 refine (hist_miss v _ 0 1 _ _ (by omega) (by omega) _ _ _ r l (by omega)).trans ?_
    exact K hs 1 0 (by decide) r l
theorem before11 : Before s₀ (wins (lanes z 1) 2) (k11 v b M f L) :=
  before_fresh hb fun hs => before_load v _ 1 1 1 128 _ rfl rfl hs 2 rfl fun r l => by
    iterate 2 refine (hist_miss v _ 1 1 _ _ (by omega) (by omega) _ _ _ r l (by omega)).trans ?_
    exact K hs 1 1 (by decide) r l
theorem before20 : Before s₀ (wins (lanes z 2) 1) (k20 v b M f L) :=
  before_fresh hb fun hs => before_load v _ 0 2 0 256 _ rfl rfl hs 1 rfl fun r l => by
    iterate 3 refine (hist_miss v _ 0 2 _ _ (by omega) (by omega) _ _ _ r l (by omega)).trans ?_
    exact K hs 2 0 (by decide) r l
theorem before21 : Before s₀ (wins (lanes z 2) 2) (k21 v b M f L) :=
  before_fresh hb fun hs => before_load v _ 1 2 1 256 _ rfl rfl hs 2 rfl fun r l => by
    iterate 4 refine (hist_miss v _ 1 2 _ _ (by omega) (by omega) _ _ _ r l (by omega)).trans ?_
    exact K hs 2 1 (by decide) r l
theorem before22 : Before s₀ (wins (lanes z 2) 4) (k22 v b M f L) :=
  before_fresh hb fun hs => before_load v _ 2 2 2 256 _ rfl rfl hs 4 rfl fun r l => by
    iterate 5 refine (hist_miss v _ 2 2 _ _ (by omega) (by omega) _ _ _ r l (by omega)).trans ?_
    exact K hs 2 2 (by decide) r l
theorem before30 : Before s₀ (wins (lanes z 3) 1) (k30 v b M f L) :=
  before_fresh hb fun hs => before_load v _ 0 3 0 384 _ rfl rfl hs 1 rfl fun r l => by
    iterate 6 refine (hist_miss v _ 0 3 _ _ (by omega) (by omega) _ _ _ r l (by omega)).trans ?_
    exact K hs 3 0 (by decide) r l
theorem before31 : Before s₀ (wins (lanes z 3) 2) (k31 v b M f L) :=
  before_fresh hb fun hs => before_load v _ 1 3 1 384 _ rfl rfl hs 2 rfl fun r l => by
    iterate 7 refine (hist_miss v _ 1 3 _ _ (by omega) (by omega) _ _ _ r l (by omega)).trans ?_
    exact K hs 3 1 (by decide) r l
theorem before32 : Before s₀ (wins (lanes z 3) 4) (k32 v b M f L) :=
  before_fresh hb fun hs => before_load v _ 2 3 2 384 _ rfl rfl hs 4 rfl fun r l => by
    iterate 8 refine (hist_miss v _ 2 3 _ _ (by omega) (by omega) _ _ _ r l (by omega)).trans ?_
    exact K hs 3 2 (by decide) r l
theorem before33 : Before s₀ (wins (lanes z 3) 8) (k33 v b M f L) :=
  before_fresh hb fun hs => before_load v _ 3 3 3 384 _ rfl rfl hs 8 rfl fun r l => by
    iterate 9 refine (hist_miss v _ 3 3 _ _ (by omega) (by omega) _ _ _ r l (by omega)).trans ?_
    exact K hs 3 3 (by decide) r l

variable (hs : s₀ % 256 = 0) (hs' : s₀ ≤ 1792)
  (hz : ∀ (g : Fin 32) (r : Fin 8) (l : Fin 1536), M.view.read (Elt Ideal) f (ix3 g r l) = z (s₀ + (8 * g.val + r.val)) l)

include hs hz

theorem next_kept {κ' : Kind} {sp' : Space} (v' : View sig κ' sp' S4x8x512 .f32) (d) : Kept (s₀ + 256) z (v'.read (Elt Ideal) (v'.writes (Elt Ideal) d (L10 v b M f L))) :=
  hList_kept M f _ _ _ _ _ _ hs hz (before10 v b M f L hb K) (before20 v b M f L hb K) (before21 v b M f L hb K) (before30 v b M f L hb K) (before31 v b M f L hb K)
    (before32 v b M f L hb K) v' d L

include hs'

theorem next_rows {κ' : Kind} {sp' : Space} (v' : View sig κ' sp' S256x1024 .bf16) (d) (p) (hp : p = BitVec.ofNat 32 s₀)
    (arg5 : Memref sig .tc .vmem S4x128x128 .bf16) (harg5 : arg5.IsWhole) (arg6 : Memref sig .tc .vmem S1x512 .f32) (harg6 : arg6.IsWhole)
    (arg7 : Memref sig .tc .vmem S1x512 .f32) (harg7 : arg7.IsWhole) (arg8 : Memref sig .tc .vmem S8x128x128 .f32) (harg8 : arg8.IsWhole)
    (arg9 : Memref sig .tc .vmem S128x512 .f32) (harg9 : arg9.IsWhole)
    (x4 : Vec Ideal S4x128x128 .bf16) (x5 x6 : Vec Ideal S1x512 .f32) (x7 : Vec Ideal S8x128x128 .f32) (x8 : Vec Ideal S128x512 .f32) (n : Fin 256) (k : Fin 1024) :
    v'.read (Elt Ideal) (v'.writes (Elt Ideal) d (yNext v b M f L p arg5 harg5 arg6 harg6 arg7 harg7 arg8 harg8 arg9 harg9 x4 x5 x6 x7 x8)) (ix2 n k)
      = mixedRow z x4 x5 x6 x7 x8 (s₀ + n.val) k :=
  yList_read p M f _ _ _ _ _ _ _ _ _ _ arg5 harg5 arg6 harg6 arg7 harg7 arg8 harg8 arg9 harg9 x4 x5 x6 x7 x8 hs hs' hz
    (before00 v b L hb K) (before10 v b M f L hb K) (before11 v b M f L hb K) (before20 v b M f L hb K) (before21 v b M f L hb K) (before22 v b M f L hb K)
    (before30 v b M f L hb K) (before31 v b M f L hb K) (before32 v b M f L hb K) (before33 v b M f L hb K) v' d hp n k

end Cert.Odd

end
-- ==== Proof.Odd.Held.lean ====
module

public import proofs.«01_k».proof.Proof.Odd.Second

/-! The mixed rows and the kept windows of a tile that finds the windows as the point before left them. -/

@[expose] public section

set_option maxRecDepth 16384

noncomputable section

namespace Cert.Odd

open Cert.Kernel3Ideal Cert.Kernel3Ideal.Gen
open Idealize.ShloMosaic

/-- Row `r` of chunk `g` of a tile lies in the tile, and in the block of two tiles. -/
theorem in_tile (g : Fin 32) (r : Fin 8) : 8 * g.val + r.val < 256 := by omega
theorem in_block (g : Fin 32) (r : Fin 8) : 8 * g.val + r.val < 512 := by omega

theorem rms_congr {d : BitVec 32} {x x' g g' : Fin 1024 → EReal} (hx : ∀ q, x q = x' q) (hg : ∀ q, g q = g' q) (k : Fin 1024) : rms d x g k = rms d x' g' k := by
  rw [funext hx, funext hg]

theorem outRow_congr {x x' y y' g g' : Fin 1024 → EReal} {w w' : Fin 1024 → Fin 1024 → EReal} (hx : ∀ q, x q = x' q) (hy : ∀ q, y q = y' q)
    (hw : ∀ q k, w q k = w' q k) (hg : ∀ q, g q = g' q) (k : Fin 1024) : outRow x y w g k = outRow x' y' w' g' k := by
  rw [funext hx, funext hy, funext fun q => funext (hw q), funext hg]

/-- Two halves of a block of 512 rows, read back. -/
theorem halves {κ : Kind} {sp : Space} (v : View sig κ sp S512x1024 .f32) (f) (i₁ i₀) (a b : Vec Ideal S256x1024 .f32) (n : Fin 512) (k : Fin 1024) :
    v.read (Elt Ideal) (v.writes (Elt Ideal) f [⟨Rect.unit (s := S512x1024) ![256, 0] ![256, 1024] i₁, a⟩, ⟨Rect.unit (s := S512x1024) ![0, 0] ![256, 1024] i₀, b⟩]) (ix2 n k)
      = if h : n.val < 256 then b (ix2 ⟨n.val, h⟩ k) else a (ix2 ⟨n.val - 256, by omega⟩ k) := by
  split
  · rename_i h
    refine (View.read_writes_cons_unit_of_not_mem v f _ _ _ _ rfl (0 : Fin 2) (Or.inl h)).trans ?_
    refine View.read_writes_cons_unit_of_mem v f _ _ _ _ (ix2 ⟨n.val, h⟩ k) rfl fun a => ?_
    match a with
    | ⟨0, _⟩ => exact (Nat.zero_add _).symm
    | ⟨1, _⟩ => exact (Nat.zero_add _).symm
  · refine View.read_writes_cons_unit_of_mem v f _ _ _ _ (ix2 ⟨n.val - 256, by omega⟩ k) rfl fun a => ?_
    match a with
    | ⟨0, _⟩ => show n.val = 256 + (n.val - 256); omega
    | ⟨1, _⟩ => exact (Nat.zero_add _).symm

/-- The windows held for a level and a group. -/
def heldAt (M : Memref sig .tc .vmem S4x8x512 .f32) (hM : M.IsWhole) (x : Vec Ideal S4x8x512 .f32) (o₀ o₂ : ℕ)
    (inb : ∀ a, (![o₀, 0, o₂] : Fin 3 → ℕ) a + S1x8x128.size a ≤ S4x8x512.size a) : FVec Ideal S1x8x128 .f32 :=
  View.readAt (Elt Ideal) M.view (Rect.unit (s := S4x8x512) ![o₀, 0, o₂] S1x8x128.size inb).toLoadRect (hM.unread x)

variable (M : Memref sig .tc .vmem S32x8x1536 .f32) (f : M.view.ty.Contents (Elt Ideal))
  (arg25 : Memref sig .tc .vmem S4x8x512 .f32) (harg25 : arg25.IsWhole) (xs6 : Vec Ideal S4x8x512 .f32)

def hHeld : List (View.Piece (Elt Ideal) S4x8x512 .f32) :=
  hList M f (heldAt arg25 harg25 xs6 0 128 inb_S4x8x512_S1x8x128_0_0_128) (heldAt arg25 harg25 xs6 0 256 inb_S4x8x512_S1x8x128_0_0_256)
    (heldAt arg25 harg25 xs6 1 256 inb_S4x8x512_S1x8x128_1_0_256) (heldAt arg25 harg25 xs6 0 384 inb_S4x8x512_S1x8x128_0_0_384)
    (heldAt arg25 harg25 xs6 1 384 inb_S4x8x512_S1x8x128_1_0_384) (heldAt arg25 harg25 xs6 2 384 inb_S4x8x512_S1x8x128_2_0_384) []

def yHeld (p : BitVec 32) (arg5 : Memref sig .tc .vmem S4x128x128 .bf16) (harg5 : arg5.IsWhole) (arg6 : Memref sig .tc .vmem S1x512 .f32) (harg6 : arg6.IsWhole)
    (arg7 : Memref sig .tc .vmem S1x512 .f32) (harg7 : arg7.IsWhole) (arg8 : Memref sig .tc .vmem S8x128x128 .f32) (harg8 : arg8.IsWhole)
    (arg9 : Memref sig .tc .vmem S128x512 .f32) (harg9 : arg9.IsWhole)
    (x4 : Vec Ideal S4x128x128 .bf16) (x5 x6 : Vec Ideal S1x512 .f32) (x7 : Vec Ideal S8x128x128 .f32) (x8 : Vec Ideal S128x512 .f32) :
    List (View.Piece (Elt Ideal) S256x1024 .bf16) :=
  yList p M f (heldAt arg25 harg25 xs6 0 0 inb_S4x8x512_S1x8x128_0_0_0)
    (heldAt arg25 harg25 xs6 0 128 inb_S4x8x512_S1x8x128_0_0_128) (heldAt arg25 harg25 xs6 1 128 inb_S4x8x512_S1x8x128_1_0_128)
    (heldAt arg25 harg25 xs6 0 256 inb_S4x8x512_S1x8x128_0_0_256) (heldAt arg25 harg25 xs6 1 256 inb_S4x8x512_S1x8x128_1_0_256) (heldAt arg25 harg25 xs6 2 256 inb_S4x8x512_S1x8x128_2_0_256)
    (heldAt arg25 harg25 xs6 0 384 inb_S4x8x512_S1x8x128_0_0_384) (heldAt arg25 harg25 xs6 1 384 inb_S4x8x512_S1x8x128_1_0_384) (heldAt arg25 harg25 xs6 2 384 inb_S4x8x512_S1x8x128_2_0_384)
    (heldAt arg25 harg25 xs6 3 384 inb_S4x8x512_S1x8x128_3_0_384)
    arg5 harg5 arg6 harg6 arg7 harg7 arg8 harg8 arg9 harg9 x4 x5 x6 x7 x8

variable {s₀ : ℕ} {z : ℕ → Fin 1536 → EReal} (h0 : s₀ ≠ 0) (K : Kept s₀ z xs6)

include h0 K in
theorem held_before (a g : Fin 4) (o₀ o₂ : ℕ) (inb) (h₀ : o₀ = a.val) (h₂ : o₂ = 128 * g.val) (hag : a ≤ g) (d : ℕ) (hd : d = 2 ^ a.val) :
    Before s₀ (wins (lanes z g) d) (heldAt arg25 harg25 xs6 o₀ o₂ inb) :=
  before_load arg25.view _ a g o₀ o₂ inb h₀ h₂ h0 d hd fun r l => by rw [harg25.read_unread]; exact K g a hag r l

variable (hs : s₀ % 256 = 0) (hs' : s₀ ≤ 1792)
  (hz : ∀ (g : Fin 32) (r : Fin 8) (l : Fin 1536), M.view.read (Elt Ideal) f (ix3 g r l) = z (s₀ + (8 * g.val + r.val)) l)

include h0 K hs hz

theorem held_kept {κ' : Kind} {sp' : Space} (v' : View sig κ' sp' S4x8x512 .f32) (d) : Kept (s₀ + 256) z (v'.read (Elt Ideal) (v'.writes (Elt Ideal) d (hHeld M f arg25 harg25 xs6))) :=
  have B := held_before arg25 harg25 xs6 h0 K
  hList_kept M f _ _ _ _ _ _ hs hz (B 0 1 _ _ _ rfl rfl (by decide) _ rfl) (B 0 2 _ _ _ rfl rfl (by decide) _ rfl) (B 1 2 _ _ _ rfl rfl (by decide) _ rfl)
    (B 0 3 _ _ _ rfl rfl (by decide) _ rfl) (B 1 3 _ _ _ rfl rfl (by decide) _ rfl) (B 2 3 _ _ _ rfl rfl (by decide) _ rfl) v' d []

include hs'

theorem held_rows {κ' : Kind} {sp' : Space} (v' : View sig κ' sp' S256x1024 .bf16) (d) (p) (hp : p = BitVec.ofNat 32 s₀)
    (arg5 : Memref sig .tc .vmem S4x128x128 .bf16) (harg5 : arg5.IsWhole) (arg6 : Memref sig .tc .vmem S1x512 .f32) (harg6 : arg6.IsWhole)
    (arg7 : Memref sig .tc .vmem S1x512 .f32) (harg7 : arg7.IsWhole) (arg8 : Memref sig .tc .vmem S8x128x128 .f32) (harg8 : arg8.IsWhole)
    (arg9 : Memref sig .tc .vmem S128x512 .f32) (harg9 : arg9.IsWhole)
    (x4 : Vec Ideal S4x128x128 .bf16) (x5 x6 : Vec Ideal S1x512 .f32) (x7 : Vec Ideal S8x128x128 .f32) (x8 : Vec Ideal S128x512 .f32) (n : Fin 256) (k : Fin 1024) :
    v'.read (Elt Ideal) (v'.writes (Elt Ideal) d (yHeld M f arg25 harg25 xs6 p arg5 harg5 arg6 harg6 arg7 harg7 arg8 harg8 arg9 harg9 x4 x5 x6 x7 x8)) (ix2 n k)
      = mixedRow z x4 x5 x6 x7 x8 (s₀ + n.val) k :=
  have B := held_before arg25 harg25 xs6 h0 K
  yList_read p M f _ _ _ _ _ _ _ _ _ _ arg5 harg5 arg6 harg6 arg7 harg7 arg8 harg8 arg9 harg9 x4 x5 x6 x7 x8 hs hs' hz
    (B 0 0 _ _ _ rfl rfl (by decide) _ rfl) (B 0 1 _ _ _ rfl rfl (by decide) _ rfl) (B 1 1 _ _ _ rfl rfl (by decide) _ rfl)
    (B 0 2 _ _ _ rfl rfl (by decide) _ rfl) (B 1 2 _ _ _ rfl rfl (by decide) _ rfl) (B 2 2 _ _ _ rfl rfl (by decide) _ rfl)
    (B 0 3 _ _ _ rfl rfl (by decide) _ rfl) (B 1 3 _ _ _ rfl rfl (by decide) _ rfl) (B 2 3 _ _ _ rfl rfl (by decide) _ rfl) (B 3 3 _ _ _ rfl rfl (by decide) _ rfl) v' d hp n k

end Cert.Odd

end
-- ==== Proof.Odd.Entry.lean ====
module

public import proofs.«01_k».proof.Proof.Odd.Held
public import proofs.«01_k».proof.Proof.Odd.Frame
public import Idealize.ShloMosaic.Lib.Claim
public import Idealize.ShloMosaic.Lib.Pipeline.Value

/-! What the grid's windows hold at a point, as entries of the arguments. -/

@[expose] public section

set_option maxRecDepth 16384

noncomputable section

namespace Cert.Odd

open Cert.Kernel3Ideal Cert.Kernel3Ideal.Gen
open Idealize.ShloMosaic Idealize.ShloMosaic.TcCoe

variable (m : (ℓ : Loc nD τ sig) → Buf (Elt Ideal) ℓ)

/-! ## The arguments, by row -/

/-- Token row `R` of the flattened batch, zero past its end. -/
def tok (c : Dev nD) (R : ℕ) (k : Fin 1024) : EReal :=
  if h : R < 16384 then m ((c : Thread nD τ).loc main_arg0) (ix3 ⟨R / 2048, by omega⟩ ⟨R % 2048, by omega⟩ k) else 0
def gpre (c : Dev nD) (k : Fin 1024) : EReal := m ((c : Thread nD τ).loc main_arg8) (ix2 1 k)
def gpost (c : Dev nD) (k : Fin 1024) : EReal := m ((c : Thread nD τ).loc main_arg9) (ix2 1 k)
def win3 (c : Dev nD) (q : Fin 1024) (l : Fin 1536) : EReal := m ((c : Thread nD τ).loc main_arg1) (ix3 0 q l)
def wpool (c : Dev nD) (g : Fin 4) (q k : Fin 128) : EReal := m ((c : Thread nD τ).loc main_arg2) (ix4 0 g q k)
def pscale (c : Dev nD) (k : Fin 512) : EReal := m ((c : Thread nD τ).loc main_arg3) (ix2 0 k)
def snorm (c : Dev nD) (k : Fin 512) : EReal := m ((c : Thread nD τ).loc main_arg4) (ix2 0 k)
def sgate (c : Dev nD) (h : Fin 8) (t q : Fin 128) : EReal := m ((c : Thread nD τ).loc main_arg5) (ix4 0 h t q)
def sbias (c : Dev nD) (t : Fin 128) (k : Fin 512) : EReal := m ((c : Thread nD τ).loc main_arg6) (ix3 0 ⟨k.val / 64, by omega⟩ t)
def wout (c : Dev nD) (q k : Fin 1024) : EReal := m ((c : Thread nD τ).loc main_arg7) (ix3 0 q k)

/-! ## What the grid finds in the arrays it stages -/

theorem entry_tok (c : Dev nD) (r : Fin 16384) (k : Fin 1024) : V m c main_v21 (ix2 r k) = tok m c r.val k := by
  unfold tok
  rw [dif_pos r.isLt]
  entry_read; pointwise
theorem entry_gpre (c : Dev nD) (k : Fin 1024) : V m c main_v10 (ix2 0 k) = gpre m c k := by
  unfold gpre; entry_read; pointwise
theorem entry_gpost (c : Dev nD) (k : Fin 1024) : V m c main_v20 (ix2 0 k) = gpost m c k := by
  unfold gpost; entry_read; pointwise
theorem entry_win (c : Dev nD) (q : Fin 1024) (l : Fin 1536) : V m c main_v1 (ix2 q l) = win3 m c q l := by
  unfold win3; entry_read; pointwise
theorem entry_pool (c : Dev nD) (g : Fin 4) (q k : Fin 128) : V m c main_v12 (ix3 g q k) = wpool m c g q k := by
  unfold wpool; entry_read; pointwise
theorem entry_scale (c : Dev nD) (k : Fin 512) : V m c main_v14 (ix2 0 k) = pscale m c k := by
  unfold pscale; entry_read; pointwise
theorem entry_snorm (c : Dev nD) (k : Fin 512) : V m c main_v16 (ix2 0 k) = snorm m c k := by
  unfold snorm; entry_read; pointwise
theorem entry_gate (c : Dev nD) (h : Fin 8) (t q : Fin 128) : V m c main_v17 (ix3 h t q) = sgate m c h t q := by
  unfold sgate; entry_read; pointwise
theorem entry_bias (c : Dev nD) (t : Fin 128) (k : Fin 512) : V m c main_v7 (ix2 t k) = sbias m c t k := by
  unfold sbias; entry_read; pointwise
theorem entry_wout (c : Dev nD) (q k : Fin 1024) : V m c main_v3 (ix2 q k) = wout m c q k := by
  unfold wout; entry_read; pointwise

/-! ## The windows' blocks -/

theorem at_0 : ∀ t : Fin cfg0.N, win0_0.index t (0 : Fin 2) = min (t.val + 1) 31 ∧ win0_0.index t (1 : Fin 2) = 0 :=
  (by decide +kernel : ∀ t : Fin grid0.N, _)
theorem at_1 : ∀ t : Fin cfg0.N, win0_1.index t (0 : Fin 2) = t.val - 1 ∧ win0_1.index t (1 : Fin 2) = 0 :=
  (by decide +kernel : ∀ t : Fin grid0.N, _)
theorem at_14 : ∀ t : Fin cfg0.N, win0_14.index t (0 : Fin 2) = t.val - 1 ∧ win0_14.index t (1 : Fin 2) = 0 :=
  (by decide +kernel : ∀ t : Fin grid0.N, _)
theorem at_2 : ∀ t : Fin cfg0.N, win0_2.index t (0 : Fin 2) = 0 ∧ win0_2.index t (1 : Fin 2) = 0 :=
  (by decide +kernel : ∀ t : Fin grid0.N, _)
theorem at_3 : ∀ t : Fin cfg0.N, win0_3.index t (0 : Fin 2) = 0 ∧ win0_3.index t (1 : Fin 2) = 0 :=
  (by decide +kernel : ∀ t : Fin grid0.N, _)
theorem at_4 : ∀ t : Fin cfg0.N, win0_4.index t (0 : Fin 3) = 0 ∧ win0_4.index t (1 : Fin 3) = 0 ∧ win0_4.index t (2 : Fin 3) = 0 :=
  (by decide +kernel : ∀ t : Fin grid0.N, _)
theorem at_5 : ∀ t : Fin cfg0.N, win0_5.index t (0 : Fin 2) = 0 ∧ win0_5.index t (1 : Fin 2) = 0 :=
  (by decide +kernel : ∀ t : Fin grid0.N, _)
theorem at_6 : ∀ t : Fin cfg0.N, win0_6.index t (0 : Fin 2) = 0 ∧ win0_6.index t (1 : Fin 2) = 0 :=
  (by decide +kernel : ∀ t : Fin grid0.N, _)
theorem at_7 : ∀ t : Fin cfg0.N, win0_7.index t (0 : Fin 3) = 0 ∧ win0_7.index t (1 : Fin 3) = 0 ∧ win0_7.index t (2 : Fin 3) = 0 :=
  (by decide +kernel : ∀ t : Fin grid0.N, _)
theorem at_8 : ∀ t : Fin cfg0.N, win0_8.index t (0 : Fin 2) = 0 ∧ win0_8.index t (1 : Fin 2) = 0 :=
  (by decide +kernel : ∀ t : Fin grid0.N, _)
theorem at_9 : ∀ t : Fin cfg0.N, win0_9.index t (0 : Fin 2) = 0 ∧ win0_9.index t (1 : Fin 2) = 0 :=
  (by decide +kernel : ∀ t : Fin grid0.N, _)
theorem at_10 : ∀ t : Fin cfg0.N, win0_10.index t (0 : Fin 2) = 0 ∧ win0_10.index t (1 : Fin 2) = 0 :=
  (by decide +kernel : ∀ t : Fin grid0.N, _)

/-- The point's number. -/
theorem coord : ∀ t : Fin cfg0.N, (grid0.coords t 0).val = t.val :=
  (by decide +kernel : ∀ t : Fin grid0.N, (grid0.coords t 0).val = t.val)

theorem points (t : Fin cfg0.N) : t.val < 33 := t.isLt

theorem blk_0 (c : Dev nD) (t : Fin cfg0.N) (n : Fin 512) (k : Fin 1024) : iblk m c 0 t (ix2 n k) = tok m c (512 * min (t.val + 1) 31 + n.val) k := by
  obtain ⟨e0, e1⟩ := at_0 t
  have e : ((cfg0.win 0).blk t).view.emb (ix2 n k) = ix2 (⟨512 * min (t.val + 1) 31 + n.val, by omega⟩ : Fin 16384) k := by
    funext a; apply Fin.ext
    match a with
    | ⟨0, _⟩ => show win0_0.index t (0 : Fin 2) * 512 + 1 * n.val = 512 * min (t.val + 1) 31 + n.val; omega
    | ⟨1, _⟩ => show win0_0.index t (1 : Fin 2) * 1024 + 1 * k.val = k.val; omega
  exact (congrArg (V m c main_v21) e).trans (entry_tok m c _ k)

theorem blk_1 (c : Dev nD) (t : Fin cfg0.N) (n : Fin 512) (k : Fin 1024) : iblk m c 1 t (ix2 n k) = tok m c (512 * (t.val - 1) + n.val) k := by
  obtain ⟨e0, e1⟩ := at_1 t
  have h := points t
  have e : ((cfg0.win 1).blk t).view.emb (ix2 n k) = ix2 (⟨512 * (t.val - 1) + n.val, by omega⟩ : Fin 16384) k := by
    funext a; apply Fin.ext
    match a with
    | ⟨0, _⟩ => show win0_1.index t (0 : Fin 2) * 512 + 1 * n.val = 512 * (t.val - 1) + n.val; omega
    | ⟨1, _⟩ => show win0_1.index t (1 : Fin 2) * 1024 + 1 * k.val = k.val; omega
  exact (congrArg (V m c main_v21) e).trans (entry_tok m c _ k)

theorem emb_14 (t : Fin cfg0.N) (n : Fin 512) (k : Fin 1024) :
    ((cfg0.win 14).blk t).view.emb (ix2 n k) = ix2 (⟨512 * (t.val - 1) + n.val, by have := points t; omega⟩ : Fin 16384) k := by
  obtain ⟨e0, e1⟩ := at_14 t
  funext a; apply Fin.ext
  match a with
  | ⟨0, _⟩ => show win0_14.index t (0 : Fin 2) * 512 + 1 * n.val = 512 * (t.val - 1) + n.val; omega
  | ⟨1, _⟩ => show win0_14.index t (1 : Fin 2) * 1024 + 1 * k.val = k.val; omega

/-! A window at the start of its array reads the array's own entries. -/

theorem blk_2 (c : Dev nD) (t : Fin cfg0.N) (k : Fin 1024) : iblk m c 2 t (ix2 0 k) = gpre m c k := by
  obtain ⟨e0, e1⟩ := at_2 t
  refine (congrArg (V m c main_v10) (funext fun a => Fin.ext ?_)).trans (entry_gpre m c k)
  match a with
  | ⟨0, _⟩ => show win0_2.index t (0 : Fin 2) * 1 + 1 * 0 = 0; omega
  | ⟨1, _⟩ => show win0_2.index t (1 : Fin 2) * 1024 + 1 * k.val = k.val; omega
theorem blk_3 (c : Dev nD) (t : Fin cfg0.N) (q : Fin 1024) (l : Fin 1536) : iblk m c 3 t (ix2 q l) = win3 m c q l := by
  obtain ⟨e0, e1⟩ := at_3 t
  refine (congrArg (V m c main_v1) (funext fun a => Fin.ext ?_)).trans (entry_win m c q l)
  match a with
  | ⟨0, _⟩ => show win0_3.index t (0 : Fin 2) * 1024 + 1 * q.val = q.val; omega
  | ⟨1, _⟩ => show win0_3.index t (1 : Fin 2) * 1536 + 1 * l.val = l.val; omega
theorem blk_4 (c : Dev nD) (t : Fin cfg0.N) (g : Fin 4) (q k : Fin 128) : iblk m c 4 t (ix3 g q k) = wpool m c g q k := by
  obtain ⟨e0, e1, e2⟩ := at_4 t
  refine (congrArg (V m c main_v12) (funext fun a => Fin.ext ?_)).trans (entry_pool m c g q k)
  match a with
  | ⟨0, _⟩ => show win0_4.index t (0 : Fin 3) * 4 + 1 * g.val = g.val; omega
  | ⟨1, _⟩ => show win0_4.index t (1 : Fin 3) * 128 + 1 * q.val = q.val; omega
  | ⟨2, _⟩ => show win0_4.index t (2 : Fin 3) * 128 + 1 * k.val = k.val; omega
theorem blk_5 (c : Dev nD) (t : Fin cfg0.N) (k : Fin 512) : iblk m c 5 t (ix2 0 k) = pscale m c k := by
  obtain ⟨e0, e1⟩ := at_5 t
  refine (congrArg (V m c main_v14) (funext fun a => Fin.ext ?_)).trans (entry_scale m c k)
  match a with
  | ⟨0, _⟩ => show win0_5.index t (0 : Fin 2) * 1 + 1 * 0 = 0; omega
  | ⟨1, _⟩ => show win0_5.index t (1 : Fin 2) * 512 + 1 * k.val = k.val; omega
theorem blk_6 (c : Dev nD) (t : Fin cfg0.N) (k : Fin 512) : iblk m c 6 t (ix2 0 k) = snorm m c k := by
  obtain ⟨e0, e1⟩ := at_6 t
  refine (congrArg (V m c main_v16) (funext fun a => Fin.ext ?_)).trans (entry_snorm m c k)
  match a with
  | ⟨0, _⟩ => show win0_6.index t (0 : Fin 2) * 1 + 1 * 0 = 0; omega
  | ⟨1, _⟩ => show win0_6.index t (1 : Fin 2) * 512 + 1 * k.val = k.val; omega
theorem blk_7 (c : Dev nD) (t : Fin cfg0.N) (h : Fin 8) (p q : Fin 128) : iblk m c 7 t (ix3 h p q) = sgate m c h p q := by
  obtain ⟨e0, e1, e2⟩ := at_7 t
  refine (congrArg (V m c main_v17) (funext fun a => Fin.ext ?_)).trans (entry_gate m c h p q)
  match a with
  | ⟨0, _⟩ => show win0_7.index t (0 : Fin 3) * 8 + 1 * h.val = h.val; omega
  | ⟨1, _⟩ => show win0_7.index t (1 : Fin 3) * 128 + 1 * p.val = p.val; omega
  | ⟨2, _⟩ => show win0_7.index t (2 : Fin 3) * 128 + 1 * q.val = q.val; omega
theorem blk_8 (c : Dev nD) (t : Fin cfg0.N) (p : Fin 128) (k : Fin 512) : iblk m c 8 t (ix2 p k) = sbias m c p k := by
  obtain ⟨e0, e1⟩ := at_8 t
  refine (congrArg (V m c main_v7) (funext fun a => Fin.ext ?_)).trans (entry_bias m c p k)
  match a with
  | ⟨0, _⟩ => show win0_8.index t (0 : Fin 2) * 128 + 1 * p.val = p.val; omega
  | ⟨1, _⟩ => show win0_8.index t (1 : Fin 2) * 512 + 1 * k.val = k.val; omega
theorem blk_9 (c : Dev nD) (t : Fin cfg0.N) (q k : Fin 1024) : iblk m c 9 t (ix2 q k) = wout m c q k := by
  obtain ⟨e0, e1⟩ := at_9 t
  refine (congrArg (V m c main_v3) (funext fun a => Fin.ext ?_)).trans (entry_wout m c q k)
  match a with
  | ⟨0, _⟩ => show win0_9.index t (0 : Fin 2) * 1024 + 1 * q.val = q.val; omega
  | ⟨1, _⟩ => show win0_9.index t (1 : Fin 2) * 1024 + 1 * k.val = k.val; omega
theorem blk_10 (c : Dev nD) (t : Fin cfg0.N) (k : Fin 1024) : iblk m c 10 t (ix2 0 k) = gpost m c k := by
  obtain ⟨e0, e1⟩ := at_10 t
  refine (congrArg (V m c main_v20) (funext fun a => Fin.ext ?_)).trans (entry_gpost m c k)
  match a with
  | ⟨0, _⟩ => show win0_10.index t (0 : Fin 2) * 1 + 1 * 0 = 0; omega
  | ⟨1, _⟩ => show win0_10.index t (1 : Fin 2) * 1024 + 1 * k.val = k.val; omega

end Cert.Odd

end
-- ==== Proof.Odd.Start.lean ====
module

public import proofs.«01_k».proof.Proof.Odd.Held
public import proofs.«01_k».proof.Proof.Odd.Blocks

/-! What the first point stores: the rows of its own two tiles' norms, and the first tile, which begins a sequence. -/

@[expose] public section

set_option maxRecDepth 16384

noncomputable section

namespace Cert.Odd

open Cert.Kernel3Ideal Cert.Kernel3Ideal.Gen
open Idealize.ShloMosaic

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)
  (hc0 : cond0_0 i) (hc1 : cond0_1 i) (hc2 : ¬cond0_2 i) (hc3 : ¬cond0_3 i)
  (x0 : Vec Ideal S512x1024 .f32) (x1 : Vec Ideal S512x1024 .f32) (x2 : Vec Ideal S1x1024 .f32) (x3 : Vec Ideal S1024x1536 .bf16) (x4 : Vec Ideal S4x128x128 .bf16) (x5 : Vec Ideal S1x512 .f32) (x6 : Vec Ideal S1x512 .f32) (x7 : Vec Ideal S8x128x128 .f32) (x8 : Vec Ideal S128x512 .f32) (x9 : Vec Ideal S1024x1024 .bf16) (x10 : Vec Ideal S1x1024 .f32) (x11 : Vec Ideal S1x32x2816 .f32) (x12 : Vec Ideal S1x32x2816 .f32) (x13 : Vec Ideal S1x128x1024 .f32)

theorem start_rows_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.1
    = yNext arg25.view (startBit (BitVec.ofNat 32 (i 0).val)) arg21 (arg21.view.writes (Elt Ideal) arg21.view.junk (kernelRun0_A.sl.HS2_1 c arg2 harg2 arg3 harg3 arg4 harg4 arg19 x1 x2 x3)) kernelRun0_A.sl.HS6_1 (secondWord (BitVec.ofNat 32 (i 0).val)) arg5 harg5 arg6 harg6 arg7 harg7 arg8 harg8 arg9 harg9 x4 x5 x6 x7 x8 :=
  congrArg₂ (fun a b => ([⟨Rect.unit (s := S256x1024) ![0, 512] S256x512.size inb_S256x1024_S256x512_0_512, a⟩,
    ⟨Rect.unit (s := S256x1024) ![0, 0] S256x512.size inb_S256x1024_S256x512_0_0, b⟩] : List (View.Piece (Elt Ideal) S256x1024 .bf16)))
    (gate_start _ _ _ _ _ _ _ _ _ _ _ _) (pool_start (BitVec.ofNat 32 (i 0).val) (startBit (BitVec.ofNat 32 (i 0).val)) _ _ _ _ _ _ _ _ _ _ _ _ _ _ _ _ _ _ _)

theorem start_kept_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13).2.2.2.2.2.2.2.2.1 = L10 arg25.view (startBit (BitVec.ofNat 32 (i 0).val)) arg21 (arg21.view.writes (Elt Ideal) arg21.view.junk (kernelRun0_A.sl.HS2_1 c arg2 harg2 arg3 harg3 arg4 harg4 arg19 x1 x2 x3)) kernelRun0_A.sl.HS6_1 := by
  rfl

/-! ## What is left -/

theorem start_hn0 (n : Fin 256) (k : Fin 1024) : Hand.sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 (ix2 n k)
    = rms 0x44800000#32 (fun q => x0 (ix2 ⟨n.val, by omega⟩ q)) (fun q => x2 (ix2 0 q)) k :=
  (whole2 (A := 256) (B := 1024) VS0_0 _ _ _ _ n k).trans ((norm_pay11 _ _ n k).trans (rms_congr (fun q => load2 arg1 harg1 x0 0 0 inb_S512x1024_S256x1024_0_0 _ q ⟨n.val, by omega⟩ q (by simp) (by simp)) (fun q => load2 (n₀ := 1) arg3 harg3 x2 0 0 inb_S1x1024_S1x1024_0_0 0 q 0 q (by rfl) (by simp)) k))

theorem start_hn1 (n : Fin 256) (k : Fin 1024) : Hand.sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 (ix2 n k)
    = rms 0x44800000#32 (fun q => x0 (ix2 ⟨256 + n.val, by omega⟩ q)) (fun q => x2 (ix2 0 q)) k :=
  (whole2 (A := 256) (B := 1024) VS0_1 _ _ _ _ n k).trans ((norm_pay5 _ _ n k).trans (rms_congr (fun q => load2 arg1 harg1 x0 256 0 inb_S512x1024_S256x1024_256_0 _ q ⟨256 + n.val, by omega⟩ q (by simp) (by simp)) (fun q => load2 (n₀ := 1) arg3 harg3 x2 0 0 inb_S1x1024_S1x1024_0_0 0 q 0 q (by rfl) (by simp)) k))

theorem start_z1 (g : Fin 32) (r : Fin 8) (l : Fin 1536) : Hand.sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 (ix3 g r l)
    = ∑ q, rms 0x44800000#32 (fun q => x1 (ix2 ⟨256 + (8 * g.val + r.val), by omega⟩ q)) (fun q => x2 (ix2 0 q)) q * x3 (ix2 q l) := by
  refine (whole3 (A := 32) (B := 8) (C := 1536) VS0_3 _ _ _ [] g r l).trans ((in_pay61 _ _ g r l).trans
    (Finset.sum_congr rfl fun q _ => congrArg₂ _ ?_ (load2 arg4 harg4 x3 0 0 inb_S1024x1536_S1024x1536_0_0 q l q l (by simp) (by simp))))
  refine (read2 arg20 _ 0 0 inb_S256x1024_S256x1024_0_0 _ q ⟨8 * g.val + r.val, by omega⟩ q (by simp) (by simp)).trans ?_
  exact (whole2 (A := 256) (B := 1024) arg20.view _ _ _ [] _ q).trans ((norm_pay9 _ _ _ q).trans (rms_congr (fun q => load2 arg2 harg2 x1 256 0 inb_S512x1024_S256x1024_256_0 _ q ⟨256 + (8 * g.val + r.val), by omega⟩ q (by simp) (by simp)) (fun q => load2 (n₀ := 1) arg3 harg3 x2 0 0 inb_S1x1024_S1x1024_0_0 0 q 0 q (by rfl) (by simp)) q))

variable {z : ℕ → Fin 1536 → EReal} (hw : secondWord (BitVec.ofNat 32 (i 0).val) = BitVec.ofNat 32 0) (hb : startBit (BitVec.ofNat 32 (i 0).val) = 1#1)
  (hz : ∀ (g : Fin 32) (r : Fin 8) (l : Fin 1536),
    ∑ q, rms 0x44800000#32 (fun q => x1 (ix2 ⟨8 * g.val + r.val, in_block g r⟩ q)) (fun q => x2 (ix2 0 q)) q * x3 (ix2 q l) = z (0 + (8 * g.val + r.val)) l)

include hz

theorem start_z (g : Fin 32) (r : Fin 8) (l : Fin 1536) : arg21.view.read (Elt Ideal) (arg21.view.writes (Elt Ideal) arg21.view.junk (kernelRun0_A.sl.HS2_1 c arg2 harg2 arg3 harg3 arg4 harg4 arg19 x1 x2 x3)) (ix3 g r l) = z (0 + (8 * g.val + r.val)) l := by
  rw [← hz]
  refine (whole3 (A := 32) (B := 8) (C := 1536) arg21.view _ _ _ [] g r l).trans ((in_pay10 _ _ g r l).trans
    (Finset.sum_congr rfl fun q _ => congrArg₂ _ ?_ (load2 arg4 harg4 x3 0 0 inb_S1024x1536_S1024x1536_0_0 q l q l (by simp) (by simp))))
  refine (read2 arg19 _ 0 0 inb_S256x1024_S256x1024_0_0 _ q ⟨8 * g.val + r.val, by omega⟩ q (by simp) (by simp)).trans ?_
  exact (whole2 (A := 256) (B := 1024) arg19.view _ _ _ [] _ q).trans ((norm_pay8 _ _ _ q).trans (rms_congr (fun q => load2 arg2 harg2 x1 0 0 inb_S512x1024_S256x1024_0_0 _ q ⟨8 * g.val + r.val, by omega⟩ q (by simp) (by simp)) (fun q => load2 (n₀ := 1) arg3 harg3 x2 0 0 inb_S1x1024_S1x1024_0_0 0 q 0 q (by rfl) (by simp)) q))

include hb

theorem start_held : Kept 256 z (Hand.sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13) := by
  unfold Hand.sout0_A_6
  rw [start_kept_eq]
  exact next_kept arg25.view _ arg21 _ _ (s₀ := 0) (by rw [hb]; rfl) (fun h => absurd rfl h) rfl (start_z c arg2 harg2 arg3 harg3 arg4 harg4 arg19 arg21 x1 x2 x3 hz) VS0_6 _

include hw

theorem start_rows (n : Fin 256) (k : Fin 1024) : Hand.sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 (ix2 n k) = mixedRow z x4 x5 x6 x7 x8 (0 + n.val) k := by
  unfold Hand.sout0_A_4
  rw [start_rows_eq]
  exact next_rows arg25.view _ arg21 _ _ (s₀ := 0) (by rw [hb]; rfl) (fun h => absurd rfl h) rfl (by omega) (start_z c arg2 harg2 arg3 harg3 arg4 harg4 arg19 arg21 x1 x2 x3 hz)
    VS0_4 _ _ hw _ _ _ _ _ _ _ _ _ _ _ _ _ _ _ n k

end Cert.Odd

end
-- ==== Proof.Odd.Middle.lean ====
module

public import proofs.«01_k».proof.Proof.Odd.Held
public import proofs.«01_k».proof.Proof.Odd.Blocks

/-! What a middle point stores, in the words of its two tiles: the first finds its windows as held, the second as it
stores. -/

@[expose] public section

set_option maxRecDepth 16384

noncomputable section

namespace Cert.Odd

open Cert.Kernel3Ideal Cert.Kernel3Ideal.Gen
open Idealize.ShloMosaic

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)
  (hc0 : ¬cond0_0 i) (hc1 : ¬cond0_1 i) (hc2 : cond0_2 i) (hc3 : ¬cond0_3 i)
  (x0 : Vec Ideal S512x1024 .f32) (x1 : Vec Ideal S512x1024 .f32) (x2 : Vec Ideal S1x1024 .f32) (x3 : Vec Ideal S1024x1536 .bf16) (x4 : Vec Ideal S4x128x128 .bf16) (x5 : Vec Ideal S1x512 .f32) (x6 : Vec Ideal S1x512 .f32) (x7 : Vec Ideal S8x128x128 .f32) (x8 : Vec Ideal S128x512 .f32) (x9 : Vec Ideal S1024x1024 .bf16) (x10 : Vec Ideal S1x1024 .f32) (x11 : Vec Ideal S1x32x2816 .f32) (x12 : Vec Ideal S1x32x2816 .f32) (x13 : Vec Ideal S1x128x1024 .f32)
  (xs0 : Vec Ideal S256x1024 .bf16) (xs1 : Vec Ideal S256x1024 .bf16) (xs3 : Vec Ideal S32x8x1536 .f32) (xs4 : Vec Ideal S256x1024 .bf16) (xs6 : Vec Ideal S4x8x512 .f32)

theorem mid_first : kernelRun0_B.sl.HS5_2 c i arg5 harg5 arg6 harg6 arg7 harg7 arg8 harg8 arg9 harg9 arg22 harg22 arg25 harg25 x4 x5 x6 x7 x8 xs3 xs6
    = yHeld arg22 (harg22.unread xs3) arg25 harg25 xs6 (firstWord (BitVec.ofNat 32 (i 0).val)) arg5 harg5 arg6 harg6 arg7 harg7 arg8 harg8 arg9 harg9 x4 x5 x6 x7 x8 :=
  congrArg₂ (fun a b => ([⟨Rect.unit (s := S256x1024) ![0, 512] S256x512.size inb_S256x1024_S256x512_0_512, a⟩,
    ⟨Rect.unit (s := S256x1024) ![0, 0] S256x512.size inb_S256x1024_S256x512_0_0, b⟩] : List (View.Piece (Elt Ideal) S256x1024 .bf16)))
    (gate_mid _ _ _ _ _ _ _ _ _ _ _ _) (pool_mid _ _ _ _ _ _ _ _ _ _ _ _ _ _ _ _ _ _ _ _)

theorem mid_hist : kernelRun0_B.sl.HS6_10 c arg22 harg22 arg25 harg25 xs3 xs6 = hHeld arg22 (harg22.unread xs3) arg25 harg25 xs6 := by
  unfold hHeld hList
  rw [← tail_91, ← tail_90]
  rfl

/-- The second tile's rows, and the windows kept at the end of the point. -/
theorem mid_second : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.1
    = yNext arg25.view (startBit (BitVec.ofNat 32 (i 0).val)) arg21 (arg21.view.writes (Elt Ideal) arg21.view.junk (kernelRun0_B.sl.HS2_1 c arg4 harg4 arg19 harg19 x3 xs0)) (kernelRun0_B.sl.HS6_10 c arg22 harg22 arg25 harg25 xs3 xs6) (secondWord (BitVec.ofNat 32 (i 0).val)) arg5 harg5 arg6 harg6 arg7 harg7 arg8 harg8 arg9 harg9 x4 x5 x6 x7 x8 :=
  congrArg₂ (fun a b => ([⟨Rect.unit (s := S256x1024) ![0, 512] S256x512.size inb_S256x1024_S256x512_0_512, a⟩,
    ⟨Rect.unit (s := S256x1024) ![0, 0] S256x512.size inb_S256x1024_S256x512_0_0, b⟩] : List (View.Piece (Elt Ideal) S256x1024 .bf16)))
    (gate_second _ _ _ _ _ _ _ _ _ _ _ _) (pool_second _ _ _ _ _ _ _ _ _ _ _ _ _ _ _ _ _ _ _ _)

theorem mid_kept : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6).2.2.2.2.2.2.2.2.1
    = L10 arg25.view (startBit (BitVec.ofNat 32 (i 0).val)) arg21 (arg21.view.writes (Elt Ideal) arg21.view.junk (kernelRun0_B.sl.HS2_1 c arg4 harg4 arg19 harg19 x3 xs0)) (kernelRun0_B.sl.HS6_10 c arg22 harg22 arg25 harg25 xs3 xs6) := by
  rfl

/-! ## What is left -/

theorem mid_hn0 (n : Fin 256) (k : Fin 1024) : Hand.sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6 (ix2 n k)
    = rms 0x44800000#32 (fun q => x0 (ix2 ⟨n.val, by omega⟩ q)) (fun q => x2 (ix2 0 q)) k :=
  (whole2 (A := 256) (B := 1024) VS0_0 _ _ _ [] n k).trans ((norm_pay116 _ _ n k).trans
    (rms_congr (fun q => load2 arg1 harg1 x0 0 0 inb_S512x1024_S256x1024_0_0 n q ⟨n.val, by omega⟩ q (by simp) (by simp)) (fun q => load2 (n₀ := 1) arg3 harg3 x2 0 0 inb_S1x1024_S1x1024_0_0 0 q 0 q (by rfl) (by simp)) k))

theorem mid_hn1 (n : Fin 256) (k : Fin 1024) : Hand.sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6 (ix2 n k)
    = rms 0x44800000#32 (fun q => x0 (ix2 ⟨256 + n.val, by omega⟩ q)) (fun q => x2 (ix2 0 q)) k :=
  (whole2 (A := 256) (B := 1024) VS0_1 _ _ _ [] n k).trans ((norm_pay6 _ _ n k).trans
    (rms_congr (fun q => load2 arg1 harg1 x0 256 0 inb_S512x1024_S256x1024_256_0 n q ⟨256 + n.val, by omega⟩ q (by simp) (by simp)) (fun q => load2 (n₀ := 1) arg3 harg3 x2 0 0 inb_S1x1024_S1x1024_0_0 0 q 0 q (by rfl) (by simp)) k))

theorem mid_z1 (g : Fin 32) (r : Fin 8) (l : Fin 1536) : Hand.sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6 (ix3 g r l)
    = ∑ q, xs1 (ix2 ⟨8 * g.val + r.val, by omega⟩ q) * x3 (ix2 q l) :=
  (whole3 (A := 32) (B := 8) (C := 1536) VS0_3 _ _ _ [] g r l).trans ((in_pay172 _ _ g r l).trans
    (Finset.sum_congr rfl fun q _ => congrArg₂ _ (load2 arg20 harg20 xs1 0 0 inb_S256x1024_S256x1024_0_0 _ q _ q (by simp) (by simp)) (load2 arg4 harg4 x3 0 0 inb_S1024x1536_S1024x1536_0_0 q l q l (by simp) (by simp))))

variable {s₁ s₂ : ℕ} {z₁ z₂ : ℕ → Fin 1536 → EReal} (hw₁ : firstWord (BitVec.ofNat 32 (i 0).val) = BitVec.ofNat 32 s₁) (h₁ : s₁ ≠ 0) (hs₁ : s₁ % 256 = 0) (hs₁' : s₁ ≤ 1792)
  (K : Kept s₁ z₁ xs6) (hz₁ : ∀ (g : Fin 32) (r : Fin 8) (l : Fin 1536), xs3 (ix3 g r l) = z₁ (s₁ + (8 * g.val + r.val)) l)

include hw₁ h₁ hs₁ hs₁' K hz₁

theorem mid_out (n : Fin 512) (k : Fin 1024) : Hand.out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6 (ix2 n k)
    = outRow (fun q => x1 (ix2 n q)) (fun q => if h : n.val < 256 then xs4 (ix2 ⟨n.val, h⟩ q) else mixedRow z₁ x4 x5 x6 x7 x8 (s₁ + (n.val - 256)) q)
        (fun q k => x9 (ix2 q k)) (fun q => x10 (ix2 0 q)) k := by
  refine (halves VO0_14 _ _ _ _ _ n k).trans ?_
  split
  · exact (out_pay66 _ _ _ _ _ k).trans (outRow_congr
      (fun q => load2 arg2 harg2 x1 0 0 inb_S512x1024_S256x1024_0_0 _ q n q (by simp) (by simp))
      (fun q => load2 arg23 harg23 xs4 0 0 inb_S256x1024_S256x1024_0_0 _ q _ q (by simp) (by simp))
      (fun q k => load2 arg10 harg10 x9 0 0 inb_S1024x1024_S1024x1024_0_0 q k q k (by simp) (by simp))
      (fun q => load2 (n₀ := 1) arg11 harg11 x10 0 0 inb_S1x1024_S1x1024_0_0 0 q 0 q (by rfl) (by simp)) k)
  · refine (out_pay117 _ _ _ _ _ k).trans (outRow_congr
      (fun q => load2 arg2 harg2 x1 256 0 inb_S512x1024_S256x1024_256_0 _ q n q (by simp; omega) (by simp))
      (fun q => ?_)
      (fun q k => load2 arg10 harg10 x9 0 0 inb_S1024x1024_S1024x1024_0_0 q k q k (by simp) (by simp))
      (fun q => load2 (n₀ := 1) arg11 harg11 x10 0 0 inb_S1x1024_S1x1024_0_0 0 q 0 q (by rfl) (by simp)) k)
    refine (read2 arg24 _ 0 0 inb_S256x1024_S256x1024_0_0 _ q ⟨n.val - 256, by omega⟩ q (by simp) (by simp)).trans ?_
    rw [mid_first]
    refine held_rows arg22 _ arg25 harg25 xs6 h₁ K hs₁ hs₁' ?_ arg24.view _ _ hw₁ _ _ _ _ _ _ _ _ _ _ _ _ _ _ _ _ q
    intro g r l; rw [harg22.read_unread]; exact hz₁ g r l

omit hw₁ hs₁' in
theorem mid_between (d) : Kept (s₁ + 256) z₁ (arg25.view.read (Elt Ideal) (arg25.view.writes (Elt Ideal) d (kernelRun0_B.sl.HS6_10 c arg22 harg22 arg25 harg25 xs3 xs6))) := by
  rw [mid_hist]
  exact held_kept arg22 _ arg25 harg25 xs6 h₁ K hs₁ (fun g r l => by rw [harg22.read_unread]; exact hz₁ g r l) arg25.view d

variable (hw₂ : secondWord (BitVec.ofNat 32 (i 0).val) = BitVec.ofNat 32 s₂) (hb : startBit (BitVec.ofNat 32 (i 0).val) = if s₂ = 0 then 1#1 else 0#1) (hs₂ : s₂ % 256 = 0) (hs₂' : s₂ ≤ 1792)
  (next : s₂ ≠ 0 → s₂ = s₁ + 256 ∧ z₂ = z₁) (hz₂ : ∀ (g : Fin 32) (r : Fin 8) (l : Fin 1536), ∑ q, xs0 (ix2 ⟨8 * g.val + r.val, in_tile g r⟩ q) * x3 (ix2 q l) = z₂ (s₂ + (8 * g.val + r.val)) l)

include hb hs₂ next hz₂

omit hw₁ hs₁' in
theorem mid_held : Kept (s₂ + 256) z₂ (Hand.sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6) := by
  unfold Hand.sout0_B_6
  rw [mid_kept]
  refine next_kept arg25.view _ arg21 _ _ hb (fun h => ?_) hs₂ (fun g r l => ?_) arg25.view _
  · obtain ⟨e, e'⟩ := next h
    rw [e, e']; exact mid_between _ _ _ _ _ _ _ h₁ hs₁ K hz₁ _
  · refine (whole3 (A := 32) (B := 8) (C := 1536) arg21.view _ _ _ [] g r l).trans ((in_pay114 _ _ g r l).trans (Eq.trans ?_ (hz₂ g r l)))
    exact Finset.sum_congr rfl fun q _ => congrArg₂ _ (load2 arg19 harg19 xs0 0 0 inb_S256x1024_S256x1024_0_0 _ q _ q (by simp) (by simp)) (load2 arg4 harg4 x3 0 0 inb_S1024x1536_S1024x1536_0_0 q l q l (by simp) (by simp))

include hw₂ hs₂'

omit hw₁ hs₁' in
theorem mid_rows (n : Fin 256) (k : Fin 1024) : Hand.sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6 (ix2 n k) = mixedRow z₂ x4 x5 x6 x7 x8 (s₂ + n.val) k := by
  unfold Hand.sout0_B_4
  rw [mid_second]
  refine next_rows arg25.view _ arg21 _ _ hb (fun h => ?_) hs₂ hs₂' (fun g r l => ?_) VS0_4 _ _ hw₂ _ _ _ _ _ _ _ _ _ _ _ _ _ _ _ n k
  · obtain ⟨e, e'⟩ := next h
    rw [e, e']; exact mid_between _ _ _ _ _ _ _ h₁ hs₁ K hz₁ _
  · refine (whole3 (A := 32) (B := 8) (C := 1536) arg21.view _ _ _ [] g r l).trans ((in_pay114 _ _ g r l).trans (Eq.trans ?_ (hz₂ g r l)))
    exact Finset.sum_congr rfl fun q _ => congrArg₂ _ (load2 arg19 harg19 xs0 0 0 inb_S256x1024_S256x1024_0_0 _ q _ q (by simp) (by simp)) (load2 arg4 harg4 x3 0 0 inb_S1024x1536_S1024x1536_0_0 q l q l (by simp) (by simp))

end Cert.Odd

end
-- ==== Proof.Odd.Last.lean ====
module

public import proofs.«01_k».proof.Proof.Odd.Held
public import proofs.«01_k».proof.Proof.Odd.Blocks

/-! What the last point stores: the last block of the result. -/

@[expose] public section

set_option maxRecDepth 16384

noncomputable section

namespace Cert.Odd

open Cert.Kernel3Ideal Cert.Kernel3Ideal.Gen
open Idealize.ShloMosaic

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x128x128 .bf16) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S8x128x128 .f32) (harg8 : arg8.IsWhole)
  (arg9 : Memref sig .tc .vmem S128x512 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x32x2816 .f32) (harg12 : arg12.IsWhole)
  (arg13 : Memref sig .tc .vmem S1x32x2816 .f32) (harg13 : arg13.IsWhole)
  (arg14 : Memref sig .tc .vmem S1x128x1024 .f32) (harg14 : arg14.IsWhole)
  (arg15 : Memref sig .tc .vmem S512x1024 .f32) (harg15 : arg15.IsWhole)
  (arg16 : Memref sig .tc .vmem S32x2816 .bf16) (harg16 : arg16.IsWhole)
  (arg17 : Memref sig .tc .vmem S32x2816 .bf16) (harg17 : arg17.IsWhole)
  (arg18 : Memref sig .tc .vmem S128x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S32x8x1536 .f32) (harg21 : arg21.IsWhole)
  (arg22 : Memref sig .tc .vmem S32x8x1536 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S4x8x512 .f32) (harg25 : arg25.IsWhole)
  (hc0 : ¬cond0_0 i) (hc1 : ¬cond0_1 i) (hc2 : ¬cond0_2 i) (hc3 : cond0_3 i)
  (x0 : Vec Ideal S512x1024 .f32) (x1 : Vec Ideal S512x1024 .f32) (x2 : Vec Ideal S1x1024 .f32) (x3 : Vec Ideal S1024x1536 .bf16) (x4 : Vec Ideal S4x128x128 .bf16) (x5 : Vec Ideal S1x512 .f32) (x6 : Vec Ideal S1x512 .f32) (x7 : Vec Ideal S8x128x128 .f32) (x8 : Vec Ideal S128x512 .f32) (x9 : Vec Ideal S1024x1024 .bf16) (x10 : Vec Ideal S1x1024 .f32) (x11 : Vec Ideal S1x32x2816 .f32) (x12 : Vec Ideal S1x32x2816 .f32) (x13 : Vec Ideal S1x128x1024 .f32)
  (xs0 : Vec Ideal S256x1024 .bf16) (xs1 : Vec Ideal S256x1024 .bf16) (xs3 : Vec Ideal S32x8x1536 .f32) (xs4 : Vec Ideal S256x1024 .bf16) (xs6 : Vec Ideal S4x8x512 .f32)

theorem last_first : Hand.lastRun.sl.HS5_2 c i arg5 harg5 arg6 harg6 arg7 harg7 arg8 harg8 arg9 harg9 arg22 harg22 arg25 harg25 x4 x5 x6 x7 x8 xs3 xs6
    = yHeld arg22 (harg22.unread xs3) arg25 harg25 xs6 (firstWord (BitVec.ofNat 32 (i 0).val)) arg5 harg5 arg6 harg6 arg7 harg7 arg8 harg8 arg9 harg9 x4 x5 x6 x7 x8 :=
  congrArg₂ (fun a b => ([⟨Rect.unit (s := S256x1024) ![0, 512] S256x512.size inb_S256x1024_S256x512_0_512, a⟩,
    ⟨Rect.unit (s := S256x1024) ![0, 0] S256x512.size inb_S256x1024_S256x512_0_0, b⟩] : List (View.Piece (Elt Ideal) S256x1024 .bf16)))
    (gate_last _ _ _ _ _ _ _ _ _ _ _ _) (pool_last _ _ _ _ _ _ _ _ _ _ _ _ _ _ _ _ _ _ _ _)

variable {s₁ : ℕ} {z₁ : ℕ → Fin 1536 → EReal} (hw₁ : firstWord (BitVec.ofNat 32 (i 0).val) = BitVec.ofNat 32 s₁) (h₁ : s₁ ≠ 0) (hs₁ : s₁ % 256 = 0) (hs₁' : s₁ ≤ 1792)
  (K : Kept s₁ z₁ xs6) (hz₁ : ∀ (g : Fin 32) (r : Fin 8) (l : Fin 1536), xs3 (ix3 g r l) = z₁ (s₁ + (8 * g.val + r.val)) l)

include hw₁ h₁ hs₁ hs₁' K hz₁

theorem last_out (n : Fin 512) (k : Fin 1024) : Hand.out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 x13 xs0 xs1 xs3 xs4 xs6 (ix2 n k)
    = outRow (fun q => x1 (ix2 n q)) (fun q => if h : n.val < 256 then xs4 (ix2 ⟨n.val, h⟩ q) else mixedRow z₁ x4 x5 x6 x7 x8 (s₁ + (n.val - 256)) q)
        (fun q k => x9 (ix2 q k)) (fun q => x10 (ix2 0 q)) k := by
  refine (halves VO0_14 _ _ _ _ _ n k).trans ?_
  split
  · exact (out_pay174 _ _ _ _ _ k).trans (outRow_congr
      (fun q => load2 arg2 harg2 x1 0 0 inb_S512x1024_S256x1024_0_0 _ q n q (by simp) (by simp))
      (fun q => load2 arg23 harg23 xs4 0 0 inb_S256x1024_S256x1024_0_0 _ q _ q (by simp) (by simp))
      (fun q k => load2 arg10 harg10 x9 0 0 inb_S1024x1024_S1024x1024_0_0 q k q k (by simp) (by simp))
      (fun q => load2 (n₀ := 1) arg11 harg11 x10 0 0 inb_S1x1024_S1x1024_0_0 0 q 0 q (by rfl) (by simp)) k)
  · refine (out_pay7 _ _ _ _ _ k).trans (outRow_congr
      (fun q => load2 arg2 harg2 x1 256 0 inb_S512x1024_S256x1024_256_0 _ q n q (by simp; omega) (by simp))
      (fun q => ?_)
      (fun q k => load2 arg10 harg10 x9 0 0 inb_S1024x1024_S1024x1024_0_0 q k q k (by simp) (by simp))
      (fun q => load2 (n₀ := 1) arg11 harg11 x10 0 0 inb_S1x1024_S1x1024_0_0 0 q 0 q (by rfl) (by simp)) k)
    refine (read2 arg24 _ 0 0 inb_S256x1024_S256x1024_0_0 _ q ⟨n.val - 256, by omega⟩ q (by simp) (by simp)).trans ?_
    rw [last_first]
    refine held_rows arg22 _ arg25 harg25 xs6 h₁ K hs₁ hs₁' ?_ arg24.view _ _ hw₁ _ _ _ _ _ _ _ _ _ _ _ _ _ _ _ _ q
    intro g r l; rw [harg22.read_unread]; exact hz₁ g r l

end Cert.Odd

end
-- ==== Proof.Odd.State.lean ====
module

public import proofs.«01_k».proof.Proof.Odd.Entry
public import proofs.«01_k».proof.Proof.Odd.Start
public import proofs.«01_k».proof.Proof.Odd.Middle
public import proofs.«01_k».proof.Proof.Odd.Last

/-! What the points of the grid leave: the scratch after a point, by induction over the points, and the rows each point
stores. -/

@[expose] public section

set_option maxRecDepth 16384

noncomputable section

namespace Cert.Odd

open Cert.Kernel3Ideal Cert.Kernel3Ideal.Gen
open Idealize.ShloMosaic Idealize.ShloMosaic.TcCoe

variable (m : (ℓ : Loc nD τ sig) → Buf (Elt Ideal) ℓ) (c : Dev nD)

/-! ## The mixer's rows -/

/-- The normalised token row. -/
def tokNorm (R : ℕ) : Fin 1024 → EReal := rms 0x44800000#32 (tok m c R) (gpre m c)
/-- The projected row. -/
def zrow (R : ℕ) (l : Fin 1536) : EReal := ∑ q, tokNorm m c R q * win3 m c q l
/-- The projected rows of sequence `b`. -/
def zOf (b s : ℕ) : Fin 1536 → EReal := zrow m c (2048 * b + s)
/-- The mixed row. -/
def mixRow (R : ℕ) : Fin 1024 → EReal :=
  mixed (zOf m c (R / 2048)) (wpool m c) (pscale m c) (snorm m c) (sgate m c) (sbias m c) (R % 2048)
/-- The row of the result. -/
def oddRow (R : ℕ) : Fin 1024 → EReal := outRow (tok m c R) (mixRow m c R) (wout m c) (gpost m c)

theorem mixed_congr (z : ℕ → Fin 1536 → EReal) {pw pw' : Fin 4 → Fin 128 → Fin 128 → EReal} {sc sc' no no' : Fin 512 → EReal}
    {w w' : Fin 8 → Fin 128 → Fin 128 → EReal} {b b' : Fin 128 → Fin 512 → EReal}
    (h₁ : ∀ g q k, pw g q k = pw' g q k) (h₂ : ∀ k, sc k = sc' k) (h₃ : ∀ k, no k = no' k) (h₄ : ∀ h t q, w h t q = w' h t q) (h₅ : ∀ t k, b t k = b' t k) :
    mixed z pw sc no w b = mixed z pw' sc' no' w' b' := by
  obtain rfl : pw = pw' := funext fun g => funext fun q => funext fun k => h₁ g q k
  obtain rfl : sc = sc' := funext h₂
  obtain rfl : no = no' := funext h₃
  obtain rfl : w = w' := funext fun g => funext fun q => funext fun k => h₄ g q k
  obtain rfl : b = b' := funext fun q => funext fun k => h₅ q k
  rfl

theorem mixedRow_blk (t : Fin cfg0.N) (z : ℕ → Fin 1536 → EReal) :
    mixedRow z (iblk m c 4 t) (iblk m c 5 t) (iblk m c 6 t) (iblk m c 7 t) (iblk m c 8 t)
      = mixed z (wpool m c) (pscale m c) (snorm m c) (sgate m c) (sbias m c) :=
  mixed_congr z (blk_4 m c t) (blk_5 m c t) (blk_6 m c t) (blk_7 m c t) (blk_8 m c t)

/-- A row of a tile, by its sequence and its position there. -/
theorem row_of (t : Fin cfg0.N) (z : ℕ → Fin 1536 → EReal) {b s R : ℕ} (hz : z = zOf m c b) (hb : R / 2048 = b) (hs : R % 2048 = s) (k : Fin 1024) :
    mixedRow z (iblk m c 4 t) (iblk m c 5 t) (iblk m c 6 t) (iblk m c 7 t) (iblk m c 8 t) s k = mixRow m c R k := by
  rw [mixedRow_blk]; subst hz hb hs; rfl

/-! ## The scratch after a point -/

/-- After point `t`: the next two normalised tiles, the second tile's projection, the first tile's mixed rows, and the
windows of the first tile. -/
structure After (t : Fin cfg0.N) : Prop where
  hn0 : ∀ (n : Fin 256) (k : Fin 1024), (Hand.outsAt0 m c t.val t.isLt).2.2.2.2.1 (ix2 n k) = tokNorm m c (512 * min (t.val + 1) 31 + n.val) k
  hn1 : ∀ (n : Fin 256) (k : Fin 1024), (Hand.outsAt0 m c t.val t.isLt).2.2.2.2.2.1 (ix2 n k) = tokNorm m c (512 * min (t.val + 1) 31 + 256 + n.val) k
  z1 : ∀ (g : Fin 32) (r : Fin 8) (l : Fin 1536), (Hand.outsAt0 m c t.val t.isLt).2.2.2.2.2.2.1 (ix3 g r l) = zrow m c (512 * t.val + 256 + (8 * g.val + r.val)) l
  y0 : ∀ (n : Fin 256) (k : Fin 1024), (Hand.outsAt0 m c t.val t.isLt).2.2.2.2.2.2.2.1 (ix2 n k) = mixRow m c (512 * t.val + n.val) k
  hist : Kept (2 * t.val % 8 * 256 + 256) (zOf m c (2 * t.val / 8)) (Hand.outsAt0 m c t.val t.isLt).2.2.2.2.2.2.2.2

attribute [local irreducible] Kept

theorem normed_blk0 (t : Fin cfg0.N) (n : Fin 512) (k : Fin 1024) :
    rms 0x44800000#32 (fun q => iblk m c 0 t (ix2 n q)) (fun q => iblk m c 2 t (ix2 0 q)) k = tokNorm m c (512 * min (t.val + 1) 31 + n.val) k :=
  rms_congr (fun q => blk_0 m c t n q) (fun q => blk_2 m c t q) k

theorem normed_blk1 (t : Fin cfg0.N) (n : Fin 512) (k : Fin 1024) :
    rms 0x44800000#32 (fun q => iblk m c 1 t (ix2 n q)) (fun q => iblk m c 2 t (ix2 0 q)) k = tokNorm m c (512 * (t.val - 1) + n.val) k :=
  rms_congr (fun q => blk_1 m c t n q) (fun q => blk_2 m c t q) k

theorem start (t : Fin cfg0.N) (ht : t.val = 0) : After m c t := by
  have E := Hand.outsAt0_A m c t (by omega) (by omega) (by omega) (by omega)
  have hz : ∀ (g : Fin 32) (r : Fin 8) (l : Fin 1536),
      ∑ q, rms 0x44800000#32 (fun q => iblk m c 1 t (ix2 ⟨8 * g.val + r.val, in_block g r⟩ q)) (fun q => iblk m c 2 t (ix2 0 q)) q * iblk m c 3 t (ix2 q l)
        = zOf m c 0 (0 + (8 * g.val + r.val)) l := fun g r l =>
    Finset.sum_congr rfl fun q _ => congrArg₂ (· * ·) ((normed_blk1 m c t _ q).trans (congrArg (fun R => tokNorm m c R q) (by simp [ht]))) (blk_3 m c t q l)
  have hw : secondWord (BitVec.ofNat 32 (grid0.coords t 0).val) = BitVec.ofNat 32 0 := by rw [coord, ht]; decide
  have hb : startBit (BitVec.ofNat 32 (grid0.coords t 0).val) = 1#1 := by rw [coord, ht]; decide
  refine ⟨fun n k => ?_, fun n k => ?_, fun g r l => ?_, fun n k => ?_, ?_⟩
  · rw [E]; dsimp only; exact Eq.trans (start_hn0 ..) (normed_blk0 m c t _ k)
  · rw [E]; dsimp only; exact Eq.trans (start_hn1 ..) ((normed_blk0 m c t _ k).trans (congrArg (fun R => tokNorm m c R k) (by simp only; omega)))
  · rw [E]; dsimp only
    refine Eq.trans (start_z1 ..) (Finset.sum_congr rfl fun q _ => congrArg₂ (· * ·) ((normed_blk1 m c t _ q).trans (congrArg (fun R => tokNorm m c R q) ?_)) (blk_3 m c t q l))
    simp only; omega
  · rw [E]; dsimp only
    exact Eq.trans (start_rows (z := zOf m c 0) (hw := hw) (hb := hb) (hz := hz) ..) (row_of m c t _ rfl (by omega) (by omega) k)
  · rw [E]; dsimp only
    have e : 2 * t.val % 8 * 256 + 256 = 256 := by omega
    have e' : 2 * t.val / 8 = 0 := by omega
    rw [e, e']
    exact start_held (z := zOf m c 0) (hb := hb) (hz := hz) ..

section Step

variable (s t : Fin cfg0.N) (ht : t.val = s.val + 1) (I : After m c s)

include ht I

theorem step_z (g : Fin 32) (r : Fin 8) (l : Fin 1536) : (Hand.outsAt0 m c (t.val - 1) (Nat.lt_of_le_of_lt (Nat.sub_le _ _) t.isLt)).2.2.2.2.2.2.1 (ix3 g r l)
    = zOf m c ((2 * t.val - 1) / 8) ((2 * t.val - 1) % 8 * 256 + (8 * g.val + r.val)) l := by
  obtain ⟨t, h⟩ := t
  obtain rfl : t = s.val + 1 := ht
  refine (I.z1 g r l).trans (congrArg (fun R => zrow m c R l) ?_)
  simp only; omega

theorem step_kept : Kept ((2 * t.val - 1) % 8 * 256) (zOf m c ((2 * t.val - 1) / 8)) (Hand.outsAt0 m c (t.val - 1) (Nat.lt_of_le_of_lt (Nat.sub_le _ _) t.isLt)).2.2.2.2.2.2.2.2 := by
  obtain ⟨t, h⟩ := t
  obtain rfl : t = s.val + 1 := ht
  have e : (2 * (s.val + 1) - 1) % 8 * 256 = 2 * s.val % 8 * 256 + 256 := by omega
  have e' : (2 * (s.val + 1) - 1) / 8 = 2 * s.val / 8 := by omega
  show Kept ((2 * (s.val + 1) - 1) % 8 * 256) (zOf m c ((2 * (s.val + 1) - 1) / 8)) _
  rw [e, e']
  exact I.hist

theorem step_rows (n : Fin 512) (q : Fin 1024) :
    (if h : n.val < 256 then (Hand.outsAt0 m c (t.val - 1) (Nat.lt_of_le_of_lt (Nat.sub_le _ _) t.isLt)).2.2.2.2.2.2.2.1 (ix2 ⟨n.val, h⟩ q)
      else mixedRow (zOf m c ((2 * t.val - 1) / 8)) (iblk m c 4 t) (iblk m c 5 t) (iblk m c 6 t) (iblk m c 7 t) (iblk m c 8 t) ((2 * t.val - 1) % 8 * 256 + (n.val - 256)) q)
    = mixRow m c (512 * (t.val - 1) + n.val) q := by
  split
  · obtain ⟨t, h⟩ := t
    obtain rfl : t = s.val + 1 := ht
    exact I.y0 _ q
  · exact row_of m c t _ rfl (by omega) (by omega) q

theorem step_row (n : Fin 512) (k : Fin 1024) :
    outRow (fun q => iblk m c 1 t (ix2 n q)) (fun q => if h : n.val < 256 then (Hand.outsAt0 m c (t.val - 1) (Nat.lt_of_le_of_lt (Nat.sub_le _ _) t.isLt)).2.2.2.2.2.2.2.1 (ix2 ⟨n.val, h⟩ q)
      else mixedRow (zOf m c ((2 * t.val - 1) / 8)) (iblk m c 4 t) (iblk m c 5 t) (iblk m c 6 t) (iblk m c 7 t) (iblk m c 8 t) ((2 * t.val - 1) % 8 * 256 + (n.val - 256)) q)
      (fun q k => iblk m c 9 t (ix2 q k)) (fun q => iblk m c 10 t (ix2 0 q)) k
    = oddRow m c (512 * (t.val - 1) + n.val) k :=
  outRow_congr (fun q => blk_1 m c t n q) (fun q => step_rows m c s t ht I n q) (fun q k => blk_9 m c t q k) (fun q => blk_10 m c t q) k

omit I in
theorem word_first : firstWord (BitVec.ofNat 32 (grid0.coords t 0).val) = BitVec.ofNat 32 ((2 * t.val - 1) % 8 * 256) := by
  rw [coord]; exact firstWord_at t (by omega)

theorem step_out_mid (hm : t.val ≤ 31) (n : Fin 512) (k : Fin 1024) : (Hand.outsAt0 m c t.val t.isLt).1 (ix2 n k) = oddRow m c (512 * (t.val - 1) + n.val) k := by
  have E := Hand.outsAt0_B m c t (by omega) (by omega) (by omega) (by omega)
  rw [E]; dsimp only
  exact Eq.trans (mid_out (hw₁ := word_first s t ht) (h₁ := by omega) (hs₁ := by omega) (hs₁' := by omega)
    (K := step_kept m c s t ht I) (hz₁ := step_z m c s t ht I) ..) (step_row m c s t ht I n k)

theorem step_out_last (hm : t.val = 32) (n : Fin 512) (k : Fin 1024) : (Hand.outsAt0 m c t.val t.isLt).1 (ix2 n k) = oddRow m c (512 * (t.val - 1) + n.val) k := by
  have E := Hand.outsAt0_C m c t (by omega) (by omega) (by omega) (by omega)
  rw [E]; dsimp only
  exact Eq.trans (last_out (hw₁ := word_first s t ht) (h₁ := by omega) (hs₁ := by omega) (hs₁' := by omega)
    (K := step_kept m c s t ht I) (hz₁ := step_z m c s t ht I) ..) (step_row m c s t ht I n k)

theorem step_z2 (hm : t.val ≤ 31) (g : Fin 32) (r : Fin 8) (l : Fin 1536) :
    ∑ q, (Hand.outsAt0 m c (t.val - 1) (Nat.lt_of_le_of_lt (Nat.sub_le _ _) t.isLt)).2.2.2.2.1 (ix2 ⟨8 * g.val + r.val, in_tile g r⟩ q) * iblk m c 3 t (ix2 q l)
      = zOf m c (2 * t.val / 8) (2 * t.val % 8 * 256 + (8 * g.val + r.val)) l := by
  refine Finset.sum_congr rfl fun q _ => congrArg₂ (· * ·) ?_ (blk_3 m c t q l)
  obtain ⟨t, h⟩ := t
  obtain rfl : t = s.val + 1 := ht
  refine (I.hn0 _ q).trans (congrArg (fun R => tokNorm m c R q) ?_)
  simp only at hm ⊢; omega

theorem step (hm : t.val ≤ 31) : After m c t := by
  have E := Hand.outsAt0_B m c t (by omega) (by omega) (by omega) (by omega)
  have hw : secondWord (BitVec.ofNat 32 (grid0.coords t 0).val) = BitVec.ofNat 32 (2 * t.val % 8 * 256) := by rw [coord]; exact secondWord_at t
  have hb : startBit (BitVec.ofNat 32 (grid0.coords t 0).val) = if 2 * t.val % 8 * 256 = 0 then 1#1 else 0#1 := by
    rw [coord]; refine (startBit_at t).trans (if_congr (by omega) rfl rfl)
  have next : 2 * t.val % 8 * 256 ≠ 0 → 2 * t.val % 8 * 256 = (2 * t.val - 1) % 8 * 256 + 256 ∧ zOf m c (2 * t.val / 8) = zOf m c ((2 * t.val - 1) / 8) := fun h =>
    ⟨by omega, congrArg (zOf m c) (by omega)⟩
  refine ⟨fun n k => ?_, fun n k => ?_, fun g r l => ?_, fun n k => ?_, ?_⟩
  · rw [E]; dsimp only; exact Eq.trans (mid_hn0 ..) (normed_blk0 m c t _ k)
  · rw [E]; dsimp only; exact Eq.trans (mid_hn1 ..) ((normed_blk0 m c t _ k).trans (congrArg (fun R => tokNorm m c R k) (by simp only; omega)))
  · rw [E]; dsimp only
    refine Eq.trans (mid_z1 ..) (Finset.sum_congr rfl fun q _ => congrArg₂ (· * ·) ?_ (blk_3 m c t q l))
    obtain ⟨t, h⟩ := t
    obtain rfl : t = s.val + 1 := ht
    refine (I.hn1 _ q).trans (congrArg (fun R => tokNorm m c R q) ?_)
    simp only at hm ⊢; omega
  · rw [E]; dsimp only
    exact Eq.trans (mid_rows (h₁ := by omega) (hs₁ := by omega) (K := step_kept m c s t ht I) (hz₁ := step_z m c s t ht I)
      (hw₂ := hw) (hb := hb) (hs₂ := by omega) (hs₂' := by omega) (next := next) (hz₂ := step_z2 m c s t ht I hm) ..) (row_of m c t _ rfl (by omega) (by omega) k)
  · rw [E]; dsimp only
    exact mid_held (h₁ := by omega) (hs₁ := by omega) (K := step_kept m c s t ht I) (hz₁ := step_z m c s t ht I)
      (hb := hb) (hs₂ := by omega) (next := next) (hz₂ := step_z2 m c s t ht I hm) ..

end Step

theorem after_at : ∀ (n : ℕ) (hn : n < cfg0.N), n ≤ 31 → After m c ⟨n, hn⟩
  | 0, hn, _ => start m c ⟨0, hn⟩ rfl
  | n + 1, hn, h => step m c ⟨n, Nat.lt_of_succ_lt hn⟩ ⟨n + 1, hn⟩ rfl (after_at n (Nat.lt_of_succ_lt hn) (by omega)) h

/-- The rows a point stores, from the second on. -/
theorem out_row (t : Fin cfg0.N) (h : 1 ≤ t.val) (n : Fin 512) (k : Fin 1024) : (Hand.outsAt0 m c t.val t.isLt).1 (ix2 n k) = oddRow m c (512 * (t.val - 1) + n.val) k := by
  have hN := points t
  have I := after_at m c (t.val - 1) (Nat.lt_of_le_of_lt (Nat.sub_le _ _) t.isLt) (by omega)
  by_cases h' : t.val = 32
  · exact step_out_last m c _ t (by simp only; omega) I h' n k
  · exact step_out_mid m c _ t (by simp only; omega) I (by omega) n k

end Cert.Odd

end
-- ==== Proof.Odd.HostPool.lean ====
module

public import proofs.«01_k».proof.Proof.Odd.Row
public import proofs.«01_k».proof.Proof.Gen.Reference3Ideal.Run
public import Idealize.ShloMosaic.Lib.KernelVsHost

/-! The reference's pooled lanes: the sums of shifted arrays, the window means and their products. -/

@[expose] public section

set_option maxRecDepth 16384

noncomputable section

namespace Cert.OddRef

open Cert.Odd Cert.Reference3Ideal Cert.Reference3Ideal.Gen
open Idealize.ShloMosaic

/-! ## Window sums -/

/-- The rows of `x` moved down by `d`, zeros coming in. -/
def lag (d : ℕ) {M : ℕ} (hp : S8x2048x128.Pads ![0, d, 0] ![0, 0, 0] ![0, 0, 0] ⟨3, ![8, M, 128]⟩)
    (hs : (⟨3, ![8, M, 128]⟩ : Shape).Slices ![0, 0, 0] S8x2048x128) (x : FVec Ideal S8x2048x128 .f32) : FVec Ideal S8x2048x128 .f32 :=
  extractStridedSlice S8x2048x128 ![0, 0, 0] (pad ⟨3, ![8, M, 128]⟩ ![0, d, 0] ![0, 0, 0] ![0, 0, 0] x (sitofp .f32 (constantI S_ 32 0#32)) hp h_S_) hs

theorem lag_apply (d : ℕ) {M : ℕ} (hp : S8x2048x128.Pads ![0, d, 0] ![0, 0, 0] ![0, 0, 0] ⟨3, ![8, M, 128]⟩)
    (hs : (⟨3, ![8, M, 128]⟩ : Shape).Slices ![0, 0, 0] S8x2048x128) (x : FVec Ideal S8x2048x128 .f32) (b : Fin 8) (s : Fin 2048) (l : Fin 128) :
    lag d hp hs x (ix3 b s l) = if h : d ≤ s.val then x (ix3 b ⟨s.val - d, by omega⟩ l) else 0 := by
  have hM : s.val < M := by
    have e : (0 : ℕ) + 2048 ≤ M := hs.2 (1 : Fin 3)
    omega
  refine (extractStridedSlice_apply _ _ hs (ix3 b s l) (ix3 b (⟨s.val, hM⟩ : Fin M) l) (by
    intro a
    match a with
    | ⟨0, _⟩ => show b.val = 0 + b.val; omega
    | ⟨1, _⟩ => show s.val = 0 + s.val; omega
    | ⟨2, _⟩ => show l.val = 0 + l.val; omega)).trans ?_
  by_cases h : d ≤ s.val
  · rw [dif_pos h]
    exact pad_apply_of_inside _ _ _ x _ hp h_S_ _ (ix3 b (⟨s.val - d, by omega⟩ : Fin 2048) l) (by
      intro a
      match a with
      | ⟨0, _⟩ => show b.val = 0 + b.val * (0 + 1); omega
      | ⟨1, _⟩ => show s.val = d + (s.val - d) * (0 + 1); omega
      | ⟨2, _⟩ => show l.val = 0 + l.val * (0 + 1); omega)
  · rw [dif_neg h]
    refine (pad_apply_of_not_inside _ _ _ x _ hp h_S_ _ (1 : Fin 3) (by
      intro hin
      have e : d ≤ s.val := hin.1
      omega)).trans ?_
    show (((0#32 : BitVec 32).toInt : ℝ) : EReal) = 0
    simp

/-- The array `x` holds, for sequence `b`, the rows of `f`. -/
def Seq (b : Fin 8) (f : ℕ → Fin 128 → EReal) (x : FVec Ideal S8x2048x128 .f32) : Prop :=
  ∀ (s : Fin 2048) (l : Fin 128), x (ix3 b s l) = f s.val l

/-- The array `W` holds the windows of `d` rows of `f`. -/
def SeqWin (b : Fin 8) (f : ℕ → Fin 128 → EReal) (d : ℕ) (W : FVec Ideal S8x2048x128 .f32) : Prop :=
  ∀ (s : Fin 2048) (l : Fin 128), W (ix3 b s l) = win (fun s => f s l) d s.val

theorem win_one_more (f : ℕ → EReal) (d s : ℕ) : win f (d + 1) s = win f d s + if d ≤ s then f (s - d) else 0 :=
  Finset.sum_range_succ _ _

theorem first_window {b f x} (hx : Seq b f x) : SeqWin b f 1 x := fun s l => (hx s l).trans (win_one (fun s => f s l) s.val).symm

/-- A window one longer is the window and the rows moved down by its length. -/
theorem next_window {b f x} (hx : Seq b f x) (d : ℕ) {W} (hW : SeqWin b f d W) {M : ℕ} (hp : S8x2048x128.Pads ![0, d, 0] ![0, 0, 0] ![0, 0, 0] ⟨3, ![8, M, 128]⟩)
    (hs : (⟨3, ![8, M, 128]⟩ : Shape).Slices ![0, 0, 0] S8x2048x128) : SeqWin b f (d + 1) (addf W (lag d hp hs x)) := by
  intro s l
  rw [win_one_more]
  show W _ + lag d hp hs x _ = _
  rw [hW, lag_apply]
  congr 1
  split
  · exact hx _ l
  · rfl

/-- The sums of 2, 4, 8 and 16 shifted arrays. -/
def total2 (x : FVec Ideal S8x2048x128 .f32) : FVec Ideal S8x2048x128 .f32 :=
  addf x (lag 1 pads_S8x2048x128_S8x2049x128_000_100_000 slices_S8x2049x128_S8x2048x128_0_0_0 x)
def total4 (x : FVec Ideal S8x2048x128 .f32) : FVec Ideal S8x2048x128 .f32 :=
  addf (addf (total2 x) (lag 2 pads_S8x2048x128_S8x2050x128_000_200_000 slices_S8x2050x128_S8x2048x128_0_0_0 x))
    (lag 3 pads_S8x2048x128_S8x2051x128_000_300_000 slices_S8x2051x128_S8x2048x128_0_0_0 x)
def total8 (x : FVec Ideal S8x2048x128 .f32) : FVec Ideal S8x2048x128 .f32 :=
  addf (addf (addf (addf (total4 x) (lag 4 pads_S8x2048x128_S8x2052x128_000_400_000 slices_S8x2052x128_S8x2048x128_0_0_0 x))
    (lag 5 pads_S8x2048x128_S8x2053x128_000_500_000 slices_S8x2053x128_S8x2048x128_0_0_0 x))
    (lag 6 pads_S8x2048x128_S8x2054x128_000_600_000 slices_S8x2054x128_S8x2048x128_0_0_0 x))
    (lag 7 pads_S8x2048x128_S8x2055x128_000_700_000 slices_S8x2055x128_S8x2048x128_0_0_0 x)
def total12 (x : FVec Ideal S8x2048x128 .f32) : FVec Ideal S8x2048x128 .f32 :=
  addf (addf (addf (addf (total8 x) (lag 8 pads_S8x2048x128_S8x2056x128_000_800_000 slices_S8x2056x128_S8x2048x128_0_0_0 x))
    (lag 9 pads_S8x2048x128_S8x2057x128_000_900_000 slices_S8x2057x128_S8x2048x128_0_0_0 x))
    (lag 10 pads_S8x2048x128_S8x2058x128_000_1000_000 slices_S8x2058x128_S8x2048x128_0_0_0 x))
    (lag 11 pads_S8x2048x128_S8x2059x128_000_1100_000 slices_S8x2059x128_S8x2048x128_0_0_0 x)
def total16 (x : FVec Ideal S8x2048x128 .f32) : FVec Ideal S8x2048x128 .f32 :=
  addf (addf (addf (addf (total12 x) (lag 12 pads_S8x2048x128_S8x2060x128_000_1200_000 slices_S8x2060x128_S8x2048x128_0_0_0 x))
    (lag 13 pads_S8x2048x128_S8x2061x128_000_1300_000 slices_S8x2061x128_S8x2048x128_0_0_0 x))
    (lag 14 pads_S8x2048x128_S8x2062x128_000_1400_000 slices_S8x2062x128_S8x2048x128_0_0_0 x))
    (lag 15 pads_S8x2048x128_S8x2063x128_000_1500_000 slices_S8x2063x128_S8x2048x128_0_0_0 x)

section Totals

variable {b : Fin 8} {f : ℕ → Fin 128 → EReal} {x : FVec Ideal S8x2048x128 .f32} (hx : Seq b f x)

include hx

theorem total2_win : SeqWin b f 2 (total2 x) := next_window hx 1 (first_window hx) _ _
theorem total4_win : SeqWin b f 4 (total4 x) := next_window hx 3 (next_window hx 2 (total2_win hx) _ _) _ _
theorem total8_win : SeqWin b f 8 (total8 x) :=
  next_window hx 7 (next_window hx 6 (next_window hx 5 (next_window hx 4 (total4_win hx) _ _) _ _) _ _) _ _
theorem total12_win : SeqWin b f 12 (total12 x) :=
  next_window hx 11 (next_window hx 10 (next_window hx 9 (next_window hx 8 (total8_win hx) _ _) _ _) _ _) _ _
theorem total16_win : SeqWin b f 16 (total16 x) :=
  next_window hx 15 (next_window hx 14 (next_window hx 13 (next_window hx 12 (total12_win hx) _ _) _ _) _ _) _ _

end Totals

/-! ## Means and products -/

/-- The counts of rows up to each position. -/
def counts : FVec Ideal S2048 .f32 := sitofp .f32 (addi (iotaInDim S2048 32 0) (broadcastInDim S2048 ![] bcast_S_S2048 (constantI S_ 32 1#32)))

theorem counts_apply (s : Fin 2048) : counts (ix1 s) = (((s.val + 1 : ℕ) : ℝ) : EReal) := by
  unfold counts; pointwise
  show (((_ : BitVec 32).toInt : ℝ) : EReal) = _
  have e : IntOp.addi (BitVec.ofNat 32 s.val) 1#32 = BitVec.ofNat 32 (s.val + 1) := by
    unfold IntOp.addi
    apply BitVec.eq_of_toNat_eq
    simp only [BitVec.toNat_add, BitVec.toNat_ofNat]
    omega
  have i : (BitVec.ofNat 32 (s.val + 1)).toInt = ((s.val + 1 : ℕ) : ℤ) := by
    rw [BitVec.toInt_eq_toNat_cond, BitVec.toNat_ofNat]
    split <;> omega
  rw [e, i, Int.cast_natCast]

/-- The window means less the values; `word` is the window's length. -/
def means (word : BitVec 32) (W x : FVec Ideal S8x2048x128 .f32) : FVec Ideal S8x2048x128 .f32 :=
  subf (Host.divf W (broadcastInDim S8x2048x128 ![0, 1, 2] bcast_S1x2048x1_S8x2048x128_0_1_2 (broadcastInDim S1x2048x1 ![1] bcast_S2048_S1x2048x1_1
    (minimumf counts (broadcastInDim S2048 ![] bcast_S_S2048 (constant S_ .f32 word)))))) x

theorem means_apply {b f d W x} (hW : SeqWin b f d W) (hx : Seq b f x) (word) (s : Fin 2048) (l : Fin 128) :
    means word W x (ix3 b s l) = mean (fun s => f s l) d word s.val := by
  unfold means mean; pointwise
  rw [hW, hx, counts_apply]

/-- Group `g` of the pooling weights, and a group's product with them. -/
def weight (g : ℕ) (hs : S4x128x128.Slices ![g, 0, 0] S1x128x128) (w : FVec Ideal S1x4x128x128 .f32) : FVec Ideal S128x128 .f32 :=
  shapeCast _ (extractStridedSlice S1x128x128 ![g, 0, 0] (shapeCast _ w shapeCasts_S1x4x128x128_S4x128x128 : FVec Ideal S4x128x128 .f32) hs) shapeCasts_S1x128x128_S128x128

def product (x : FVec Ideal S8x2048x128 .f32) (w : FVec Ideal S128x128 .f32) : FVec Ideal S8x2048x128 .f32 :=
  Host.dotGeneral dot_S8x2048x128_S128x128_S8x2048x128_2_0_01_1_n_n none x w

theorem product_apply (x w) (b : Fin 8) (s : Fin 2048) (l : Fin 128) : product x w (ix3 b s l) = ∑ q : Fin 128, x (ix3 b s q) * w (ix2 q l) := by
  unfold product; pointwise

theorem weight0_apply (w) (q l : Fin 128) : weight 0 slices_S4x128x128_S1x128x128_0_0_0 w (ix2 q l) = w (ix4 0 0 q l) := by unfold weight; pointwise
theorem weight1_apply (w) (q l : Fin 128) : weight 1 slices_S4x128x128_S1x128x128_1_0_0 w (ix2 q l) = w (ix4 0 1 q l) := by unfold weight; pointwise
theorem weight2_apply (w) (q l : Fin 128) : weight 2 slices_S4x128x128_S1x128x128_2_0_0 w (ix2 q l) = w (ix4 0 2 q l) := by unfold weight; pointwise
theorem weight3_apply (w) (q l : Fin 128) : weight 3 slices_S4x128x128_S1x128x128_3_0_0 w (ix2 q l) = w (ix4 0 3 q l) := by unfold weight; pointwise

/-- The lanes of pooling group `g`. -/
def group (g : ℕ) (hs : S8x2048x4x128.Slices ![0, 0, g, 0] S8x2048x1x128) (z : FVec Ideal S8x2048x1536 .f32) : FVec Ideal S8x2048x128 .f32 :=
  shapeCast _ (extractStridedSlice S8x2048x1x128 ![0, 0, g, 0]
    (shapeCast _ (extractStridedSlice S8x2048x512 ![0, 0, 0] z slices_S8x2048x1536_S8x2048x512_0_0_0) shapeCasts_S8x2048x512_S8x2048x4x128 : FVec Ideal S8x2048x4x128 .f32) hs)
    shapeCasts_S8x2048x1x128_S8x2048x128

theorem group0_apply (z) (b : Fin 8) (s : Fin 2048) (l : Fin 128) : group 0 slices_S8x2048x4x128_S8x2048x1x128_0_0_0_0 z (ix3 b s l) = z (ix3 b s ⟨0 * 128 + l.val, by omega⟩) := by
  unfold group; pointwise
theorem group1_apply (z) (b : Fin 8) (s : Fin 2048) (l : Fin 128) : group 1 slices_S8x2048x4x128_S8x2048x1x128_0_0_1_0 z (ix3 b s l) = z (ix3 b s ⟨1 * 128 + l.val, by omega⟩) := by
  unfold group; pointwise
theorem group2_apply (z) (b : Fin 8) (s : Fin 2048) (l : Fin 128) : group 2 slices_S8x2048x4x128_S8x2048x1x128_0_0_2_0 z (ix3 b s l) = z (ix3 b s ⟨2 * 128 + l.val, by omega⟩) := by
  unfold group; pointwise
theorem group3_apply (z) (b : Fin 8) (s : Fin 2048) (l : Fin 128) : group 3 slices_S8x2048x4x128_S8x2048x1x128_0_0_3_0 z (ix3 b s l) = z (ix3 b s ⟨3 * 128 + l.val, by omega⟩) := by
  unfold group; pointwise

/-- The four groups' products side by side, scaled. -/
def lanes (p0 p1 p2 p3 : FVec Ideal S8x2048x128 .f32) (scale : FVec Ideal S1x512 .f32) : FVec Ideal S8x2048x512 .f32 :=
  mulf (concatenate S8x2048x512 2 [⟨S8x2048x128, p0⟩, ⟨S8x2048x128, p1⟩, ⟨S8x2048x128, p2⟩, ⟨S8x2048x128, p3⟩]
      concatenates_S8x2048x128_S8x2048x128_S8x2048x128_S8x2048x128_S8x2048x512_d2)
    (broadcastInDim S8x2048x512 ![0, 1, 2] bcast_S1x1x512_S8x2048x512_0_1_2 (broadcastInDim S1x1x512 ![2] bcast_S512_S1x1x512_2
      (shapeCast _ scale shapeCasts_S1x512_S512)))

theorem lanes_apply (p0 p1 p2 p3) (scale) (b : Fin 8) (s : Fin 2048) (g : Fin 4) (c : Fin 128) :
    lanes p0 p1 p2 p3 scale (ix3 b s ⟨g.val * 128 + c.val, by omega⟩) =
      (match g with | 0 => p0 (ix3 b s c) | 1 => p1 (ix3 b s c) | 2 => p2 (ix3 b s c) | 3 => p3 (ix3 b s c)) * scale (ix2 0 ⟨g.val * 128 + c.val, by omega⟩) := by
  unfold lanes; pointwise
  match g with
  | 0 => rw [dif_pos (by show 0 * 128 + c.val < 128; omega)]; congr 3; ext; show 0 * 128 + c.val = _; omega
  | 1 => rw [dif_neg (by show ¬ 1 * 128 + c.val < 128; omega), dif_pos (by show 1 * 128 + c.val - 128 < 128; omega)]; congr 3; ext; show 1 * 128 + c.val - 128 = _; omega
  | 2 => rw [dif_neg (by show ¬ 2 * 128 + c.val < 128; omega), dif_neg (by show ¬ 2 * 128 + c.val - 128 < 128; omega), dif_pos (by show 2 * 128 + c.val - 128 - 128 < 128; omega)]
         congr 3; ext; show 2 * 128 + c.val - 128 - 128 = _; omega
  | 3 => rw [dif_neg (by show ¬ 3 * 128 + c.val < 128; omega), dif_neg (by show ¬ 3 * 128 + c.val - 128 < 128; omega), dif_neg (by show ¬ 3 * 128 + c.val - 128 - 128 < 128; omega)]
         congr 3; ext; show 3 * 128 + c.val - 128 - 128 - 128 = _; omega

/-- The pooled lanes. -/
def pool (z : FVec Ideal S8x2048x1536 .f32) (w : FVec Ideal S1x4x128x128 .f32) (scale : FVec Ideal S1x512 .f32) : FVec Ideal S8x2048x512 .f32 :=
  lanes (product (means 0x40000000#32 (total2 (group 0 slices_S8x2048x4x128_S8x2048x1x128_0_0_0_0 z)) (group 0 slices_S8x2048x4x128_S8x2048x1x128_0_0_0_0 z)) (weight 0 slices_S4x128x128_S1x128x128_0_0_0 w))
    (product (means 0x40800000#32 (total4 (group 1 slices_S8x2048x4x128_S8x2048x1x128_0_0_1_0 z)) (group 1 slices_S8x2048x4x128_S8x2048x1x128_0_0_1_0 z)) (weight 1 slices_S4x128x128_S1x128x128_1_0_0 w))
    (product (means 0x41000000#32 (total8 (group 2 slices_S8x2048x4x128_S8x2048x1x128_0_0_2_0 z)) (group 2 slices_S8x2048x4x128_S8x2048x1x128_0_0_2_0 z)) (weight 2 slices_S4x128x128_S1x128x128_2_0_0 w))
    (product (means 0x41800000#32 (total16 (group 3 slices_S8x2048x4x128_S8x2048x1x128_0_0_3_0 z)) (group 3 slices_S8x2048x4x128_S8x2048x1x128_0_0_3_0 z)) (weight 3 slices_S4x128x128_S1x128x128_3_0_0 w))
    scale

/-- A pooled lane by its group. -/
theorem pooled_at (z : ℕ → Fin 1536 → EReal) (w : Fin 4 → Fin 128 → Fin 128 → EReal) (scale : Fin 512 → EReal) (s : ℕ) (g : Fin 4) (c : Fin 128) :
    pooled z w scale s ⟨g.val * 128 + c.val, by omega⟩
      = (∑ q : Fin 128, groupMean g (fun s => z s ⟨g.val * 128 + q.val, by omega⟩) s * w g q c) * scale ⟨g.val * 128 + c.val, by omega⟩ := by
  have hd : (g.val * 128 + c.val) / 128 = g.val := by omega
  unfold pooled
  refine congrArg (· * scale ⟨g.val * 128 + c.val, by omega⟩) (Finset.sum_congr rfl fun q _ => congrArg₂ (· * ·) ?_ ?_)
  · have e : (⟨(g.val * 128 + c.val) / 128, by omega⟩ : Fin 4) = g := Fin.ext hd
    have e' : (fun s => z s ⟨(g.val * 128 + c.val) / 128 * 128 + q.val, by omega⟩) = fun s => z s ⟨g.val * 128 + q.val, by omega⟩ :=
      funext fun s => congrArg (z s) (Fin.ext (by simp only [hd]))
    exact congrArg₂ (fun g f => groupMean g f s) e e'
  · have e : (⟨(g.val * 128 + c.val) / 128, by omega⟩ : Fin 4) = g := Fin.ext hd
    have e' : (⟨(g.val * 128 + c.val) % 128, by omega⟩ : Fin 128) = c := Fin.ext (by simp only; omega)
    exact congrArg₂ (fun g c => w g q c) e e'

theorem pool_apply {z : FVec Ideal S8x2048x1536 .f32} {b : Fin 8} {Z : ℕ → Fin 1536 → EReal} (hz : ∀ (s : Fin 2048) (l : Fin 1536), z (ix3 b s l) = Z s.val l)
    (w scale) (s : Fin 2048) (g : Fin 4) (c : Fin 128) :
    pool z w scale (ix3 b s ⟨g.val * 128 + c.val, by omega⟩)
      = pooled Z (fun g q l => w (ix4 0 g q l)) (fun k => scale (ix2 0 k)) s.val ⟨g.val * 128 + c.val, by omega⟩ := by
  rw [pooled_at]
  unfold pool
  rw [lanes_apply]
  refine congrArg (· * scale (ix2 0 ⟨g.val * 128 + c.val, by omega⟩)) ?_
  have h0 : Seq b (fun s l => Z s ⟨0 * 128 + l.val, by omega⟩) (group 0 slices_S8x2048x4x128_S8x2048x1x128_0_0_0_0 z) := fun s l => (group0_apply z b s l).trans (hz s _)
  have h1 : Seq b (fun s l => Z s ⟨1 * 128 + l.val, by omega⟩) (group 1 slices_S8x2048x4x128_S8x2048x1x128_0_0_1_0 z) := fun s l => (group1_apply z b s l).trans (hz s _)
  have h2 : Seq b (fun s l => Z s ⟨2 * 128 + l.val, by omega⟩) (group 2 slices_S8x2048x4x128_S8x2048x1x128_0_0_2_0 z) := fun s l => (group2_apply z b s l).trans (hz s _)
  have h3 : Seq b (fun s l => Z s ⟨3 * 128 + l.val, by omega⟩) (group 3 slices_S8x2048x4x128_S8x2048x1x128_0_0_3_0 z) := fun s l => (group3_apply z b s l).trans (hz s _)
  match g with
  | 0 => exact (product_apply _ _ b s c).trans (Finset.sum_congr rfl fun q _ => congrArg₂ (· * ·) (means_apply (total2_win h0) h0 _ s q) (weight0_apply w q c))
  | 1 => exact (product_apply _ _ b s c).trans (Finset.sum_congr rfl fun q _ => congrArg₂ (· * ·) (means_apply (total4_win h1) h1 _ s q) (weight1_apply w q c))
  | 2 => exact (product_apply _ _ b s c).trans (Finset.sum_congr rfl fun q _ => congrArg₂ (· * ·) (means_apply (total8_win h2) h2 _ s q) (weight2_apply w q c))
  | 3 => exact (product_apply _ _ b s c).trans (Finset.sum_congr rfl fun q _ => congrArg₂ (· * ·) (means_apply (total16_win h3) h3 _ s q) (weight3_apply w q c))

end Cert.OddRef

end
-- ==== Proof.Odd.HostGate.lean ====
module

public import proofs.«01_k».proof.Proof.Odd.Row
public import proofs.«01_k».proof.Proof.Gen.Reference3Ideal.Run

/-! The reference's gated lanes: the causal weights, their product with the normed lanes by heads, and the gate. -/

@[expose] public section

set_option maxRecDepth 16384

noncomputable section

namespace Cert.OddRef

open Cert.Odd Cert.Reference3Ideal Cert.Reference3Ideal.Gen
open Idealize.ShloMosaic

/-- The chunk of 64 each row of a block lies in. -/
def chunks : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

theorem chunks_apply (q : Fin 128) : chunks (ix1 q) = BitVec.ofNat 32 (q.val / 64) := by
  unfold chunks; pointwise
  revert q
  decide +kernel

theorem sle_chunk : ∀ a b : Fin 2, IntOp.cmpi CmpIPredicate.sle (BitVec.ofNat 32 a.val) (BitVec.ofNat 32 b.val) = if a.val ≤ b.val then 1#1 else 0#1 := by
  decide

/-- The weights, zero past the end of a row's chunk. -/
def weights (w : FVec Ideal S1x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
      (cmpi .sle (broadcastInDim S128x128 ![0, 1] bcast_S1x128_S128x128_0_1 (broadcastInDim S1x128 ![1] bcast_S128_S1x128_1 chunks))
        (broadcastInDim S128x128 ![0, 1] bcast_S128x1_S128x128_0_1 (broadcastInDim S128x1 ![0] bcast_S128_S128x1_0 chunks)))))
    (shapeCast _ w shapeCasts_S1x8x128x128_S8x128x128) (broadcastInDim S8x128x128 ![] bcast_S_S8x128x128 (id (constant S_ .f32 0x00000000#32)))

theorem weights_apply (w) (h : Fin 8) (t q : Fin 128) : weights w (ix3 h t q) = if q.val / 64 ≤ t.val / 64 then w (ix4 0 h t q) else 0 := by
  unfold weights; pointwise
  rw [chunks_apply, chunks_apply, sle_chunk ⟨q.val / 64, by omega⟩ ⟨t.val / 64, by omega⟩]
  split
  · rfl
  · show (constant S_ .f32 0#32 : FVec Ideal S_ .f32) ix0 = 0
    pointwise

/-- The normed lanes. -/
def laneNorm (v : FVec Ideal S8x2048x512 .f32) (g : FVec Ideal S1x512 .f32) : FVec Ideal S8x2048x512 .f32 :=
  mulf (mulf v (broadcastInDim S8x2048x512 ![0, 1, 2] bcast_S8x2048x1_S8x2048x512_0_1_2 (Host.rsqrt (addf (Host.divf (broadcastInDim S8x2048x1 ![0, 1] bcast_S8x2048_S8x2048x1_0_1
        (Host.reduceAdd (mulf v v) (constant S_ .f32 0x00000000#32) reducesTo_S8x2048x512_S8x2048_d2 h_S_))
      (broadcastInDim S8x2048x1 ![] bcast_S_S8x2048x1 (constant S_ .f32 0x44000000#32))) (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 (shapeCast _ g shapeCasts_S1x512_S512)))

theorem laneNorm_apply (v g) (b : Fin 8) (s : Fin 2048) (k : Fin 512) :
    laneNorm v g (ix3 b s k) = rms 0x44000000#32 (fun q => v (ix3 b s q)) (fun q => g (ix2 0 q)) k := by
  unfold laneNorm rms; pointwise

/-- The gate of the normed lanes: block by block of 128 rows, head by head of 64 lanes. -/
def hostGate (v : FVec Ideal S8x2048x512 .f32) (w : FVec Ideal S1x8x128x128 .f32) (b : FVec Ideal S1x8x128 .f32) : FVec Ideal S8x2048x512 .f32 :=
  shapeCast _ (addf (transpose S8x16x128x8x64 [1, 2, 4, 0, 3]
        (Host.dotGeneral dot_S8x16x128x8x64_S8x128x128_S8x8x16x64x128_2_2_014_1_3_0 none
          (shapeCast _ v shapeCasts_S8x2048x512_S8x16x128x8x64 : FVec Ideal S8x16x128x8x64 .f32) (weights w)) transposes_S8x8x16x64x128_S8x16x128x8x64_1_2_4_0_3)
      (broadcastInDim S8x16x128x8x64 ![0, 1, 2, 3, 4] bcast_S1x1x128x8x1_S8x16x128x8x64_0_1_2_3_4 (broadcastInDim S1x1x128x8x1 ![2, 3, 4] bcast_S128x8x1_S1x1x128x8x1_2_3_4
        (broadcastInDim S128x8x1 ![0, 1] bcast_S128x8_S128x8x1_0_1 (transpose S128x8 [1, 0] (shapeCast _ b shapeCasts_S1x8x128_S8x128 : FVec Ideal S8x128 .f32) transposes_S8x128_S128x8_1_0)))))
    shapeCasts_S8x16x128x8x64_S8x2048x512

theorem hostGate_apply (v w b) (i : Fin 8) (s : Fin 2048) (k : Fin 512) :
    hostGate v w b (ix3 i s k)
      = gate (fun q c => v (ix3 i ⟨s.val / 128 * 128 + q.val, by omega⟩ c)) (fun h t q => w (ix4 0 h t q)) (fun t c => b (ix3 0 ⟨c.val / 64, by omega⟩ t))
          ⟨s.val % 128, by omega⟩ k := by
  unfold hostGate gate; pointwise
  refine congrArg (· + b (ix3 0 ⟨k.val / 64, by omega⟩ ⟨s.val % 128, by omega⟩)) (Finset.sum_congr rfl fun q _ => ?_)
  rw [weights_apply, mul_comm]

end Cert.OddRef

end
-- ==== Proof.Odd.Reference.lean ====
module

public import proofs.«01_k».proof.Proof.Odd.HostPool
public import proofs.«01_k».proof.Proof.Odd.HostGate

/-! The reference's result at an index: the row of the odd mixer. -/

@[expose] public section

set_option maxRecDepth 16384

noncomputable section

namespace Cert.OddRef

open Cert.Odd Cert.Reference3Ideal Cert.Reference3Ideal.Gen
open Idealize.ShloMosaic Idealize.ShloMosaic.TcCoe

/-- The RMS norm of the tokens' rows. -/
def hostNorm (x : FVec Ideal S8x2048x1024 .f32) (g : FVec Ideal S2x1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2
        (shapeCast _ (extractStridedSlice S1x1024 ![1, 0] g slices_S2x1024_S1x1024_1_0) shapeCasts_S1x1024_S1024)))

theorem hostNorm_apply (x g) (b : Fin 8) (s : Fin 2048) (k : Fin 1024) :
    hostNorm x g (ix3 b s k) = rms 0x44800000#32 (fun q => x (ix3 b s q)) (fun q => g (ix2 1 q)) k := by
  unfold hostNorm rms; pointwise

/-- The product with the in weight. -/
def hostIn (y : FVec Ideal S8x2048x1024 .f32) (w : FVec Ideal S1x1024x1536 .f32) : FVec Ideal S8x2048x1536 .f32 :=
  Host.dotGeneral dot_S8x2048x1024_S1024x1536_S8x2048x1536_2_0_01_1_n_n none y (shapeCast _ w shapeCasts_S1x1024x1536_S1024x1536)

theorem hostIn_apply (y w) (b : Fin 8) (s : Fin 2048) (l : Fin 1536) : hostIn y w (ix3 b s l) = ∑ q, y (ix3 b s q) * w (ix3 0 q l) := by
  unfold hostIn; pointwise

/-- The gated lanes. -/
def hostGated (z : FVec Ideal S8x2048x1536 .f32) (g : FVec Ideal S1x512 .f32) (w : FVec Ideal S1x8x128x128 .f32) (b : FVec Ideal S1x8x128 .f32) : FVec Ideal S8x2048x512 .f32 :=
  mulf (extractStridedSlice S8x2048x512 ![0, 0, 512] z slices_S8x2048x1536_S8x2048x512_0_0_512)
    (hostGate (laneNorm (extractStridedSlice S8x2048x512 ![0, 0, 1024] z slices_S8x2048x1536_S8x2048x512_0_0_1024) g) w b)

theorem hostGated_apply {z : FVec Ideal S8x2048x1536 .f32} {i : Fin 8} {Z : ℕ → Fin 1536 → EReal} (hz : ∀ (s : Fin 2048) (l : Fin 1536), z (ix3 i s l) = Z s.val l)
    (g w b) (s : Fin 2048) (k : Fin 512) :
    hostGated z g w b (ix3 i s k)
      = gated Z (fun k => g (ix2 0 k)) (fun h t q => w (ix4 0 h t q)) (fun t c => b (ix3 0 ⟨c.val / 64, by omega⟩ t)) s.val k := by
  unfold hostGated gated; pointwise
  rw [hz, hostGate_apply]
  refine congrArg (_ * ·) (congrArg (fun v => gate v _ _ _ k) (funext fun q => funext fun c => ?_))
  rw [laneNorm_apply]
  refine congrArg (fun x => rms _ x _ c) (funext fun p => ?_)
  pointwise
  exact hz _ _

/-- The mixed lanes and their product with the out weight. -/
def hostMixed (z : FVec Ideal S8x2048x1536 .f32) (pw : FVec Ideal S1x4x128x128 .f32) (ps g : FVec Ideal S1x512 .f32) (w : FVec Ideal S1x8x128x128 .f32)
    (b : FVec Ideal S1x8x128 .f32) : FVec Ideal S8x2048x1024 .f32 :=
  concatenate S8x2048x1024 2 [⟨S8x2048x512, pool z pw ps⟩, ⟨S8x2048x512, hostGated z g w b⟩] concatenates_S8x2048x512_S8x2048x512_S8x2048x1024_d2

theorem hostMixed_apply {z : FVec Ideal S8x2048x1536 .f32} {i : Fin 8} {Z : ℕ → Fin 1536 → EReal} (hz : ∀ (s : Fin 2048) (l : Fin 1536), z (ix3 i s l) = Z s.val l)
    (pw ps g w b) (s : Fin 2048) (k : Fin 1024) :
    hostMixed z pw ps g w b (ix3 i s k)
      = mixed Z (fun g q l => pw (ix4 0 g q l)) (fun k => ps (ix2 0 k)) (fun k => g (ix2 0 k)) (fun h t q => w (ix4 0 h t q))
          (fun t c => b (ix3 0 ⟨c.val / 64, by omega⟩ t)) s.val k := by
  unfold hostMixed mixed; pointwise
  by_cases h : k.val < 512
  · rw [dif_pos h, dif_pos h]
    have e : (⟨k.val, h⟩ : Fin 512) = ⟨(⟨k.val / 128, by omega⟩ : Fin 4).val * 128 + (⟨k.val % 128, by omega⟩ : Fin 128).val, by simp only; omega⟩ := Fin.ext (by simp only; omega)
    rw [e]
    exact pool_apply hz pw ps s ⟨k.val / 128, by omega⟩ ⟨k.val % 128, by omega⟩
  · rw [dif_neg h, dif_neg h]
    exact hostGated_apply hz g w b s _

def hostOut (y : FVec Ideal S8x2048x1024 .f32) (w : FVec Ideal S1x1024x1024 .f32) : FVec Ideal S8x2048x1024 .f32 :=
  Host.dotGeneral dot_S8x2048x1024_S1024x1024_S8x2048x1024_2_0_01_1_n_n none y (shapeCast _ w shapeCasts_S1x1024x1024_S1024x1024)

theorem hostOut_apply (y w) (b : Fin 8) (s : Fin 2048) (k : Fin 1024) : hostOut y w (ix3 b s k) = ∑ q, y (ix3 b s q) * w (ix3 0 q k) := by
  unfold hostOut; pointwise

/-- The whole reference by its stages. -/
def hostOdd (h : FVec Ideal S8x2048x1024 .f32) (wi : FVec Ideal S1x1024x1536 .f32) (pw : FVec Ideal S1x4x128x128 .f32) (ps g : FVec Ideal S1x512 .f32)
    (w : FVec Ideal S1x8x128x128 .f32) (b : FVec Ideal S1x8x128 .f32) (wo : FVec Ideal S1x1024x1024 .f32) (g₁ g₂ : FVec Ideal S2x1024 .f32) : FVec Ideal S16384x1024 .f32 :=
  shapeCast _ (addf h (hostNorm (hostOut (hostMixed (hostIn (hostNorm h g₁) wi) pw ps g w b) wo) g₂)) shapeCasts_S8x2048x1024_S16384x1024

theorem hostOdd_apply (h wi pw ps g w b wo g₁ g₂) (r : Fin 16384) (k : Fin 1024) {Z : ℕ → Fin 1536 → EReal}
    (hz : ∀ (s : Fin 2048) (l : Fin 1536), ∑ q, rms 0x44800000#32 (fun q => h (ix3 ⟨r.val / 2048, by omega⟩ s q)) (fun q => g₁ (ix2 1 q)) q * wi (ix3 0 q l) = Z s.val l) :
    hostOdd h wi pw ps g w b wo g₁ g₂ (ix2 r k)
      = h (ix3 ⟨r.val / 2048, by omega⟩ ⟨r.val % 2048, by omega⟩ k)
        + rms 0x44800000#32 (fun k => ∑ q, mixed Z (fun g q l => pw (ix4 0 g q l)) (fun k => ps (ix2 0 k)) (fun k => g (ix2 0 k)) (fun h t q => w (ix4 0 h t q))
            (fun t c => b (ix3 0 ⟨c.val / 64, by omega⟩ t)) (r.val % 2048) q * wo (ix3 0 q k)) (fun q => g₂ (ix2 1 q)) k := by
  unfold hostOdd
  pointwise
  rw [hostNorm_apply]
  refine congrArg (_ + ·) (congrArg (fun x => rms _ x _ k) (funext fun k => ?_))
  rw [hostOut_apply]
  refine Finset.sum_congr rfl fun q _ => congrArg (· * _) ?_
  refine hostMixed_apply (fun s l => ?_) pw ps g w b _ q
  rw [hostIn_apply, ← hz]
  exact Finset.sum_congr rfl fun q _ => congrArg (· * _) (hostNorm_apply h g₁ _ s q)

end Cert.OddRef

end
-- ==== Proof.Odd.Final.lean ====
module

public import proofs.«01_k».proof.Proof.Odd.State
public import proofs.«01_k».proof.Proof.Odd.Reference

/-! The result array after the run, and the reference's result as the same array. -/

@[expose] public section

set_option maxRecDepth 16384

noncomputable section

namespace Cert.Odd

open Cert.Kernel3Ideal Cert.Kernel3Ideal.Gen
open Idealize.ShloMosaic Idealize.ShloMosaic.TcCoe

variable (m : (ℓ : Loc nD τ sig) → Buf (Elt Ideal) ℓ) (c : Dev nD)

/-- The odd mixer's result. -/
def odd : FVec Ideal S16384x1024 .f32 := fun i => oddRow m c (i 0).val (i 1)

/-! ## The run's result -/

/-- Every point but the first stores its block. -/
theorem flush_14 : ∀ t : Fin cfg0.N, (cfg0.win 14).flush t = true ↔ 1 ≤ t.val :=
  (by decide +kernel : ∀ t : Fin grid0.N, (cfg0.win 14).flush t = true ↔ 1 ≤ t.val)

theorem flushed_eq (t : Fin cfg0.N) (h : (cfg0.win 14).flush t = true) :
    (Hand.dats m 0 c).flushed 14 t = ((cfg0.win 14).blk t).view.read (Elt Ideal) (odd m c) := by
  show (cfg0.win 14).cut (grid0.coords t) ((Hand.dats m 0 c).after 14 t) = _
  rw [Hand.after0_14]
  refine funext fun (j : S512x1024.Idx) => ?_
  idx_vars j
  refine Eq.trans ?_ (congrArg (odd m c) (emb_14 t j0 j1).symm)
  exact out_row m c t ((flush_14 t).mp h) j0 j1

/-- Every row is in the block of the point that stores it. -/
theorem covered (i : S16384x1024.Idx) : ∃ t : Fin cfg0.N, (cfg0.win 14).flush t = true ∧ i ∈ ((cfg0.win 14).blk t).view.set := by
  idx_vars i
  refine ⟨⟨i0.val / 512 + 1, by show _ < 33; omega⟩, (flush_14 _).mpr (by show 1 ≤ i0.val / 512 + 1; omega), ?_⟩
  have h := ((cfg0.win 14).blk (⟨i0.val / 512 + 1, by show _ < 33; omega⟩ : Fin cfg0.N)).view.emb_mem_set (ix2 ⟨i0.val % 512, by omega⟩ i1)
  rw [emb_14] at h
  have e : (⟨512 * (i0.val / 512 + 1 - 1) + i0.val % 512, by omega⟩ : Fin 16384) = i0 := Fin.ext (by simp only; omega)
  rwa [e] at h

/-- The result array after the run. -/
theorem final : (Hand.dats m 0 c).arrAt 14 cfg0.N = odd m c :=
  (Hand.dats m 0 c).arrAt_eq_of_cover 14 (odd m c) (fun t h => flushed_eq m c t h) covered

/-! ## The reference's result -/

theorem tok_at (b : Fin 8) (s : Fin 2048) (k : Fin 1024) : tok m c (2048 * b.val + s.val) k = m ((c : Thread nD τ).loc main_arg0) (ix3 b s k) := by
  unfold tok
  rw [dif_pos (by omega)]
  have e : (⟨(2048 * b.val + s.val) / 2048, by omega⟩ : Fin 8) = b := Fin.ext (by simp only; omega)
  have e' : (⟨(2048 * b.val + s.val) % 2048, by omega⟩ : Fin 2048) = s := Fin.ext (by simp only; omega)
  rw [e, e']

theorem reference_eq : OddRef.hostOdd (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) = odd m c := by
  refine funext fun (j : S16384x1024.Idx) => ?_
  idx_vars j
  refine (OddRef.hostOdd_apply _ _ _ _ _ _ _ _ _ _ j0 j1 (Z := zOf m c (j0.val / 2048)) (fun s l => ?_)).trans ?_
  · exact Finset.sum_congr rfl fun q _ => congrArg (· * win3 m c q l)
      (congrArg (fun x => rms _ x (gpre m c) q) (funext fun p => (tok_at m c ⟨j0.val / 2048, by omega⟩ s p).symm))
  · show _ = tok m c j0.val j1 + _
    refine congrArg₂ (· + ·) ?_ rfl
    unfold tok
    rw [dif_pos j0.isLt]

end Cert.Odd

end
-- ==== Proof.Odd.Weights.lean ====
module

public import proofs.«01_k».proof.Proof.Odd.State

/-! The rounded copies of the feed-forward weights that the odd mixer's call makes on the side: each point copies one
block of layer 1 of each stack, and the blocks cover the arrays. -/

@[expose] public section

set_option maxRecDepth 16384

noncomputable section

namespace Cert.Odd

open Cert.Kernel3Ideal Cert.Kernel3Ideal.Gen
open Idealize.ShloMosaic Idealize.ShloMosaic.TcCoe

/-- Layer 1 of a stack of two matrices, rounded: over the reals, its own entries. -/
def layer1 {A B : ℕ} (w : FVec Ideal ⟨3, ![2, A, B]⟩ .f32) : FVec Ideal ⟨2, ![A, B]⟩ .bf16 := fun i => w (ix3 1 (i 0) (i 1))

/-! ## One block -/

theorem round_gate (x) (r : Fin 32) (k : Fin 2816) : k0_pay2 (F := Ideal) x (ix2 r k) = x (ix3 0 r k) := by
  unfold k0_pay2; pointwise
theorem round_up (x) (r : Fin 32) (k : Fin 2816) : k0_pay3 (F := Ideal) x (ix2 r k) = x (ix3 0 r k) := by
  unfold k0_pay3; pointwise
theorem round_down (x) (r : Fin 128) (k : Fin 1024) : k0_pay4 (F := Ideal) x (ix2 r k) = x (ix3 0 r k) := by
  unfold k0_pay4; pointwise

/-- A buffer that stores the rounding of one loaded block holds the block's entries. -/
theorem copied {κ κ' : Kind} {sp sp' : Space} {A B : ℕ} (v : View sig κ sp ⟨2, ![A, B]⟩ .bf16) (f) (inb)
    (M : Memref sig κ' sp' ⟨3, ![1, A, B]⟩ .f32) (hM : M.IsWhole) (x : Vec Ideal ⟨3, ![1, A, B]⟩ .f32) (inb')
    (P : Vec Ideal ⟨3, ![1, A, B]⟩ .f32 → FVec Ideal ⟨2, ![A, B]⟩ .bf16) (hP : ∀ x r k, P x (ix2 r k) = x (ix3 0 r k)) (r : Fin A) (k : Fin B) :
    v.read (Elt Ideal) (v.writes (Elt Ideal) f [⟨Rect.unit (s := ⟨2, ![A, B]⟩) ![0, 0] ![A, B] inb,
      P (View.readAt (Elt Ideal) M.view (Rect.unit (s := ⟨3, ![1, A, B]⟩) ![0, 0, 0] ![1, A, B] inb').toLoadRect (hM.unread x))⟩]) (ix2 r k) = x (ix3 0 r k) :=
  (whole2 v f inb _ [] r k).trans ((hP _ r k).trans (load3 M hM x 0 0 0 inb' (0 : Fin 1) r k 0 r k (by rfl) (by simp) (by simp)))

variable (m : (ℓ : Loc nD τ sig) → Buf (Elt Ideal) ℓ) (c : Dev nD)

/-! ## What a point leaves in the three buffers -/

theorem copy_15 (t : Fin cfg0.N) (r : Fin 32) (k : Fin 2816) : (Hand.outsAt0 m c t.val t.isLt).2.1 (ix2 r k) = iblk m c 11 t (ix3 0 r k) := by
  have hN := points t
  by_cases h0 : t.val = 0
  · rw [Hand.outsAt0_A m c t (by omega) (by omega) (by omega) (by omega)]; dsimp only
    exact copied (A := 32) (B := 2816) VO0_15 _ _ (ms0_11 t) (hs0_11 t) _ _ k0_pay2 round_gate r k
  by_cases h1 : t.val = 32
  · rw [Hand.outsAt0_C m c t (by omega) (by omega) (by omega) (by omega)]; dsimp only
    exact copied (A := 32) (B := 2816) VO0_15 _ _ (ms0_11 t) (hs0_11 t) _ _ k0_pay2 round_gate r k
  · rw [Hand.outsAt0_B m c t (by omega) (by omega) (by omega) (by omega)]; dsimp only
    exact copied (A := 32) (B := 2816) VO0_15 _ _ (ms0_11 t) (hs0_11 t) _ _ k0_pay2 round_gate r k

theorem copy_16 (t : Fin cfg0.N) (r : Fin 32) (k : Fin 2816) : (Hand.outsAt0 m c t.val t.isLt).2.2.1 (ix2 r k) = iblk m c 12 t (ix3 0 r k) := by
  have hN := points t
  by_cases h0 : t.val = 0
  · rw [Hand.outsAt0_A m c t (by omega) (by omega) (by omega) (by omega)]; dsimp only
    exact copied (A := 32) (B := 2816) VO0_16 _ _ (ms0_12 t) (hs0_12 t) _ _ k0_pay3 round_up r k
  by_cases h1 : t.val = 32
  · rw [Hand.outsAt0_C m c t (by omega) (by omega) (by omega) (by omega)]; dsimp only
    exact copied (A := 32) (B := 2816) VO0_16 _ _ (ms0_12 t) (hs0_12 t) _ _ k0_pay3 round_up r k
  · rw [Hand.outsAt0_B m c t (by omega) (by omega) (by omega) (by omega)]; dsimp only
    exact copied (A := 32) (B := 2816) VO0_16 _ _ (ms0_12 t) (hs0_12 t) _ _ k0_pay3 round_up r k

theorem copy_17 (t : Fin cfg0.N) (r : Fin 128) (k : Fin 1024) : (Hand.outsAt0 m c t.val t.isLt).2.2.2.1 (ix2 r k) = iblk m c 13 t (ix3 0 r k) := by
  have hN := points t
  by_cases h0 : t.val = 0
  · rw [Hand.outsAt0_A m c t (by omega) (by omega) (by omega) (by omega)]; dsimp only
    exact copied (A := 128) (B := 1024) VO0_17 _ _ (ms0_13 t) (hs0_13 t) _ _ k0_pay4 round_down r k
  by_cases h1 : t.val = 32
  · rw [Hand.outsAt0_C m c t (by omega) (by omega) (by omega) (by omega)]; dsimp only
    exact copied (A := 128) (B := 1024) VO0_17 _ _ (ms0_13 t) (hs0_13 t) _ _ k0_pay4 round_down r k
  · rw [Hand.outsAt0_B m c t (by omega) (by omega) (by omega) (by omega)]; dsimp only
    exact copied (A := 128) (B := 1024) VO0_17 _ _ (ms0_13 t) (hs0_13 t) _ _ k0_pay4 round_down r k

/-! ## Where the blocks lie -/

theorem at_11 : ∀ t : Fin cfg0.N, win0_11.index t (0 : Fin 3) = 1 ∧ win0_11.index t (1 : Fin 3) = min t.val 31 ∧ win0_11.index t (2 : Fin 3) = 0 :=
  (by decide +kernel : ∀ t : Fin grid0.N, _)
theorem at_12 : ∀ t : Fin cfg0.N, win0_12.index t (0 : Fin 3) = 1 ∧ win0_12.index t (1 : Fin 3) = min t.val 31 ∧ win0_12.index t (2 : Fin 3) = 0 :=
  (by decide +kernel : ∀ t : Fin grid0.N, _)
theorem at_13 : ∀ t : Fin cfg0.N, win0_13.index t (0 : Fin 3) = 1 ∧ win0_13.index t (1 : Fin 3) = min t.val 21 ∧ win0_13.index t (2 : Fin 3) = 0 :=
  (by decide +kernel : ∀ t : Fin grid0.N, _)
theorem at_15 : ∀ t : Fin cfg0.N, win0_15.index t (0 : Fin 2) = min t.val 31 ∧ win0_15.index t (1 : Fin 2) = 0 :=
  (by decide +kernel : ∀ t : Fin grid0.N, _)
theorem at_16 : ∀ t : Fin cfg0.N, win0_16.index t (0 : Fin 2) = min t.val 31 ∧ win0_16.index t (1 : Fin 2) = 0 :=
  (by decide +kernel : ∀ t : Fin grid0.N, _)
theorem at_17 : ∀ t : Fin cfg0.N, win0_17.index t (0 : Fin 2) = min t.val 21 ∧ win0_17.index t (1 : Fin 2) = 0 :=
  (by decide +kernel : ∀ t : Fin grid0.N, _)

theorem blk_11 (t : Fin cfg0.N) (r : Fin 32) (k : Fin 2816) :
    iblk m c 11 t (ix3 0 r k) = m ((c : Thread nD τ).loc main_arg10) (ix3 1 ⟨32 * min t.val 31 + r.val, by omega⟩ k) := by
  obtain ⟨e0, e1, e2⟩ := at_11 t
  refine congrArg (m ((c : Thread nD τ).loc main_arg10)) (funext fun a => Fin.ext ?_)
  match a with
  | ⟨0, _⟩ => show win0_11.index t (0 : Fin 3) * 1 + 1 * 0 = 1; omega
  | ⟨1, _⟩ => show win0_11.index t (1 : Fin 3) * 32 + 1 * r.val = 32 * min t.val 31 + r.val; omega
  | ⟨2, _⟩ => show win0_11.index t (2 : Fin 3) * 2816 + 1 * k.val = k.val; omega
theorem blk_12 (t : Fin cfg0.N) (r : Fin 32) (k : Fin 2816) :
    iblk m c 12 t (ix3 0 r k) = m ((c : Thread nD τ).loc main_arg11) (ix3 1 ⟨32 * min t.val 31 + r.val, by omega⟩ k) := by
  obtain ⟨e0, e1, e2⟩ := at_12 t
  refine congrArg (m ((c : Thread nD τ).loc main_arg11)) (funext fun a => Fin.ext ?_)
  match a with
  | ⟨0, _⟩ => show win0_12.index t (0 : Fin 3) * 1 + 1 * 0 = 1; omega
  | ⟨1, _⟩ => show win0_12.index t (1 : Fin 3) * 32 + 1 * r.val = 32 * min t.val 31 + r.val; omega
  | ⟨2, _⟩ => show win0_12.index t (2 : Fin 3) * 2816 + 1 * k.val = k.val; omega
theorem blk_13 (t : Fin cfg0.N) (r : Fin 128) (k : Fin 1024) :
    iblk m c 13 t (ix3 0 r k) = m ((c : Thread nD τ).loc main_arg12) (ix3 1 ⟨128 * min t.val 21 + r.val, by omega⟩ k) := by
  obtain ⟨e0, e1, e2⟩ := at_13 t
  refine congrArg (m ((c : Thread nD τ).loc main_arg12)) (funext fun a => Fin.ext ?_)
  match a with
  | ⟨0, _⟩ => show win0_13.index t (0 : Fin 3) * 1 + 1 * 0 = 1; omega
  | ⟨1, _⟩ => show win0_13.index t (1 : Fin 3) * 128 + 1 * r.val = 128 * min t.val 21 + r.val; omega
  | ⟨2, _⟩ => show win0_13.index t (2 : Fin 3) * 1024 + 1 * k.val = k.val; omega

theorem emb_15 (t : Fin cfg0.N) (r : Fin 32) (k : Fin 2816) :
    ((cfg0.win 15).blk t).view.emb (ix2 r k) = ix2 (⟨32 * min t.val 31 + r.val, by omega⟩ : Fin 1024) k := by
  obtain ⟨e0, e1⟩ := at_15 t
  funext a; apply Fin.ext
  match a with
  | ⟨0, _⟩ => show win0_15.index t (0 : Fin 2) * 32 + 1 * r.val = 32 * min t.val 31 + r.val; omega
  | ⟨1, _⟩ => show win0_15.index t (1 : Fin 2) * 2816 + 1 * k.val = k.val; omega
theorem emb_16 (t : Fin cfg0.N) (r : Fin 32) (k : Fin 2816) :
    ((cfg0.win 16).blk t).view.emb (ix2 r k) = ix2 (⟨32 * min t.val 31 + r.val, by omega⟩ : Fin 1024) k := by
  obtain ⟨e0, e1⟩ := at_16 t
  funext a; apply Fin.ext
  match a with
  | ⟨0, _⟩ => show win0_16.index t (0 : Fin 2) * 32 + 1 * r.val = 32 * min t.val 31 + r.val; omega
  | ⟨1, _⟩ => show win0_16.index t (1 : Fin 2) * 2816 + 1 * k.val = k.val; omega
theorem emb_17 (t : Fin cfg0.N) (r : Fin 128) (k : Fin 1024) :
    ((cfg0.win 17).blk t).view.emb (ix2 r k) = ix2 (⟨128 * min t.val 21 + r.val, by omega⟩ : Fin 2816) k := by
  obtain ⟨e0, e1⟩ := at_17 t
  funext a; apply Fin.ext
  match a with
  | ⟨0, _⟩ => show win0_17.index t (0 : Fin 2) * 128 + 1 * r.val = 128 * min t.val 21 + r.val; omega
  | ⟨1, _⟩ => show win0_17.index t (1 : Fin 2) * 1024 + 1 * k.val = k.val; omega

/-! ## The points that store, and the rows they cover -/

theorem flush_15 : ∀ t : Fin cfg0.N, (cfg0.win 15).flush t = true ↔ t.val ≤ 30 ∨ t.val = 32 :=
  (by decide +kernel : ∀ t : Fin grid0.N, (cfg0.win 15).flush t = true ↔ t.val ≤ 30 ∨ t.val = 32)
theorem flush_16 : ∀ t : Fin cfg0.N, (cfg0.win 16).flush t = true ↔ t.val ≤ 30 ∨ t.val = 32 :=
  (by decide +kernel : ∀ t : Fin grid0.N, (cfg0.win 16).flush t = true ↔ t.val ≤ 30 ∨ t.val = 32)
theorem flush_17 : ∀ t : Fin cfg0.N, (cfg0.win 17).flush t = true ↔ t.val ≤ 20 ∨ t.val = 32 :=
  (by decide +kernel : ∀ t : Fin grid0.N, (cfg0.win 17).flush t = true ↔ t.val ≤ 20 ∨ t.val = 32)

/-- The point that stores block `b` of `n + 1`: the last block is stored at the last point. -/
theorem storing (n b : ℕ) (hn : n ≤ 31) (hb : b ≤ n) : ∃ t : Fin cfg0.N, (t.val < n ∨ t.val = 32) ∧ min t.val n = b := by
  by_cases h : b < n
  · exact ⟨⟨b, by show b < 33; omega⟩, Or.inl h, by show min b n = b; omega⟩
  · exact ⟨⟨32, by show 32 < 33; omega⟩, Or.inr rfl, by show min 32 n = b; omega⟩

theorem covered_15 (i : S1024x2816.Idx) : ∃ t : Fin cfg0.N, (cfg0.win 15).flush t = true ∧ i ∈ ((cfg0.win 15).blk t).view.set := by
  idx_vars i
  obtain ⟨t, h, e⟩ := storing 31 (i0.val / 32) (by omega) (by omega)
  refine ⟨t, (flush_15 t).mpr (by omega), ?_⟩
  have hm := ((cfg0.win 15).blk t).view.emb_mem_set (ix2 (⟨i0.val % 32, by omega⟩ : Fin 32) i1)
  rw [emb_15] at hm
  have e' : (⟨32 * min t.val 31 + i0.val % 32, by omega⟩ : Fin 1024) = i0 := Fin.ext (by simp only; omega)
  rwa [e'] at hm
theorem covered_16 (i : S1024x2816.Idx) : ∃ t : Fin cfg0.N, (cfg0.win 16).flush t = true ∧ i ∈ ((cfg0.win 16).blk t).view.set := by
  idx_vars i
  obtain ⟨t, h, e⟩ := storing 31 (i0.val / 32) (by omega) (by omega)
  refine ⟨t, (flush_16 t).mpr (by omega), ?_⟩
  have hm := ((cfg0.win 16).blk t).view.emb_mem_set (ix2 (⟨i0.val % 32, by omega⟩ : Fin 32) i1)
  rw [emb_16] at hm
  have e' : (⟨32 * min t.val 31 + i0.val % 32, by omega⟩ : Fin 1024) = i0 := Fin.ext (by simp only; omega)
  rwa [e'] at hm
theorem covered_17 (i : S2816x1024.Idx) : ∃ t : Fin cfg0.N, (cfg0.win 17).flush t = true ∧ i ∈ ((cfg0.win 17).blk t).view.set := by
  idx_vars i
  obtain ⟨t, h, e⟩ := storing 21 (i0.val / 128) (by omega) (by omega)
  refine ⟨t, (flush_17 t).mpr (by omega), ?_⟩
  have hm := ((cfg0.win 17).blk t).view.emb_mem_set (ix2 (⟨i0.val % 128, by omega⟩ : Fin 128) i1)
  rw [emb_17] at hm
  have e' : (⟨128 * min t.val 21 + i0.val % 128, by omega⟩ : Fin 2816) = i0 := Fin.ext (by simp only; omega)
  rwa [e'] at hm

/-! ## The copies after the run -/

theorem stored_15 (t : Fin cfg0.N) : (Hand.dats m 0 c).flushed 15 t
    = ((cfg0.win 15).blk t).view.read (Elt Ideal) (layer1 (A := 1024) (B := 2816) (m ((c : Thread nD τ).loc main_arg10))) := by
  show (cfg0.win 15).cut (grid0.coords t) ((Hand.dats m 0 c).after 15 t) = _
  rw [Hand.after0_15]
  refine funext fun (j : S32x2816.Idx) => ?_
  idx_vars j
  refine Eq.trans ?_ (congrArg (layer1 (A := 1024) (B := 2816) (m ((c : Thread nD τ).loc main_arg10))) (emb_15 t j0 j1).symm)
  exact (copy_15 m c t j0 j1).trans (blk_11 m c t j0 j1)
theorem stored_16 (t : Fin cfg0.N) : (Hand.dats m 0 c).flushed 16 t
    = ((cfg0.win 16).blk t).view.read (Elt Ideal) (layer1 (A := 1024) (B := 2816) (m ((c : Thread nD τ).loc main_arg11))) := by
  show (cfg0.win 16).cut (grid0.coords t) ((Hand.dats m 0 c).after 16 t) = _
  rw [Hand.after0_16]
  refine funext fun (j : S32x2816.Idx) => ?_
  idx_vars j
  refine Eq.trans ?_ (congrArg (layer1 (A := 1024) (B := 2816) (m ((c : Thread nD τ).loc main_arg11))) (emb_16 t j0 j1).symm)
  exact (copy_16 m c t j0 j1).trans (blk_12 m c t j0 j1)
theorem stored_17 (t : Fin cfg0.N) : (Hand.dats m 0 c).flushed 17 t
    = ((cfg0.win 17).blk t).view.read (Elt Ideal) (layer1 (A := 2816) (B := 1024) (m ((c : Thread nD τ).loc main_arg12))) := by
  show (cfg0.win 17).cut (grid0.coords t) ((Hand.dats m 0 c).after 17 t) = _
  rw [Hand.after0_17]
  refine funext fun (j : S128x1024.Idx) => ?_
  idx_vars j
  refine Eq.trans ?_ (congrArg (layer1 (A := 2816) (B := 1024) (m ((c : Thread nD τ).loc main_arg12))) (emb_17 t j0 j1).symm)
  exact (copy_17 m c t j0 j1).trans (blk_13 m c t j0 j1)

theorem final_gate : (Hand.dats m 0 c).arrAt 15 cfg0.N = layer1 (A := 1024) (B := 2816) (m ((c : Thread nD τ).loc main_arg10)) :=
  (Hand.dats m 0 c).arrAt_eq_of_cover 15 _ (fun t _ => stored_15 m c t) covered_15
theorem final_up : (Hand.dats m 0 c).arrAt 16 cfg0.N = layer1 (A := 1024) (B := 2816) (m ((c : Thread nD τ).loc main_arg11)) :=
  (Hand.dats m 0 c).arrAt_eq_of_cover 16 _ (fun t _ => stored_16 m c t) covered_16
theorem final_down : (Hand.dats m 0 c).arrAt 17 cfg0.N = layer1 (A := 2816) (B := 1024) (m ((c : Thread nD τ).loc main_arg12)) :=
  (Hand.dats m 0 c).arrAt_eq_of_cover 17 _ (fun t _ => stored_17 m c t) covered_17

/-! ## The reference's rounded weights -/

theorem layer_wide (w : FVec Ideal S2x1024x2816 .f32) (h h' h'') :
    truncf .bf16 (shapeCast S1024x2816 (extractStridedSlice (⟨3, ![1, 1024, 2816]⟩ : Shape) ![1, 0, 0] w h) h') h'' = layer1 (A := 1024) (B := 2816) w := by
  refine funext fun (j : S1024x2816.Idx) => ?_
  idx_vars j
  show _ = w (ix3 1 j0 j1)
  pointwise
theorem layer_tall (w : FVec Ideal S2x2816x1024 .f32) (h h' h'') :
    truncf .bf16 (shapeCast S2816x1024 (extractStridedSlice (⟨3, ![1, 2816, 1024]⟩ : Shape) ![1, 0, 0] w h) h') h'' = layer1 (A := 2816) (B := 1024) w := by
  refine funext fun (j : S2816x1024.Idx) => ?_
  idx_vars j
  show _ = w (ix3 1 j0 j1)
  pointwise

end Cert.Odd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Even.Kernel.Frame
public import proofs.«01_k».proof.Proof.Even.KernelIdeal.Frame
public import proofs.«01_k».proof.Proof.Ffn.Final
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.RunA
public import proofs.«01_k».proof.Proof.Gen.Kernel3Ideal.Frame.RunB
public import proofs.«01_k».proof.Proof.Odd.Frame
public import proofs.«01_k».proof.Proof.Odd.Final
public import proofs.«01_k».proof.Proof.Odd.Weights
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

/-- Both programs' result arrays are the same function of arrays that agree. -/
theorem ffn_claim [Cert.Kernel2Ideal.Facts] [Cert.Reference2Ideal.Facts] : Cert.algebraic_Kernel2Ideal_Reference2Ideal := by
  intro m g m' g' _ hagree
  refine ⟨fun c => Cert.Ffn.ffn m c, ?_, ?_⟩
  · exact (θ_run _ _ _).mono (fun r h c => ⟨(h c).1.trans (Cert.Ffn.final m c), (h c).2⟩) (Cert.Kernel2Ideal.Value.run_blocks m g)
  · refine (θ_run _ _ _).mono (fun r h c => ⟨(h c).1.trans ?_, (h c).2⟩) (Cert.Reference2Ideal.Value.run m' g')
    obtain ⟨e0, e1, e2, e3, e4, e5⟩ := hagree c
    rw [Cert.Ffn.reference_eq, e0, e1, e2, e3, e4, e5]
    rfl

/-- The odd mixer's result array and its three copies of weights, and the reference's, are the same functions of arrays
that agree. -/
theorem odd_claim [Cert.Kernel3Ideal.Facts] [Cert.Reference3Ideal.Facts] : Cert.algebraic_Kernel3Ideal_Reference3Ideal := by
  intro m g m' g' _ hagree
  refine ⟨fun c => Cert.Odd.odd m c, fun c => Cert.Odd.layer1 (A := 1024) (B := 2816) (m ((c.tc : Thread _ _).loc Cert.Kernel3Ideal.main_arg10)),
    fun c => Cert.Odd.layer1 (A := 1024) (B := 2816) (m ((c.tc : Thread _ _).loc Cert.Kernel3Ideal.main_arg11)),
    fun c => Cert.Odd.layer1 (A := 2816) (B := 1024) (m ((c.tc : Thread _ _).loc Cert.Kernel3Ideal.main_arg12)), ?_, ?_⟩
  · exact (θ_run _ _ _).mono (fun r h c => ⟨((h.1 c).1 14).trans (Cert.Odd.final m c), ((h.1 c).1 15).trans (Cert.Odd.final_gate m c),
        ((h.1 c).1 16).trans (Cert.Odd.final_up m c), ((h.1 c).1 17).trans (Cert.Odd.final_down m c), h.2 c⟩)
      (θ_run_and (Cert.Kernel3Ideal.Hand.run_main m g) (Cert.Kernel3Ideal.Hand.unchanged m g))
  · refine (θ_run _ _ _).mono (fun r h c => ?_) (Cert.Reference3Ideal.Value.run m' g')
    obtain ⟨e0, e1, e2, e3, e4, e5, e6, e7, e8, e9, e10, e11, e12⟩ := hagree c
    obtain ⟨h0, h1, h2, h3, h⟩ := h c
    refine ⟨h0.trans (Eq.trans ?_ (Cert.Odd.reference_eq m c)), h1.trans ((Cert.Odd.layer_wide _ _ _ _).trans (congrArg _ e10)),
      h2.trans ((Cert.Odd.layer_wide _ _ _ _).trans (congrArg _ e11)), h3.trans ((Cert.Odd.layer_tall _ _ _ _).trans (congrArg _ e12)), h⟩
    rw [← e0, ← e1, ← e2, ← e3, ← e4, ← e5, ← e6, ← e7, ← e8, ← e9]
    rfl

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Hand.frame m ρ, fun m ρ _ => Cert.KernelIdeal.Hand.frame m ρ, fun m ρ _ => Cert.Kernel2.Gen.frame m ρ, fun m ρ _ => Cert.Kernel2Ideal.Gen.frame m ρ,
    fun m ρ _ => (θ_run _ _ _).mono (fun r h => ⟨fun c => (h c).2, sem_eq_zero_of_no_sems rfl r.2⟩) (Cert.Reference2Ideal.Value.run m ρ),
    fun m ρ _ => Cert.Kernel3.Gen.frame m ρ, fun m ρ _ => Cert.Kernel3Ideal.Hand.frame m ρ,
    fun m ρ _ => (θ_run _ _ _).mono (fun r h => ⟨fun c => (h c).2.2.2.2, sem_eq_zero_of_no_sems rfl r.2⟩) (Cert.Reference3Ideal.Value.run m ρ),
    IdealRules.shift_out.by16TwiceStatement _, trivial, ffn_claim, IdealRules.shift_out.by16TwiceStatement _, odd_claim⟩

end Cert.Proof

end
